-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_Ffn0RefIdeal (m : (ℓ : Loc Cert.Ffn0RefIdeal.nD Cert.Ffn0RefIdeal.τ Cert.Ffn0RefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5))
      ∧ r.2.sem = fun _ => 0)

def quiescent_Ffn0RefIdeal [hFfn0RefIdeal : Cert.Ffn0RefIdeal.Facts] : Prop :=
  ∀ (m : (ℓ : Loc Cert.Ffn0RefIdeal.nD Cert.Ffn0RefIdeal.τ Cert.Ffn0RefIdeal.sig) → Buf (Elt Ideal) ℓ) (g : Dev Cert.Ffn0RefIdeal.nD → PrngReg), Pre_Ffn0RefIdeal m →
    θ_run (Cert.Ffn0RefIdeal.defs (F := Ideal)) (onTc (τ := Cert.Ffn0RefIdeal.τ) (Cert.Ffn0RefIdeal.main (F := Ideal))) ⟨m, fun _ => 0, g⟩ (fun r => (∀ c : Dev Cert.Ffn0RefIdeal.nD,
      r.2.mem ((c.tc : Thread Cert.Ffn0RefIdeal.nD Cert.Ffn0RefIdeal.τ).loc Cert.Ffn0RefIdeal.main_arg0) = m ((c.tc : Thread Cert.Ffn0RefIdeal.nD Cert.Ffn0RefIdeal.τ).loc Cert.Ffn0RefIdeal.main_arg0)
      ∧ r.2.mem ((c.tc : Thread Cert.Ffn0RefIdeal.nD Cert.Ffn0RefIdeal.τ).loc Cert.Ffn0RefIdeal.main_arg1) = m ((c.tc : Thread Cert.Ffn0RefIdeal.nD Cert.Ffn0RefIdeal.τ).loc Cert.Ffn0RefIdeal.main_arg1)
      ∧ r.2.mem ((c.tc : Thread Cert.Ffn0RefIdeal.nD Cert.Ffn0RefIdeal.τ).loc Cert.Ffn0RefIdeal.main_arg2) = m ((c.tc : Thread Cert.Ffn0RefIdeal.nD Cert.Ffn0RefIdeal.τ).loc Cert.Ffn0RefIdeal.main_arg2)
      ∧ r.2.mem ((c.tc : Thread Cert.Ffn0RefIdeal.nD Cert.Ffn0RefIdeal.τ).loc Cert.Ffn0RefIdeal.main_arg3) = m ((c.tc : Thread Cert.Ffn0RefIdeal.nD Cert.Ffn0RefIdeal.τ).loc Cert.Ffn0RefIdeal.main_arg3)
      ∧ r.2.mem ((c.tc : Thread Cert.Ffn0RefIdeal.nD Cert.Ffn0RefIdeal.τ).loc Cert.Ffn0RefIdeal.main_arg4) = m ((c.tc : Thread Cert.Ffn0RefIdeal.nD Cert.Ffn0RefIdeal.τ).loc Cert.Ffn0RefIdeal.main_arg4)
      ∧ r.2.mem ((c.tc : Thread Cert.Ffn0RefIdeal.nD Cert.Ffn0RefIdeal.τ).loc Cert.Ffn0RefIdeal.main_arg5) = m ((c.tc : Thread Cert.Ffn0RefIdeal.nD Cert.Ffn0RefIdeal.τ).loc Cert.Ffn0RefIdeal.main_arg5))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1)
      ∧ r.2.mem ((c.tc : Thread Cert.SsmIn.nD Cert.SsmIn.τ).loc Cert.SsmIn.main_arg2) = m ((c.tc : Thread Cert.SsmIn.nD Cert.SsmIn.τ).loc Cert.SsmIn.main_arg2)
      ∧ r.2.mem ((c.tc : Thread Cert.SsmIn.nD Cert.SsmIn.τ).loc Cert.SsmIn.main_arg3) = m ((c.tc : Thread Cert.SsmIn.nD Cert.SsmIn.τ).loc Cert.SsmIn.main_arg3))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
      ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2)
      ∧ r.2.mem ((c.tc : Thread Cert.SsmInIdeal.nD Cert.SsmInIdeal.τ).loc Cert.SsmInIdeal.main_arg3) = m ((c.tc : Thread Cert.SsmInIdeal.nD Cert.SsmInIdeal.τ).loc Cert.SsmInIdeal.main_arg3))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1)
      ∧ r.2.mem ((c.tc : Thread Cert.SsmInRefIdeal.nD Cert.SsmInRefIdeal.τ).loc Cert.SsmInRefIdeal.main_arg2) = m ((c.tc : Thread Cert.SsmInRefIdeal.nD Cert.SsmInRefIdeal.τ).loc Cert.SsmInRefIdeal.main_arg2)
      ∧ r.2.mem ((c.tc : Thread Cert.SsmInRefIdeal.nD Cert.SsmInRefIdeal.τ).loc Cert.SsmInRefIdeal.main_arg3) = m ((c.tc : Thread Cert.SsmInRefIdeal.nD Cert.SsmInRefIdeal.τ).loc Cert.SsmInRefIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2)
      ∧ r.2.mem ((c.tc : Thread Cert.SsmOut.nD Cert.SsmOut.τ).loc Cert.SsmOut.main_arg3) = m ((c.tc : Thread Cert.SsmOut.nD Cert.SsmOut.τ).loc Cert.SsmOut.main_arg3))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2)
      ∧ r.2.mem ((c.tc : Thread Cert.SsmOutRefIdeal.nD Cert.SsmOutRefIdeal.τ).loc Cert.SsmOutRefIdeal.main_arg3) = m ((c.tc : Thread Cert.SsmOutRefIdeal.nD Cert.SsmOutRefIdeal.τ).loc Cert.SsmOutRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v14)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Ffn0_Ffn0Ideal : Prop :=
  True

def algebraic_Ffn0Ideal_Ffn0RefIdeal [hFfn0Ideal : Cert.Ffn0Ideal.Facts] [hFfn0RefIdeal : Cert.Ffn0RefIdeal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.Ffn0RefIdeal.nD Cert.Ffn0RefIdeal.τ Cert.Ffn0RefIdeal.sig) → Buf (Elt Ideal) ℓ) (g' : Dev Cert.Ffn0RefIdeal.nD → PrngReg), Pre_Ffn0Ideal m →
    (∀ c : Dev Cert.Ffn0Ideal.nD,
      m' ((c.tc : Thread Cert.Ffn0RefIdeal.nD Cert.Ffn0RefIdeal.τ).loc Cert.Ffn0RefIdeal.main_arg0) = m ((c.tc : Thread Cert.Ffn0Ideal.nD Cert.Ffn0Ideal.τ).loc Cert.Ffn0Ideal.main_arg0)
      ∧ m' ((c.tc : Thread Cert.Ffn0RefIdeal.nD Cert.Ffn0RefIdeal.τ).loc Cert.Ffn0RefIdeal.main_arg1) = m ((c.tc : Thread Cert.Ffn0Ideal.nD Cert.Ffn0Ideal.τ).loc Cert.Ffn0Ideal.main_arg1)
      ∧ m' ((c.tc : Thread Cert.Ffn0RefIdeal.nD Cert.Ffn0RefIdeal.τ).loc Cert.Ffn0RefIdeal.main_arg2) = m ((c.tc : Thread Cert.Ffn0Ideal.nD Cert.Ffn0Ideal.τ).loc Cert.Ffn0Ideal.main_arg2)
      ∧ m' ((c.tc : Thread Cert.Ffn0RefIdeal.nD Cert.Ffn0RefIdeal.τ).loc Cert.Ffn0RefIdeal.main_arg3) = m ((c.tc : Thread Cert.Ffn0Ideal.nD Cert.Ffn0Ideal.τ).loc Cert.Ffn0Ideal.main_arg3)
      ∧ m' ((c.tc : Thread Cert.Ffn0RefIdeal.nD Cert.Ffn0RefIdeal.τ).loc Cert.Ffn0RefIdeal.main_arg4) = m ((c.tc : Thread Cert.Ffn0Ideal.nD Cert.Ffn0Ideal.τ).loc Cert.Ffn0Ideal.main_arg4)
      ∧ m' ((c.tc : Thread Cert.Ffn0RefIdeal.nD Cert.Ffn0RefIdeal.τ).loc Cert.Ffn0RefIdeal.main_arg5) = m ((c.tc : Thread Cert.Ffn0Ideal.nD Cert.Ffn0Ideal.τ).loc Cert.Ffn0Ideal.main_arg5)) →
    ∃ (v0 : (c : Dev Cert.Ffn0Ideal.nD) → Buf (Elt Ideal) ((c.tc : Thread Cert.Ffn0Ideal.nD Cert.Ffn0Ideal.τ).loc Cert.Ffn0Ideal.main_v14)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v14) = v0 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5))
      ∧ θ_run (Cert.Ffn0RefIdeal.defs (F := Ideal)) (onTc (τ := Cert.Ffn0RefIdeal.τ) (Cert.Ffn0RefIdeal.main (F := Ideal))) ⟨m', fun _ => 0, g'⟩ (fun r => ∀ c : Dev Cert.Ffn0RefIdeal.nD,
          r.2.mem ((c.tc : Thread Cert.Ffn0RefIdeal.nD Cert.Ffn0RefIdeal.τ).loc Cert.Ffn0RefIdeal.main_v43) = v0 c
          ∧ r.2.mem ((c.tc : Thread Cert.Ffn0RefIdeal.nD Cert.Ffn0RefIdeal.τ).loc Cert.Ffn0RefIdeal.main_arg0) = m' ((c.tc : Thread Cert.Ffn0RefIdeal.nD Cert.Ffn0RefIdeal.τ).loc Cert.Ffn0RefIdeal.main_arg0)
          ∧ r.2.mem ((c.tc : Thread Cert.Ffn0RefIdeal.nD Cert.Ffn0RefIdeal.τ).loc Cert.Ffn0RefIdeal.main_arg1) = m' ((c.tc : Thread Cert.Ffn0RefIdeal.nD Cert.Ffn0RefIdeal.τ).loc Cert.Ffn0RefIdeal.main_arg1)
          ∧ r.2.mem ((c.tc : Thread Cert.Ffn0RefIdeal.nD Cert.Ffn0RefIdeal.τ).loc Cert.Ffn0RefIdeal.main_arg2) = m' ((c.tc : Thread Cert.Ffn0RefIdeal.nD Cert.Ffn0RefIdeal.τ).loc Cert.Ffn0RefIdeal.main_arg2)
          ∧ r.2.mem ((c.tc : Thread Cert.Ffn0RefIdeal.nD Cert.Ffn0RefIdeal.τ).loc Cert.Ffn0RefIdeal.main_arg3) = m' ((c.tc : Thread Cert.Ffn0RefIdeal.nD Cert.Ffn0RefIdeal.τ).loc Cert.Ffn0RefIdeal.main_arg3)
          ∧ r.2.mem ((c.tc : Thread Cert.Ffn0RefIdeal.nD Cert.Ffn0RefIdeal.τ).loc Cert.Ffn0RefIdeal.main_arg4) = m' ((c.tc : Thread Cert.Ffn0RefIdeal.nD Cert.Ffn0RefIdeal.τ).loc Cert.Ffn0RefIdeal.main_arg4)
          ∧ r.2.mem ((c.tc : Thread Cert.Ffn0RefIdeal.nD Cert.Ffn0RefIdeal.τ).loc Cert.Ffn0RefIdeal.main_arg5) = m' ((c.tc : Thread Cert.Ffn0RefIdeal.nD Cert.Ffn0RefIdeal.τ).loc Cert.Ffn0RefIdeal.main_arg5))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)
      ∧ m' ((c.tc : Thread Cert.SsmInRefIdeal.nD Cert.SsmInRefIdeal.τ).loc Cert.SsmInRefIdeal.main_arg2) = m ((c.tc : Thread Cert.SsmInIdeal.nD Cert.SsmInIdeal.τ).loc Cert.SsmInIdeal.main_arg2)
      ∧ m' ((c.tc : Thread Cert.SsmInRefIdeal.nD Cert.SsmInRefIdeal.τ).loc Cert.SsmInRefIdeal.main_arg3) = m ((c.tc : Thread Cert.SsmInIdeal.nD Cert.SsmInIdeal.τ).loc Cert.SsmInIdeal.main_arg3)) →
    ∃ (v0 : (c : Dev Cert.SsmInIdeal.nD) → Buf (Elt Ideal) ((c.tc : Thread Cert.SsmInIdeal.nD Cert.SsmInIdeal.τ).loc Cert.SsmInIdeal.main_v13_0)) (v1 : (c : Dev Cert.SsmInIdeal.nD) → Buf (Elt Ideal) ((c.tc : Thread Cert.SsmInIdeal.nD Cert.SsmInIdeal.τ).loc Cert.SsmInIdeal.main_v13_1)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v13_0) = v0 c
          ∧ r.2.mem ((c.tc : Thread Cert.SsmInIdeal.nD Cert.SsmInIdeal.τ).loc Cert.SsmInIdeal.main_v13_1) = v1 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
          ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2)
          ∧ r.2.mem ((c.tc : Thread Cert.SsmInIdeal.nD Cert.SsmInIdeal.τ).loc Cert.SsmInIdeal.main_arg3) = m ((c.tc : Thread Cert.SsmInIdeal.nD Cert.SsmInIdeal.τ).loc Cert.SsmInIdeal.main_arg3))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v36) = v0 c
          ∧ r.2.mem ((c.tc : Thread Cert.SsmInRefIdeal.nD Cert.SsmInRefIdeal.τ).loc Cert.SsmInRefIdeal.main_v38) = v1 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1)
          ∧ r.2.mem ((c.tc : Thread Cert.SsmInRefIdeal.nD Cert.SsmInRefIdeal.τ).loc Cert.SsmInRefIdeal.main_arg2) = m' ((c.tc : Thread Cert.SsmInRefIdeal.nD Cert.SsmInRefIdeal.τ).loc Cert.SsmInRefIdeal.main_arg2)
          ∧ r.2.mem ((c.tc : Thread Cert.SsmInRefIdeal.nD Cert.SsmInRefIdeal.τ).loc Cert.SsmInRefIdeal.main_arg3) = m' ((c.tc : Thread Cert.SsmInRefIdeal.nD Cert.SsmInRefIdeal.τ).loc Cert.SsmInRefIdeal.main_arg3))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)) →
    ∃ (v0 : (c : Dev Cert.EvenInIdeal.nD) → Buf (Elt Ideal) ((c.tc : Thread Cert.EvenInIdeal.nD Cert.EvenInIdeal.τ).loc Cert.EvenInIdeal.main_v9_0)) (v1 : (c : Dev Cert.EvenInIdeal.nD) → Buf (Elt Ideal) ((c.tc : Thread Cert.EvenInIdeal.nD Cert.EvenInIdeal.τ).loc Cert.EvenInIdeal.main_v9_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v9_0) = v0 c
          ∧ r.2.mem ((c.tc : Thread Cert.EvenInIdeal.nD Cert.EvenInIdeal.τ).loc Cert.EvenInIdeal.main_v9_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v35) = v0 c
          ∧ r.2.mem ((c.tc : Thread Cert.EvenInRefIdeal.nD Cert.EvenInRefIdeal.τ).loc Cert.EvenInRefIdeal.main_v36) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)
      ∧ m' ((c.tc : Thread Cert.SsmOutRefIdeal.nD Cert.SsmOutRefIdeal.τ).loc Cert.SsmOutRefIdeal.main_arg3) = m ((c.tc : Thread Cert.SsmOutIdeal.nD Cert.SsmOutIdeal.τ).loc Cert.SsmOutIdeal.main_arg3)) →
    ∃ (v0 : (c : Dev Cert.SsmOutIdeal.nD) → Buf (Elt Ideal) ((c.tc : Thread Cert.SsmOutIdeal.nD Cert.SsmOutIdeal.τ).loc Cert.SsmOutIdeal.main_v6)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v6) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
          ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v16) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2)
          ∧ r.2.mem ((c.tc : Thread Cert.SsmOutRefIdeal.nD Cert.SsmOutRefIdeal.τ).loc Cert.SsmOutRefIdeal.main_arg3) = m' ((c.tc : Thread Cert.SsmOutRefIdeal.nD Cert.SsmOutRefIdeal.τ).loc Cert.SsmOutRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfn0 : Cert.Ffn0.Facts) (hFfn0Ideal : Cert.Ffn0Ideal.Facts) (hFfn0RefIdeal : Cert.Ffn0RefIdeal.Facts) (hSsmIn : Cert.SsmIn.Facts) (hSsmInIdeal : Cert.SsmInIdeal.Facts) (hSsmInRefIdeal : Cert.SsmInRefIdeal.Facts) (hEvenIn : Cert.EvenIn.Facts) (hEvenInIdeal : Cert.EvenInIdeal.Facts) (hEvenInRefIdeal : Cert.EvenInRefIdeal.Facts) (hSsmOut : Cert.SsmOut.Facts) (hSsmOutIdeal : Cert.SsmOutIdeal.Facts) (hSsmOutRefIdeal : Cert.SsmOutRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Ffn0 (hFfn0 := hFfn0)
    ∧ quiescent_Ffn0Ideal (hFfn0Ideal := hFfn0Ideal)
    ∧ quiescent_Ffn0RefIdeal (hFfn0RefIdeal := hFfn0RefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Ffn0_Ffn0Ideal
    ∧ algebraic_Ffn0Ideal_Ffn0RefIdeal (hFfn0Ideal := hFfn0Ideal) (hFfn0RefIdeal := hFfn0RefIdeal)
    ∧ preserves_SsmIn_SsmInIdeal
    ∧ algebraic_SsmInIdeal_SsmInRefIdeal (hSsmInIdeal := hSsmInIdeal) (hSsmInRefIdeal := hSsmInRefIdeal)
    ∧ preserves_EvenIn_EvenInIdeal
    ∧ algebraic_EvenInIdeal_EvenInRefIdeal (hEvenInIdeal := hEvenInIdeal) (hEvenInRefIdeal := hEvenInRefIdeal)
    ∧ preserves_SsmOut_SsmOutIdeal
    ∧ algebraic_SsmOutIdeal_SsmOutRefIdeal (hSsmOutIdeal := hSsmOutIdeal) (hSsmOutRefIdeal := hSsmOutRefIdeal)
-- ==== Pre_finite.lean ====
abbrev S16384x4608 : Shape := ⟨2, ![16384, 4608]⟩
abbrev S_ : Shape := ⟨0, ![]⟩

class Facts : Prop where
  bitsLt_bf16_f32 : FTy.bits .bf16 < FTy.bits .f32
  bcast_S_S16384x4608 : S_.BroadcastsInDim S16384x4608 (![] : Fin 0 → Fin S16384x4608.rank)

variable [Facts]

def fn {F : FTy → Type} [FloatOps F] (main_arg0 : FVec F S16384x4608 .bf16) : IVec S16384x4608 1 :=
  let main_v0 : FVec F S16384x4608 .f32 := (extf .f32 · bitsLt_bf16_f32) main_arg0
  let main_v1 : FVec F S16384x4608 .f32 := Host.absf main_v0
  let main_cst : FVec F S_ .f32 := constant S_ .f32 0x7F800000#32
  let main_v2 : FVec F S16384x4608 .f32 := broadcastInDim S16384x4608 ![] bcast_S_S16384x4608 main_cst
  let main_v3 : IVec S16384x4608 1 := cmpf .olt main_v1 main_v2
  main_v3
-- ==== Kernel.lean ====
abbrev S16384x4608 : Shape := ⟨2, ![16384, 4608]⟩
abbrev S2x8192x4608 : Shape := ⟨3, ![2, 8192, 4608]⟩
abbrev S2x8192x512 : Shape := ⟨3, ![2, 8192, 512]⟩
abbrev S1x128x512 : Shape := ⟨3, ![1, 128, 512]⟩
abbrev S128x512 : Shape := ⟨2, ![128, 512]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 4
  | .vmem => 12
  | .smem => 0
  | _ => 0

abbrev bufTy : (tb : Table) → Fin (tcTables nBuf tb) → BufTy
  | .hbm, ⟨0, _⟩ => ⟨S16384x4608, .bf16⟩
  | .hbm, ⟨1, _⟩ => ⟨S2x8192x4608, .bf16⟩
  | .hbm, ⟨2, _⟩ => ⟨S2x8192x512, .f32⟩
  | .hbm, ⟨3, _⟩ => ⟨S2x8192x512, .f32⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S128x512, .bf16⟩
  | .local _ .vmem, ⟨11, _⟩ => ⟨S128x512, .bf16⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c0_i32 : BitVec 32 := 0#32
  let v1 : BitVec 32 := Scalar.addi v0 c0_i32
  let c0_i32_0 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c3_i32 : BitVec 32 := 3#32
  let v1 : BitVec 32 := Scalar.addi v0 c3_i32
  let c0_i32 : BitVec 32 := 0#32
  let v2 : BitVec 32 := Scalar.addi v1 c0_i32
  let c0_i32_0 : BitVec 32 := 0#32
  ![arg0.toNat, arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c6_i32 : BitVec 32 := 6#32
  let v1 : BitVec 32 := Scalar.addi v0 c6_i32
  let c0_i32 : BitVec 32 := 0#32
  let v2 : BitVec 32 := Scalar.addi v1 c0_i32
  let c0_i32_0 : BitVec 32 := 0#32
  ![arg0.toNat, arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x4608 : Shape := ⟨2, ![16384, 4608]⟩
abbrev S16384x512 : Shape := ⟨2, ![16384, 512]⟩
abbrev S2x8192x8x64 : Shape := ⟨4, ![2, 8192, 8, 64]⟩
abbrev S2x8x8192x64 : Shape := ⟨4, ![2, 8, 8192, 64]⟩
abbrev S2x8x64x128x64 : Shape := ⟨5, ![2, 8, 64, 128, 64]⟩
abbrev S_ : Shape := ⟨0, ![]⟩
abbrev S2x8x128x64 : Shape := ⟨4, ![2, 8, 128, 64]⟩
abbrev S2x8x8320x64 : Shape := ⟨4, ![2, 8, 8320, 64]⟩
abbrev S2x8x65x128x64 : Shape := ⟨5, ![2, 8, 65, 128, 64]⟩
abbrev S2x8x64x256x64 : Shape := ⟨5, ![2, 8, 64, 256, 64]⟩
abbrev S2x8x64x128x256 : Shape := ⟨5, ![2, 8, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S2x8x64x128 : Shape := ⟨4, ![2, 8, 64, 128]⟩
abbrev S2x8x64x128x1 : Shape := ⟨5, ![2, 8, 64, 128, 1]⟩
abbrev S2x8192x512 : Shape := ⟨3, ![2, 8192, 512]⟩

abbrev nBuf : Space → Nat
  | .hbm => 94
  | .vmem => 0
  | .smem => 0
  | _ => 0

abbrev bufTy : (tb : Table) → Fin (tcTables nBuf tb) → BufTy
  | .hbm, ⟨0, _⟩ => ⟨S16384x4608, .bf16⟩
  | .hbm, ⟨1, _⟩ => ⟨S16384x512, .bf16⟩
  | .hbm, ⟨2, _⟩ => ⟨S16384x512, .f32⟩
  | .hbm, ⟨3, _⟩ => ⟨S2x8192x8x64, .f32⟩
  | .hbm, ⟨4, _⟩ => ⟨S2x8x8192x64, .f32⟩
  | .hbm, ⟨5, _⟩ => ⟨S16384x512, .bf16⟩
  | .hbm, ⟨6, _⟩ => ⟨S16384x512, .f32⟩
  | .hbm, ⟨7, _⟩ => ⟨S2x8192x8x64, .f32⟩
  | .hbm, ⟨8, _⟩ => ⟨S2x8x8192x64, .f32⟩
  | .hbm, ⟨9, _⟩ => ⟨S16384x512, .bf16⟩
  | .hbm, ⟨10, _⟩ => ⟨S16384x512, .f32⟩
  | .hbm, ⟨11, _⟩ => ⟨S2x8192x8x64, .f32⟩
  | .hbm, ⟨12, _⟩ => ⟨S2x8x8192x64, .f32⟩
  | .hbm, ⟨13, _⟩ => ⟨S2x8x64x128x64, .f32⟩
  | .hbm, ⟨14, _⟩ => ⟨S_, .f32⟩
  | .hbm, ⟨15, _⟩ => ⟨S2x8x128x64, .f32⟩
  | .hbm, ⟨16, _⟩ => ⟨S2x8x8320x64, .f32⟩
  | .hbm, ⟨17, _⟩ => ⟨S2x8x65x128x64, .f32⟩
  | .hbm, ⟨18, _⟩ => ⟨S2x8x64x128x64, .f32⟩
  | .hbm, ⟨19, _⟩ => ⟨S2x8x64x128x64, .f32⟩
  | .hbm, ⟨20, _⟩ => ⟨S2x8x64x256x64, .f32⟩
  | .hbm, ⟨21, _⟩ => ⟨S_, .f32⟩
  | .hbm, ⟨22, _⟩ => ⟨S2x8x128x64, .f32⟩
  | .hbm, ⟨23, _⟩ => ⟨S2x8x8320x64, .f32⟩
  | .hbm, ⟨24, _⟩ => ⟨S2x8x65x128x64, .f32⟩
  | .hbm, ⟨25, _⟩ => ⟨S2x8x64x128x64, .f32⟩
  | .hbm, ⟨26, _⟩ => ⟨S2x8x64x128x64, .f32⟩
  | .hbm, ⟨27, _⟩ => ⟨S2x8x64x256x64, .f32⟩
  | .hbm, ⟨28, _⟩ => ⟨S2x8x64x128x256, .f32⟩
  | .hbm, ⟨29, _⟩ => ⟨S_, .f32⟩
  | .hbm, ⟨30, _⟩ => ⟨S2x8x64x128x256, .f32⟩
  | .hbm, ⟨31, _⟩ => ⟨S2x8x64x128x256, .f32⟩
  | .hbm, ⟨32, _⟩ => ⟨S128, .i32⟩
  | .hbm, ⟨33, _⟩ => ⟨S128x1, .i32⟩
  | .hbm, ⟨34, _⟩ => ⟨S256, .i32⟩
  | .hbm, ⟨35, _⟩ => ⟨S1x256, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S64, .i32⟩
  | .hbm, ⟨43, _⟩ => ⟨S64x1x1, .i32⟩
  | .hbm, ⟨44, _⟩ => ⟨S_, .i32⟩
  | .hbm, ⟨45, _⟩ => ⟨S64x1x1, .i32⟩
  | .hbm, ⟨46, _⟩ => ⟨S64x1x1, .i32⟩
  | .hbm, ⟨47, _⟩ => ⟨S_, .i32⟩
  | .hbm, ⟨48, _⟩ => ⟨S64x1x1, .i32⟩
  | .hbm, ⟨49, _⟩ => ⟨S64x1x1, .i32⟩
  | .hbm, ⟨50, _⟩ => ⟨S1x1x256, .i32⟩
  | .hbm, ⟨51, _⟩ => ⟨S64x1x256, .i32⟩
  | .hbm, ⟨52, _⟩ => ⟨S64x1x256, .i32⟩
  | .hbm, ⟨53, _⟩ => ⟨S64x1x256, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S_, .i32⟩
  | .hbm, ⟨62, _⟩ => ⟨S64x1x256, .i32⟩
  | .hbm, ⟨63, _⟩ => ⟨S64x1x256, .i1⟩
  | .hbm, ⟨64, _⟩ => ⟨S1x128x256, .i1⟩
  | .hbm, ⟨65, _⟩ => ⟨S64x128x256, .i1⟩
  | .hbm, ⟨66, _⟩ => ⟨S64x128x256, .i1⟩
  | .hbm, ⟨67, _⟩ => ⟨S64x128x256, .i1⟩
  | .hbm, ⟨68, _⟩ => ⟨S_, .f32⟩
  | .hbm, ⟨69, _⟩ => ⟨S_, .f32⟩
  | .hbm, ⟨70, _⟩ => ⟨S2x8x64x128x256, .i1⟩
  | .hbm, ⟨71, _⟩ => ⟨S2x8x64x128x256, .f32⟩
  | .hbm, ⟨72, _⟩ => ⟨S2x8x64x128x256, .f32⟩
  | .hbm, ⟨73, _⟩ => ⟨S_, .f32⟩
  | .hbm, ⟨74, _⟩ => ⟨S2x8x64x128, .f32⟩
  | .hbm, ⟨75, _⟩ => ⟨S2x8x64x128x1, .f32⟩
  | .hbm, ⟨76, _⟩ => ⟨S2x8x64x128x256, .f32⟩
  | .hbm, ⟨77, _⟩ => ⟨S2x8x64x128x256, .f32⟩
  | .hbm, ⟨78, _⟩ => ⟨S2x8x64x128x256, .f32⟩
  | .hbm, ⟨79, _⟩ => ⟨S_, .f32⟩
  | .hbm, ⟨80, _⟩ => ⟨S2x8x64x128, .f32⟩
  | .hbm, ⟨81, _⟩ => ⟨S2x8x64x128x1, .f32⟩
  | .hbm, ⟨82, _⟩ => ⟨S2x8x64x128x256, .f32⟩
  | .hbm, ⟨83, _⟩ => ⟨S2x8x64x128x256, .f32⟩
  | .hbm, ⟨84, _⟩ => ⟨S2x8x64x128x64, .f32⟩
  | .hbm, ⟨85, _⟩ => ⟨S2x8x64x128x1, .f32⟩
  | .hbm, ⟨86, _⟩ => ⟨S2x8x64x128x1, .f32⟩
  | .hbm, ⟨87, _⟩ => ⟨S2x8x64x128x64, .f32⟩
  | .hbm, ⟨88, _⟩ => ⟨S2x8x8192x64, .f32⟩
  | .hbm, ⟨89, _⟩ => ⟨S2x8192x8x64, .f32⟩
  | .hbm, ⟨90, _⟩ => ⟨S2x8192x512, .f32⟩
  | .hbm, ⟨91, _⟩ => ⟨S2x8x8192x64, .f32⟩
  | .hbm, ⟨92, _⟩ => ⟨S2x8192x8x64, .f32⟩
  | .hbm, ⟨93, _⟩ => ⟨S2x8192x512, .f32⟩
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst_0 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_1 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_c : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_c_2 : Ref sig .tc := ⟨.hbm, 44, rfl⟩
abbrev main_v39 : Ref sig .tc := ⟨.hbm, 45, rfl⟩
abbrev main_v40 : Ref sig .tc := ⟨.hbm, 46, rfl⟩
abbrev main_c_3 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_c_4 : Ref sig .tc := ⟨.hbm, 54, rfl⟩
abbrev main_v47 : Ref sig .tc := ⟨.hbm, 55, rfl⟩
abbrev main_v48 : Ref sig .tc := ⟨.hbm, 56, rfl⟩
abbrev main_c_5 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_c_6 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_7 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩

abbrev nD : Nat := 1
abbrev τ : Topo := Topo.v7x

variable {F : FTy → Type} [FloatOps F]
-- ==== Ffn.lean ====
abbrev S2x8192x2048 : Shape := ⟨3, ![2, 8192, 2048]⟩
abbrev S2x2x12288 : Shape := ⟨3, ![2, 2, 12288]⟩
abbrev S2x2048 : Shape := ⟨2, ![2, 2048]⟩
abbrev S2x2048x8192 : Shape := ⟨3, ![2, 2048, 8192]⟩
abbrev S2048 : Shape := ⟨1, ![2048]⟩
abbrev S16384x2048 : Shape := ⟨2, ![16384, 2048]⟩
abbrev S1x2048 : Shape := ⟨2, ![1, 2048]⟩
abbrev S2x2x6x2048 : Shape := ⟨4, ![2, 2, 6, 2048]⟩
abbrev S2x6x2x2048 : Shape := ⟨4, ![2, 6, 2, 2048]⟩
abbrev S24x1x2048 : Shape := ⟨3, ![24, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S1024x2048 : Shape := ⟨2, ![1024, 2048]⟩
abbrev S1x1x2048 : Shape := ⟨3, ![1, 1, 2048]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩

abbrev nBuf : Space → Nat
  | .hbm => 21
  | .vmem => 17
  | .smem => 0
  | _ => 0

abbrev bufTy : (tb : Table) → Fin (tcTables nBuf tb) → BufTy
  | .hbm, ⟨0, _⟩ => ⟨S2x8192x2048, .f32⟩
  | .hbm, ⟨1, _⟩ => ⟨S2x2x12288, .f32⟩
  | .hbm, ⟨2, _⟩ => ⟨S2x2048, .f32⟩
  | .hbm, ⟨3, _⟩ => ⟨S2x2048x8192, .f32⟩
  | .hbm, ⟨4, _⟩ => ⟨S2x8192x2048, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2x2x6x2048, .f32⟩
  | .hbm, ⟨11, _⟩ => ⟨S2x6x2x2048, .f32⟩
  | .hbm, ⟨12, _⟩ => ⟨S24x1x2048, .f32⟩
  | .hbm, ⟨13, _⟩ => ⟨S1x2048x8192, .f32⟩
  | .hbm, ⟨14, _⟩ => ⟨S2048x8192, .f32⟩
  | .hbm, ⟨15, _⟩ => ⟨S2048x8192, .bf16⟩
  | .hbm, ⟨16, _⟩ => ⟨S1x8192x2048, .f32⟩
  | .hbm, ⟨17, _⟩ => ⟨S8192x2048, .f32⟩
  | .hbm, ⟨18, _⟩ => ⟨S8192x2048, .bf16⟩
  | .hbm, ⟨19, _⟩ => ⟨S1x2048, .f32⟩
  | .hbm, ⟨20, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_22 : BitVec 32 := 0#32
  let c4_i32 : BitVec 32 := 4#32
  let v30 : BitVec 32 := Scalar.addi c0_i32_22 c4_i32
  let c1_i32 : BitVec 32 := 1#32
  ⟨c0_i32_22, v30, c1_i32⟩
def k0_mult1 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c256_i32 : BitVec 32 := 256#32
  let v33 : BitVec 32 := Scalar.muli arg12 c256_i32
  v33
def k0_off1 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c256_i32 : BitVec 32 := 256#32
  let v33 : BitVec 32 := Scalar.muli arg12 c256_i32
  let v34 : BitVec 32 := v33
  let v35 : Index := Scalar.indexCast v34
  let c0_27 : Index := 0#32
  ![v35.toNat, 0]
def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_12 : BitVec 32 := 0#32
  let v20 : BitVec 1 := Scalar.cmpi .ne v19 c0_i32_12
  v20

@[reducible] def k0_t2_loop : Scf.Loop 32 :=
  let c0_i32_18 : BitVec 32 := 0#32
  let c4_i32 : BitVec 32 := 4#32
  let v25 : BitVec 32 := Scalar.addi c0_i32_18 c4_i32
  let c1_i32 : BitVec 32 := 1#32
  ⟨c0_i32_18, v25, c1_i32⟩
def k0_mult2 (k0_t2 : Fin k0_t2_loop.trips) : BitVec 32 :=
  let c0_i32_18 : BitVec 32 := 0#32
  let c1_i32 : BitVec 32 := 1#32
  let arg12 : BitVec 32 := Scf.iv c0_i32_18 c1_i32 k0_t2
  let c256_i32 : BitVec 32 := 256#32
  let v26 : BitVec 32 := Scalar.muli arg12 c256_i32
  v26
def k0_off2 (k0_t2 : Fin k0_t2_loop.trips) : Fin 2 → Nat :=
  let c0_i32_18 : BitVec 32 := 0#32
  let c1_i32 : BitVec 32 := 1#32
  let arg12 : BitVec 32 := Scf.iv c0_i32_18 c1_i32 k0_t2
  let c256_i32 : BitVec 32 := 256#32
  let v26 : BitVec 32 := Scalar.muli arg12 c256_i32
  let v27 : BitVec 32 := v26
  let v28 : Index := Scalar.indexCast v27
  let c0_20 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32 : BitVec 32 := 18#32
  let v17 : BitVec 32 := Scalar.addi c18_i32 v16
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c20_i32 : BitVec 32 := 20#32
  let v17 : BitVec 32 := Scalar.addi c20_i32 v16
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c22_i32 : BitVec 32 := 22#32
  let v17 : BitVec 32 := Scalar.addi c22_i32 v16
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S2x8192x2048 : Shape := ⟨3, ![2, 8192, 2048]⟩
abbrev S2x2x12288 : Shape := ⟨3, ![2, 2, 12288]⟩
abbrev S2x2048 : Shape := ⟨2, ![2, 2048]⟩
abbrev S2x2048x8192 : Shape := ⟨3, ![2, 2048, 8192]⟩
abbrev S2048 : Shape := ⟨1, ![2048]⟩
abbrev S1x2x12288 : Shape := ⟨3, ![1, 2, 12288]⟩
abbrev S2x12288 : Shape := ⟨2, ![2, 12288]⟩
abbrev S1x2048 : Shape := ⟨2, ![1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2x8192x8192 : Shape := ⟨3, ![2, 8192, 8192]⟩
abbrev S16384x2048 : Shape := ⟨2, ![16384, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2x12288, .f32⟩
  | .hbm, ⟨2, _⟩ => ⟨S2x2048, .f32⟩
  | .hbm, ⟨3, _⟩ => ⟨S2x2048x8192, .f32⟩
  | .hbm, ⟨4, _⟩ => ⟨S2x8192x2048, .f32⟩
  | .hbm, ⟨5, _⟩ => ⟨S2048, .f32⟩
  | .hbm, ⟨6, _⟩ => ⟨S1x2x12288, .f32⟩
  | .hbm, ⟨7, _⟩ => ⟨S2x12288, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S1x2048, .f32⟩
  | .hbm, ⟨15, _⟩ => ⟨S2048, .f32⟩
  | .hbm, ⟨16, _⟩ => ⟨S2x8192x2048, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x2048, .f32⟩
  | .hbm, ⟨28, _⟩ => ⟨S2x8192x2048, .f32⟩
  | .hbm, ⟨29, _⟩ => ⟨S1x1x2048, .f32⟩
  | .hbm, ⟨30, _⟩ => ⟨S2x8192x2048, .f32⟩
  | .hbm, ⟨31, _⟩ => ⟨S2x8192x2048, .f32⟩
  | .hbm, ⟨32, _⟩ => ⟨S2x1x2048, .f32⟩
  | .hbm, ⟨33, _⟩ => ⟨S_, .f32⟩
  | .hbm, ⟨34, _⟩ => ⟨S2x1x2048, .f32⟩
  | .hbm, ⟨35, _⟩ => ⟨S2x1x2048, .f32⟩
  | .hbm, ⟨36, _⟩ => ⟨S2x8192x2048, .f32⟩
  | .hbm, ⟨37, _⟩ => ⟨S2x8192x2048, .f32⟩
  | .hbm, ⟨38, _⟩ => ⟨S2x1x2048, .f32⟩
  | .hbm, ⟨39, _⟩ => ⟨S2x8192x2048, .f32⟩
  | .hbm, ⟨40, _⟩ => ⟨S2x8192x2048, .f32⟩
  | .hbm, ⟨41, _⟩ => ⟨S2x1x2048, .f32⟩
  | .hbm, ⟨42, _⟩ => ⟨S1x2048x8192, .f32⟩
  | .hbm, ⟨43, _⟩ => ⟨S2048x8192, .f32⟩
  | .hbm, ⟨44, _⟩ => ⟨S1x8192x2048, .f32⟩
  | .hbm, ⟨45, _⟩ => ⟨S8192x2048, .f32⟩
  | .hbm, ⟨46, _⟩ => ⟨S2x8192x8192, .f32⟩
  | .hbm, ⟨47, _⟩ => ⟨S_, .f32⟩
  | .hbm, ⟨48, _⟩ => ⟨S2x8192x8192, .f32⟩
  | .hbm, ⟨49, _⟩ => ⟨S2x8192x8192, .f32⟩
  | .hbm, ⟨50, _⟩ => ⟨S2x8192x8192, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S2x8192x2048, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x2048, .f32⟩
  | .hbm, ⟨67, _⟩ => ⟨S2x8192x2048, .f32⟩
  | .hbm, ⟨68, _⟩ => ⟨S1x1x2048, .f32⟩
  | .hbm, ⟨69, _⟩ => ⟨S2x8192x2048, .f32⟩
  | .hbm, ⟨70, _⟩ => ⟨S2x8192x2048, .f32⟩
  | .hbm, ⟨71, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_cst : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Ffn0.lean ====
abbrev S2x8192x2048 : Shape := ⟨3, ![2, 8192, 2048]⟩
abbrev S2x2x12288 : Shape := ⟨3, ![2, 2, 12288]⟩
abbrev S2x2048 : Shape := ⟨2, ![2, 2048]⟩
abbrev S2x2048x8192 : Shape := ⟨3, ![2, 2048, 8192]⟩
abbrev S2048 : Shape := ⟨1, ![2048]⟩
abbrev S16384x2048 : Shape := ⟨2, ![16384, 2048]⟩
abbrev S1x2048 : Shape := ⟨2, ![1, 2048]⟩
abbrev S2x2x6x2048 : Shape := ⟨4, ![2, 2, 6, 2048]⟩
abbrev S2x6x2x2048 : Shape := ⟨4, ![2, 6, 2, 2048]⟩
abbrev S24x1x2048 : Shape := ⟨3, ![24, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S1024x2048 : Shape := ⟨2, ![1024, 2048]⟩
abbrev S1x1x2048 : Shape := ⟨3, ![1, 1, 2048]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩

abbrev nBuf : Space → Nat
  | .hbm => 21
  | .vmem => 17
  | .smem => 0
  | _ => 0

abbrev bufTy : (tb : Table) → Fin (tcTables nBuf tb) → BufTy
  | .hbm, ⟨0, _⟩ => ⟨S2x8192x2048, .f32⟩
  | .hbm, ⟨1, _⟩ => ⟨S2x2x12288, .f32⟩
  | .hbm, ⟨2, _⟩ => ⟨S2x2048, .f32⟩
  | .hbm, ⟨3, _⟩ => ⟨S2x2048x8192, .f32⟩
  | .hbm, ⟨4, _⟩ => ⟨S2x8192x2048, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2x2x6x2048, .f32⟩
  | .hbm, ⟨11, _⟩ => ⟨S2x6x2x2048, .f32⟩
  | .hbm, ⟨12, _⟩ => ⟨S24x1x2048, .f32⟩
  | .hbm, ⟨13, _⟩ => ⟨S1x2048x8192, .f32⟩
  | .hbm, ⟨14, _⟩ => ⟨S2048x8192, .f32⟩
  | .hbm, ⟨15, _⟩ => ⟨S2048x8192, .bf16⟩
  | .hbm, ⟨16, _⟩ => ⟨S1x8192x2048, .f32⟩
  | .hbm, ⟨17, _⟩ => ⟨S8192x2048, .f32⟩
  | .hbm, ⟨18, _⟩ => ⟨S8192x2048, .bf16⟩
  | .hbm, ⟨19, _⟩ => ⟨S1x2048, .f32⟩
  | .hbm, ⟨20, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_22 : BitVec 32 := 0#32
  let c4_i32 : BitVec 32 := 4#32
  let v30 : BitVec 32 := Scalar.addi c0_i32_22 c4_i32
  let c1_i32 : BitVec 32 := 1#32
  ⟨c0_i32_22, v30, c1_i32⟩
def k0_mult1 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c256_i32 : BitVec 32 := 256#32
  let v33 : BitVec 32 := Scalar.muli arg12 c256_i32
  v33
def k0_off1 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c256_i32 : BitVec 32 := 256#32
  let v33 : BitVec 32 := Scalar.muli arg12 c256_i32
  let v34 : BitVec 32 := v33
  let v35 : Index := Scalar.indexCast v34
  let c0_27 : Index := 0#32
  ![v35.toNat, 0]
def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_12 : BitVec 32 := 0#32
  let v20 : BitVec 1 := Scalar.cmpi .ne v19 c0_i32_12
  v20

@[reducible] def k0_t2_loop : Scf.Loop 32 :=
  let c0_i32_16 : BitVec 32 := 0#32
  let c4_i32 : BitVec 32 := 4#32
  let v23 : BitVec 32 := Scalar.addi c0_i32_16 c4_i32
  let c1_i32 : BitVec 32 := 1#32
  ⟨c0_i32_16, v23, c1_i32⟩
def k0_mult2 (k0_t2 : Fin k0_t2_loop.trips) : BitVec 32 :=
  let c0_i32_16 : BitVec 32 := 0#32
  let c1_i32 : BitVec 32 := 1#32
  let arg12 : BitVec 32 := Scf.iv c0_i32_16 c1_i32 k0_t2
  let c256_i32 : BitVec 32 := 256#32
  let v24 : BitVec 32 := Scalar.muli arg12 c256_i32
  v24
def k0_off2 (k0_t2 : Fin k0_t2_loop.trips) : Fin 2 → Nat :=
  let c0_i32_16 : BitVec 32 := 0#32
  let c1_i32 : BitVec 32 := 1#32
  let arg12 : BitVec 32 := Scf.iv c0_i32_16 c1_i32 k0_t2
  let c256_i32 : BitVec 32 := 256#32
  let v24 : BitVec 32 := Scalar.muli arg12 c256_i32
  let v25 : BitVec 32 := v24
  let v26 : Index := Scalar.indexCast v25
  let c0_18 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.addi c8_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c10_i32 : BitVec 32 := 10#32
  let v17 : BitVec 32 := Scalar.addi c10_i32 v16
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Ffn0RefIdeal.lean ====
abbrev S2x8192x2048 : Shape := ⟨3, ![2, 8192, 2048]⟩
abbrev S2x2x12288 : Shape := ⟨3, ![2, 2, 12288]⟩
abbrev S2x2048 : Shape := ⟨2, ![2, 2048]⟩
abbrev S2x2048x8192 : Shape := ⟨3, ![2, 2048, 8192]⟩
abbrev S2048 : Shape := ⟨1, ![2048]⟩
abbrev S1x2x12288 : Shape := ⟨3, ![1, 2, 12288]⟩
abbrev S2x12288 : Shape := ⟨2, ![2, 12288]⟩
abbrev S1x2048 : Shape := ⟨2, ![1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2x8192x8192 : Shape := ⟨3, ![2, 8192, 8192]⟩
abbrev S16384x2048 : Shape := ⟨2, ![16384, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2x12288, .f32⟩
  | .hbm, ⟨2, _⟩ => ⟨S2x2048, .f32⟩
  | .hbm, ⟨3, _⟩ => ⟨S2x2048x8192, .f32⟩
  | .hbm, ⟨4, _⟩ => ⟨S2x8192x2048, .f32⟩
  | .hbm, ⟨5, _⟩ => ⟨S2048, .f32⟩
  | .hbm, ⟨6, _⟩ => ⟨S1x2x12288, .f32⟩
  | .hbm, ⟨7, _⟩ => ⟨S2x12288, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S1x2048, .f32⟩
  | .hbm, ⟨15, _⟩ => ⟨S2048, .f32⟩
  | .hbm, ⟨16, _⟩ => ⟨S2x8192x2048, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x2048, .f32⟩
  | .hbm, ⟨28, _⟩ => ⟨S2x8192x2048, .f32⟩
  | .hbm, ⟨29, _⟩ => ⟨S1x1x2048, .f32⟩
  | .hbm, ⟨30, _⟩ => ⟨S2x8192x2048, .f32⟩
  | .hbm, ⟨31, _⟩ => ⟨S2x8192x2048, .f32⟩
  | .hbm, ⟨32, _⟩ => ⟨S2x1x2048, .f32⟩
  | .hbm, ⟨33, _⟩ => ⟨S_, .f32⟩
  | .hbm, ⟨34, _⟩ => ⟨S2x1x2048, .f32⟩
  | .hbm, ⟨35, _⟩ => ⟨S2x1x2048, .f32⟩
  | .hbm, ⟨36, _⟩ => ⟨S2x8192x2048, .f32⟩
  | .hbm, ⟨37, _⟩ => ⟨S2x8192x2048, .f32⟩
  | .hbm, ⟨38, _⟩ => ⟨S2x1x2048, .f32⟩
  | .hbm, ⟨39, _⟩ => ⟨S2x8192x2048, .f32⟩
  | .hbm, ⟨40, _⟩ => ⟨S2x8192x2048, .f32⟩
  | .hbm, ⟨41, _⟩ => ⟨S2x1x2048, .f32⟩
  | .hbm, ⟨42, _⟩ => ⟨S1x2048x8192, .f32⟩
  | .hbm, ⟨43, _⟩ => ⟨S2048x8192, .f32⟩
  | .hbm, ⟨44, _⟩ => ⟨S1x8192x2048, .f32⟩
  | .hbm, ⟨45, _⟩ => ⟨S8192x2048, .f32⟩
  | .hbm, ⟨46, _⟩ => ⟨S2x8192x8192, .f32⟩
  | .hbm, ⟨47, _⟩ => ⟨S_, .f32⟩
  | .hbm, ⟨48, _⟩ => ⟨S2x8192x8192, .f32⟩
  | .hbm, ⟨49, _⟩ => ⟨S2x8192x8192, .f32⟩
  | .hbm, ⟨50, _⟩ => ⟨S2x8192x8192, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_cst : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== SsmIn.lean ====
abbrev S2x8192x2048 : Shape := ⟨3, ![2, 8192, 2048]⟩
abbrev S2x2x12288 : Shape := ⟨3, ![2, 2, 12288]⟩
abbrev S2x2048 : Shape := ⟨2, ![2, 2048]⟩
abbrev S1x2048x10304 : Shape := ⟨3, ![1, 2048, 10304]⟩
abbrev S2048x10304 : Shape := ⟨2, ![2048, 10304]⟩
abbrev S2048x64 : Shape := ⟨2, ![2048, 64]⟩
abbrev S_ : Shape := ⟨0, ![]⟩
abbrev S2048x128 : Shape := ⟨2, ![2048, 128]⟩
abbrev S16384x2048 : Shape := ⟨2, ![16384, 2048]⟩
abbrev S1x2048 : Shape := ⟨2, ![1, 2048]⟩
abbrev S2048 : Shape := ⟨1, ![2048]⟩
abbrev S2x2x6x2048 : Shape := ⟨4, ![2, 2, 6, 2048]⟩
abbrev S2x6x2x2048 : Shape := ⟨4, ![2, 6, 2, 2048]⟩
abbrev S24x1x2048 : Shape := ⟨3, ![24, 1, 2048]⟩
abbrev S2048x10240 : Shape := ⟨2, ![2048, 10240]⟩
abbrev S16384x10240 : Shape := ⟨2, ![16384, 10240]⟩
abbrev S16384x128 : Shape := ⟨2, ![16384, 128]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2x2x12288, .f32⟩
  | .hbm, ⟨2, _⟩ => ⟨S2x2048, .f32⟩
  | .hbm, ⟨3, _⟩ => ⟨S1x2048x10304, .f32⟩
  | .hbm, ⟨4, _⟩ => ⟨S2048x10304, .f32⟩
  | .hbm, ⟨5, _⟩ => ⟨S2048x64, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x128, .bf16⟩
  | .hbm, ⟨10, _⟩ => ⟨S16384x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2x2x6x2048, .f32⟩
  | .hbm, ⟨15, _⟩ => ⟨S2x6x2x2048, .f32⟩
  | .hbm, ⟨16, _⟩ => ⟨S24x1x2048, .f32⟩
  | .hbm, ⟨17, _⟩ => ⟨S2048x10240, .f32⟩
  | .hbm, ⟨18, _⟩ => ⟨S2048x10240, .bf16⟩
  | .hbm, ⟨19, _⟩ => ⟨S16384x10240, .bf16⟩
  | .hbm, ⟨20, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .bf16⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c4_i32 : BitVec 32 := 4#32
  let v18 : BitVec 32 := Scalar.addi c0_i32_15 c4_i32
  let c1_i32 : BitVec 32 := 1#32
  ⟨c0_i32_15, v18, c1_i32⟩
def k0_mult1 (k0_t1 : Fin k0_t1_loop.trips) : BitVec 32 :=
  let c0_i32_15 : BitVec 32 := 0#32
  let c1_i32 : BitVec 32 := 1#32
  let arg11 : BitVec 32 := Scf.iv c0_i32_15 c1_i32 k0_t1
  let c256_i32 : BitVec 32 := 256#32
  let v24 : BitVec 32 := Scalar.muli arg11 c256_i32
  v24
def k0_off1 (k0_t1 : Fin k0_t1_loop.trips) : Fin 2 → Nat :=
  let c0_i32_15 : BitVec 32 := 0#32
  let c1_i32 : BitVec 32 := 1#32
  let arg11 : BitVec 32 := Scf.iv c0_i32_15 c1_i32 k0_t1
  let c256_i32 : BitVec 32 := 256#32
  let v24 : BitVec 32 := Scalar.muli arg11 c256_i32
  let v25 : BitVec 32 := v24
  let v26 : Index := Scalar.indexCast v25
  let c0_24 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32 : BitVec 32 := 12#32
  let v17 : BitVec 32 := Scalar.addi c12_i32 v16
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32 : BitVec 32 := 14#32
  let v17 : BitVec 32 := Scalar.addi c14_i32 v16
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SsmInRefIdeal.lean ====
abbrev S2x8192x2048 : Shape := ⟨3, ![2, 8192, 2048]⟩
abbrev S2x2x12288 : Shape := ⟨3, ![2, 2, 12288]⟩
abbrev S2x2048 : Shape := ⟨2, ![2, 2048]⟩
abbrev S1x2048x10304 : Shape := ⟨3, ![1, 2048, 10304]⟩
abbrev S1x2x12288 : Shape := ⟨3, ![1, 2, 12288]⟩
abbrev S2x12288 : Shape := ⟨2, ![2, 12288]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2048x10304 : Shape := ⟨2, ![2048, 10304]⟩
abbrev S2x8192x10304 : Shape := ⟨3, ![2, 8192, 10304]⟩
abbrev S16384x10304 : Shape := ⟨2, ![16384, 10304]⟩
abbrev S16384x64 : Shape := ⟨2, ![16384, 64]⟩
abbrev S16384x10240 : Shape := ⟨2, ![16384, 10240]⟩
abbrev S16384x128 : Shape := ⟨2, ![16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2x12288, .f32⟩
  | .hbm, ⟨2, _⟩ => ⟨S2x2048, .f32⟩
  | .hbm, ⟨3, _⟩ => ⟨S1x2048x10304, .f32⟩
  | .hbm, ⟨4, _⟩ => ⟨S1x2x12288, .f32⟩
  | .hbm, ⟨5, _⟩ => ⟨S2x12288, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S1x2048, .f32⟩
  | .hbm, ⟨13, _⟩ => ⟨S2048, .f32⟩
  | .hbm, ⟨14, _⟩ => ⟨S2x8192x2048, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x2048, .f32⟩
  | .hbm, ⟨26, _⟩ => ⟨S2x8192x2048, .f32⟩
  | .hbm, ⟨27, _⟩ => ⟨S1x1x2048, .f32⟩
  | .hbm, ⟨28, _⟩ => ⟨S2x8192x2048, .f32⟩
  | .hbm, ⟨29, _⟩ => ⟨S2x8192x2048, .f32⟩
  | .hbm, ⟨30, _⟩ => ⟨S2x1x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x1x2048, .f32⟩
  | .hbm, ⟨37, _⟩ => ⟨S2x8192x2048, .f32⟩
  | .hbm, ⟨38, _⟩ => ⟨S2x8192x2048, .f32⟩
  | .hbm, ⟨39, _⟩ => ⟨S2048x10304, .f32⟩
  | .hbm, ⟨40, _⟩ => ⟨S2x8192x10304, .f32⟩
  | .hbm, ⟨41, _⟩ => ⟨S16384x10304, .f32⟩
  | .hbm, ⟨42, _⟩ => ⟨S_, .f32⟩
  | .hbm, ⟨43, _⟩ => ⟨S16384x64, .f32⟩
  | .hbm, ⟨44, _⟩ => ⟨S16384x10240, .f32⟩
  | .hbm, ⟨45, _⟩ => ⟨S16384x10240, .bf16⟩
  | .hbm, ⟨46, _⟩ => ⟨S16384x64, .f32⟩
  | .hbm, ⟨47, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== EvenIn.lean ====
abbrev S2x8192x2048 : Shape := ⟨3, ![2, 8192, 2048]⟩
abbrev S2x2x12288 : Shape := ⟨3, ![2, 2, 12288]⟩
abbrev S2x2048 : Shape := ⟨2, ![2, 2048]⟩
abbrev S1x2048x5120 : Shape := ⟨3, ![1, 2048, 5120]⟩
abbrev S16384x2048 : Shape := ⟨2, ![16384, 2048]⟩
abbrev S1x2048 : Shape := ⟨2, ![1, 2048]⟩
abbrev S2048 : Shape := ⟨1, ![2048]⟩
abbrev S2x2x6x2048 : Shape := ⟨4, ![2, 2, 6, 2048]⟩
abbrev S2x6x2x2048 : Shape := ⟨4, ![2, 6, 2, 2048]⟩
abbrev S24x1x2048 : Shape := ⟨3, ![24, 1, 2048]⟩
abbrev S2048x5120 : Shape := ⟨2, ![2048, 5120]⟩
abbrev S16384x4608 : Shape := ⟨2, ![16384, 4608]⟩
abbrev S16384x512 : Shape := ⟨2, ![16384, 512]⟩
abbrev S1024x2048 : Shape := ⟨2, ![1024, 2048]⟩
abbrev S1x1x2048 : Shape := ⟨3, ![1, 1, 2048]⟩
abbrev S2048x768 : Shape := ⟨2, ![2048, 768]⟩
abbrev S2048x512 : Shape := ⟨2, ![2048, 512]⟩
abbrev S1024x768 : Shape := ⟨2, ![1024, 768]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2x2x12288, .f32⟩
  | .hbm, ⟨2, _⟩ => ⟨S2x2048, .f32⟩
  | .hbm, ⟨3, _⟩ => ⟨S1x2048x5120, .f32⟩
  | .hbm, ⟨4, _⟩ => ⟨S16384x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2x2x6x2048, .f32⟩
  | .hbm, ⟨9, _⟩ => ⟨S2x6x2x2048, .f32⟩
  | .hbm, ⟨10, _⟩ => ⟨S24x1x2048, .f32⟩
  | .hbm, ⟨11, _⟩ => ⟨S2048x5120, .f32⟩
  | .hbm, ⟨12, _⟩ => ⟨S2048x5120, .bf16⟩
  | .hbm, ⟨13, _⟩ => ⟨S16384x4608, .bf16⟩
  | .hbm, ⟨14, _⟩ => ⟨S16384x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x768, .bf16⟩
  | .local _ .vmem, ⟨8, _⟩ => ⟨S2048x768, .bf16⟩
  | .local _ .vmem, ⟨9, _⟩ => ⟨S2048x512, .bf16⟩
  | .local _ .vmem, ⟨10, _⟩ => ⟨S1024x768, .bf16⟩
  | .local _ .vmem, ⟨11, _⟩ => ⟨S1024x768, .bf16⟩
  | .local _ .vmem, ⟨12, _⟩ => ⟨S1024x512, .f32⟩
  | .local _ .vmem, ⟨13, _⟩ => ⟨S1024x512, .f32⟩
  | .local _ .vmem, ⟨14, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c4_i32 : BitVec 32 := 4#32
  let v18 : BitVec 32 := Scalar.addi c0_i32_15 c4_i32
  let c1_i32 : BitVec 32 := 1#32
  ⟨c0_i32_15, v18, c1_i32⟩
def k0_mult1 (k0_t1 : Fin k0_t1_loop.trips) : BitVec 32 :=
  let c0_i32_15 : BitVec 32 := 0#32
  let c1_i32 : BitVec 32 := 1#32
  let arg11 : BitVec 32 := Scf.iv c0_i32_15 c1_i32 k0_t1
  let c256_i32 : BitVec 32 := 256#32
  let v24 : BitVec 32 := Scalar.muli arg11 c256_i32
  v24
def k0_off1 (k0_t1 : Fin k0_t1_loop.trips) : Fin 2 → Nat :=
  let c0_i32_15 : BitVec 32 := 0#32
  let c1_i32 : BitVec 32 := 1#32
  let arg11 : BitVec 32 := Scf.iv c0_i32_15 c1_i32 k0_t1
  let c256_i32 : BitVec 32 := 256#32
  let v24 : BitVec 32 := Scalar.muli arg11 c256_i32
  let v25 : BitVec 32 := v24
  let v26 : Index := Scalar.indexCast v25
  let c0_24 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi c2_i32 v16
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c9_i32 : BitVec 32 := 9#32
  let c0_i32_0 : BitVec 32 := 0#32
  ![c0_i32.toNat, c9_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== EvenInRefIdeal.lean ====
abbrev S2x8192x2048 : Shape := ⟨3, ![2, 8192, 2048]⟩
abbrev S2x2x12288 : Shape := ⟨3, ![2, 2, 12288]⟩
abbrev S2x2048 : Shape := ⟨2, ![2, 2048]⟩
abbrev S1x2048x5120 : Shape := ⟨3, ![1, 2048, 5120]⟩
abbrev S1x2x12288 : Shape := ⟨3, ![1, 2, 12288]⟩
abbrev S2x12288 : Shape := ⟨2, ![2, 12288]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2048x5120 : Shape := ⟨2, ![2048, 5120]⟩
abbrev S2x8192x5120 : Shape := ⟨3, ![2, 8192, 5120]⟩
abbrev S16384x5120 : Shape := ⟨2, ![16384, 5120]⟩
abbrev S16384x4608 : Shape := ⟨2, ![16384, 4608]⟩
abbrev S16384x512 : Shape := ⟨2, ![16384, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2x12288, .f32⟩
  | .hbm, ⟨2, _⟩ => ⟨S2x2048, .f32⟩
  | .hbm, ⟨3, _⟩ => ⟨S1x2048x5120, .f32⟩
  | .hbm, ⟨4, _⟩ => ⟨S1x2x12288, .f32⟩
  | .hbm, ⟨5, _⟩ => ⟨S2x12288, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S1x2048, .f32⟩
  | .hbm, ⟨13, _⟩ => ⟨S2048, .f32⟩
  | .hbm, ⟨14, _⟩ => ⟨S2x8192x2048, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x2048, .f32⟩
  | .hbm, ⟨26, _⟩ => ⟨S2x8192x2048, .f32⟩
  | .hbm, ⟨27, _⟩ => ⟨S1x1x2048, .f32⟩
  | .hbm, ⟨28, _⟩ => ⟨S2x8192x2048, .f32⟩
  | .hbm, ⟨29, _⟩ => ⟨S2x8192x2048, .f32⟩
  | .hbm, ⟨30, _⟩ => ⟨S2x1x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x1x2048, .f32⟩
  | .hbm, ⟨37, _⟩ => ⟨S2x8192x2048, .f32⟩
  | .hbm, ⟨38, _⟩ => ⟨S2x8192x2048, .f32⟩
  | .hbm, ⟨39, _⟩ => ⟨S2048x5120, .f32⟩
  | .hbm, ⟨40, _⟩ => ⟨S2x8192x5120, .f32⟩
  | .hbm, ⟨41, _⟩ => ⟨S16384x5120, .f32⟩
  | .hbm, ⟨42, _⟩ => ⟨S16384x4608, .f32⟩
  | .hbm, ⟨43, _⟩ => ⟨S16384x4608, .bf16⟩
  | .hbm, ⟨44, _⟩ => ⟨S16384x512, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== SsmOut.lean ====
abbrev S16384x4096 : Shape := ⟨2, ![16384, 4096]⟩
abbrev S1x4096x2048 : Shape := ⟨3, ![1, 4096, 2048]⟩
abbrev S2x8192x2048 : Shape := ⟨3, ![2, 8192, 2048]⟩
abbrev S2x2x12288 : Shape := ⟨3, ![2, 2, 12288]⟩
abbrev S4096x2048 : Shape := ⟨2, ![4096, 2048]⟩
abbrev S16384x2048 : Shape := ⟨2, ![16384, 2048]⟩
abbrev S2x2x6x2048 : Shape := ⟨4, ![2, 2, 6, 2048]⟩
abbrev S2x6x2x2048 : Shape := ⟨4, ![2, 6, 2, 2048]⟩
abbrev S24x1x2048 : Shape := ⟨3, ![24, 1, 2048]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 11
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x4096x2048, .f32⟩
  | .hbm, ⟨2, _⟩ => ⟨S2x8192x2048, .f32⟩
  | .hbm, ⟨3, _⟩ => ⟨S2x2x12288, .f32⟩
  | .hbm, ⟨4, _⟩ => ⟨S4096x2048, .f32⟩
  | .hbm, ⟨5, _⟩ => ⟨S4096x2048, .bf16⟩
  | .hbm, ⟨6, _⟩ => ⟨S16384x2048, .f32⟩
  | .hbm, ⟨7, _⟩ => ⟨S2x2x6x2048, .f32⟩
  | .hbm, ⟨8, _⟩ => ⟨S2x6x2x2048, .f32⟩
  | .hbm, ⟨9, _⟩ => ⟨S24x1x2048, .f32⟩
  | .hbm, ⟨10, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SsmOutRefIdeal.lean ====
abbrev S16384x4096 : Shape := ⟨2, ![16384, 4096]⟩
abbrev S1x4096x2048 : Shape := ⟨3, ![1, 4096, 2048]⟩
abbrev S2x8192x2048 : Shape := ⟨3, ![2, 8192, 2048]⟩
abbrev S2x2x12288 : Shape := ⟨3, ![2, 2, 12288]⟩
abbrev S1x2x12288 : Shape := ⟨3, ![1, 2, 12288]⟩
abbrev S2x12288 : Shape := ⟨2, ![2, 12288]⟩
abbrev S2x2048 : Shape := ⟨2, ![2, 2048]⟩
abbrev S2x8192x4096 : Shape := ⟨3, ![2, 8192, 4096]⟩
abbrev S4096x2048 : Shape := ⟨2, ![4096, 2048]⟩
abbrev S2x1x2048 : Shape := ⟨3, ![2, 1, 2048]⟩
abbrev S16384x2048 : Shape := ⟨2, ![16384, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x2048, .f32⟩
  | .hbm, ⟨2, _⟩ => ⟨S2x8192x2048, .f32⟩
  | .hbm, ⟨3, _⟩ => ⟨S2x2x12288, .f32⟩
  | .hbm, ⟨4, _⟩ => ⟨S1x2x12288, .f32⟩
  | .hbm, ⟨5, _⟩ => ⟨S2x12288, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S16384x4096, .f32⟩
  | .hbm, ⟨13, _⟩ => ⟨S2x8192x4096, .f32⟩
  | .hbm, ⟨14, _⟩ => ⟨S4096x2048, .f32⟩
  | .hbm, ⟨15, _⟩ => ⟨S2x8192x2048, .f32⟩
  | .hbm, ⟨16, _⟩ => ⟨S2x1x2048, .f32⟩
  | .hbm, ⟨17, _⟩ => ⟨S2x8192x2048, .f32⟩
  | .hbm, ⟨18, _⟩ => ⟨S2x8192x2048, .f32⟩
  | .hbm, ⟨19, _⟩ => ⟨S2x8192x2048, .f32⟩
  | .hbm, ⟨20, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Proof.Ffn.Trips.lean ====
module

public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem

variable {F : FTy → Type} [FloatOps F]

theorem trip1_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (k0_h1 : k0_cond1 i = 1#1) (v21 : Vec F S1x2048 .f32) (v23 : Vec F S1x1x2048 .f32) (v28 : Vec F S1x1x2048 .f32) (X_arg2 : BufTy.Contents (Elt F) arg2.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 k0_h1 v21 v23 v28 X_arg2 k
      = [⟨Rect.unit (s := S1024x2048) (k0_off1 k) S256x2048.size (k0_off1_inb i k k0_h1),
          k0_pay1 v21 v23 v28 (arg2.view.readAt (Elt F) (Rect.unit (s := S1024x2048) (k0_off1 k) S256x2048.size (k0_off1_inb i k k0_h1)).toLoadRect X_arg2)⟩] := by
  unfold tripL_k0_t1 trip_k0_t1; rfl

theorem trip2_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (k0_h2 : k0_cond2 i = 1#1) (v21 : Vec F S1x1x2048 .f32) (v23 : Vec F S1x2048 .f32) (X_arg2 : BufTy.Contents (Elt F) arg2.view.ty) (k : Fin k0_t2_loop.trips) (f : BufTy.Contents (Elt F) arg10.view.ty) :
    tripL_k0_t2 (F := F) 𝒱 c bd i arg2 harg2 arg3 harg3 arg4 harg4 arg5 harg5 arg6 harg6 arg7 harg7 arg8 harg8 arg9 harg9 arg10 harg10 arg11 harg11 k0_h2 v21 v23 X_arg2 k f
      = [⟨Rect.unit (s := S1024x2048) (k0_off2 k) S256x2048.size (k0_off2_inb i k k0_h2),
          k0_pay4 v21 v23 (arg2.view.readAt (Elt F) (Rect.unit (s := S1024x2048) (k0_off2 k) S256x2048.size (k0_off2_inb i k k0_h2)).toLoadRect X_arg2)
            (arg10.view.readAt (Elt F) (Rect.unit (s := S1024x2048) (k0_off2 k) S256x2048.size (k0_off2_inb i k k0_h2)).toLoadRect f)⟩] := by
  unfold tripL_k0_t2 trip_k0_t2; rfl

end Cert.FfnIdeal.Hand

end
-- ==== Proof.Ffn.Block.lean ====
module

public import proofs.«01_k».proof.Proof.Ffn.Trips
public import Idealize.ShloMosaic.Lib.Pipeline.CanonAppend

@[expose] public section

set_option maxRecDepth 16384

noncomputable section

namespace Cert.FfnIdeal.Hand

open Cert.FfnIdeal Cert.FfnIdeal.Gen Idealize.ShloMosaic Idealize.ShloMosaic.TcCoe Idealize.SL.Sem

/-- Both loops take their 256-row chunks in order: chunk `k` starts at row `256 k` and lane 0. -/
theorem off1_row : ∀ k : Fin k0_t1_loop.trips, k0_off1 k 0 = 256 * k.val := by decide +kernel
theorem off2_row : ∀ k : Fin k0_t2_loop.trips, k0_off2 k 0 = 256 * k.val := by decide +kernel
theorem trips1 : k0_t1_loop.trips = 4 := by decide +kernel
theorem trips2 : k0_t2_loop.trips = 4 := by decide +kernel

/-- The normalised and modulated rows: row `r` of `x` divided by its root mean square, times
    `g * (1 + sc)`, plus `sh`. -/
def hBlk (g : Vec Ideal S1x2048 .f32) (sc sh : Vec Ideal S1x1x2048 .f32) (x : Vec Ideal S1024x2048 .f32) :
    Vec Ideal S1024x2048 .bf16 := fun y =>
  x y * Ideal.rsqrt
      (Ideal.div (∑ k : Fin 2048, x (ix2 (y 0) k) * x (ix2 (y 0) k)) (Ideal.ofBits FTy.f32 1157627904#32)
        + Ideal.ofBits FTy.f32 897988541#32)
    * (g (ix2 0 (y 1)) * (1 + sc (ix3 0 0 (y 1)))) + sh (ix3 0 0 (y 1))

/-- The layer's last step: the residual stream plus the gated sum, normalised by its root mean square and scaled. -/
def fBlk (gate : Vec Ideal S1x1x2048 .f32) (fin : Vec Ideal S1x2048 .f32) (x a : Vec Ideal S1024x2048 .f32) :
    Vec Ideal S1024x2048 .f32 := fun y =>
  (x y + gate (ix3 0 0 (y 1)) * a y)
    * Ideal.rsqrt
        (Ideal.div (∑ k : Fin 2048, (x (ix2 (y 0) k) + gate (ix3 0 0 k) * a (ix2 (y 0) k))
            * (x (ix2 (y 0) k) + gate (ix3 0 0 k) * a (ix2 (y 0) k))) (Ideal.ofBits FTy.f32 1157627904#32)
          + Ideal.ofBits FTy.f32 897988541#32)
    * fin (ix2 0 (y 1))

/-- One hidden tile's addition: the sum so far plus the squared positive part of `h @ w1`, times `w2`. -/
theorem pay3_apply (h : Vec Ideal S1024x2048 .bf16) (w1 : Vec Ideal S2048x1024 .bf16) (a : Vec Ideal S1024x2048 .f32)
    (w2 : Vec Ideal S1024x2048 .bf16) (y : S1024x2048.Idx) :
    k0_pay3 (F := Ideal) h w1 a w2 y = a y + ∑ f : Fin 1024,
        max (∑ k : Fin 2048, h (ix2 (y 0) k) * w1 (ix2 k f)) 0 * max (∑ k : Fin 2048, h (ix2 (y 0) k) * w1 (ix2 k f)) 0
          * w2 (ix2 f (y 1)) := by
  rw [eq_ix2 y]
  pointwise! [k0_pay3]

theorem pay2_apply (y : S1024x2048.Idx) : k0_pay2 (F := Ideal) y = 0 := by
  rw [eq_ix2 y]
  pointwise! [k0_pay2]

/-- What one trip of the first loop stores, at a row and a lane of its chunk. -/
theorem pay1_apply (g : Vec Ideal S1x2048 .f32) (sc sh : Vec Ideal S1x1x2048 .f32) (x : Vec Ideal S256x2048 .f32) (r : Fin 256) (c : Fin 2048) :
    k0_pay1 (F := Ideal) g sc sh x (ix2 r c) = x (ix2 r c) * Ideal.rsqrt
      (Ideal.div (∑ k : Fin 2048, x (ix2 r k) * x (ix2 r k)) (Ideal.ofBits FTy.f32 1157627904#32)
        + Ideal.ofBits FTy.f32 897988541#32)
    * (g (ix2 0 c) * (1 + sc (ix3 0 0 c))) + sh (ix3 0 0 c) := by
  pointwise! [k0_pay1]

/-- What one trip of the second loop stores, at a row and a lane of its chunk. -/
theorem pay4_apply (gate : Vec Ideal S1x1x2048 .f32) (fin : Vec Ideal S1x2048 .f32) (x a : Vec Ideal S256x2048 .f32) (r : Fin 256) (c : Fin 2048) :
    k0_pay4 (F := Ideal) gate fin x a (ix2 r c) = (x (ix2 r c) + gate (ix3 0 0 c) * a (ix2 r c))
    * Ideal.rsqrt
        (Ideal.div (∑ k : Fin 2048, (x (ix2 r k) + gate (ix3 0 0 k) * a (ix2 r k))
            * (x (ix2 r k) + gate (ix3 0 0 k) * a (ix2 r k))) (Ideal.ofBits FTy.f32 1157627904#32)
          + Ideal.ofBits FTy.f32 897988541#32)
    * fin (ix2 0 c) := by
  pointwise! [k0_pay4]

/-- A chunk of 256 rows sends row `r`, lane `k` of the chunk to lane `k` of one row of the block. -/
def IsChunk (E : S256x2048.Idx → S1024x2048.Idx) : Prop :=
  (∀ r k c, (ix2 (E (ix2 r c) 0) k : S1024x2048.Idx) = E (ix2 r k)) ∧ ∀ r c, E (ix2 r c) 1 = c

theorem chunk_unit {off : Fin 2 → ℕ} (inb : ∀ a, off a + S256x2048.size a ≤ S1024x2048.size a) (h1 : off 1 = 0) :
    IsChunk (fun y => (Rect.unit (s := S1024x2048) off S256x2048.size inb).emb y) := by
  refine ⟨fun r k c => ?_, fun r c => Fin.ext (by show off 1 + 1 * c.val = c.val; omega)⟩
  funext a
  match a with
  | ⟨0, _⟩ => rfl
  | ⟨1, _⟩ => exact Fin.ext (by show k.val = off 1 + 1 * k.val; omega)

/-- A chunk of 256 rows of `hBlk` is what one trip of the first loop stores. -/
theorem pay1_chunk (g : Vec Ideal S1x2048 .f32) (sc sh : Vec Ideal S1x1x2048 .f32) (x : Vec Ideal S1024x2048 .f32)
    (E : S256x2048.Idx → S1024x2048.Idx) (hE : IsChunk E) (y : S256x2048.Idx) :
    k0_pay1 (F := Ideal) g sc sh (fun z => x (E z)) y = hBlk g sc sh x (E y) := by
  obtain ⟨r, c, rfl⟩ : ∃ r c, y = ix2 r c := ⟨y 0, y 1, eq_ix2 y⟩
  rw [pay1_apply]
  unfold hBlk
  simp only [hE.1, hE.2]

/-- A chunk of 256 rows of `fBlk` is what one trip of the second loop stores. -/
theorem pay4_chunk (gate : Vec Ideal S1x1x2048 .f32) (fin : Vec Ideal S1x2048 .f32) (x a : Vec Ideal S1024x2048 .f32)
    (E : S256x2048.Idx → S1024x2048.Idx) (hE : IsChunk E) (y : S256x2048.Idx) :
    k0_pay4 (F := Ideal) gate fin (fun z => x (E z)) (fun z => a (E z)) y = fBlk gate fin x a (E y) := by
  obtain ⟨r, c, rfl⟩ : ∃ r c, y = ix2 r c := ⟨y 0, y 1, eq_ix2 y⟩
  rw [pay4_apply]
  unfold fBlk
  simp only [hE.1, hE.2]

/-- Every piece the first loop's trips store is a chunk of `hBlk`. -/
theorem pb1_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (h : k0_cond1 i = 1#1) (g : Vec Ideal S1x2048 .f32) (sc sh : Vec Ideal S1x1x2048 .f32)
    (x : Vec Ideal S1024x2048 .f32) : ∀ n, n ≤ k0_t1_loop.trips →
    ∀ p ∈ pb_k0_t1 (F := Ideal) Variants.none c none i arg2 harg2 arg3 harg3 arg4 harg4 arg5 harg5 arg6 harg6 arg7 harg7 arg8 harg8 arg9 harg9 arg10 harg10 arg11 harg11 h g sc sh (harg2.unread x) n, ∀ y : p.1.shape.Idx, p.2 y = hBlk g sc sh x (p.1.emb y)
  | 0, _ => fun p hp => absurd hp List.not_mem_nil
  | n + 1, hn => by
    intro p hp y
    rw [pb_k0_t1_succ Variants.none c none i arg2 harg2 arg3 harg3 arg4 harg4 arg5 harg5 arg6 harg6 arg7 harg7 arg8 harg8 arg9 harg9 arg10 harg10 arg11 harg11 h g sc sh (harg2.unread x) ⟨n, hn⟩, trip1_eq] at hp
    rcases List.mem_cons.mp hp with rfl | hp
    · rw [View.readAt_eq_ld, harg2.read_unread]
      exact pay1_chunk g sc sh x _ (chunk_unit _ rfl) y
    · exact pb1_pieces c i arg2 harg2 arg3 harg3 arg4 harg4 arg5 harg5 arg6 harg6 arg7 harg7 arg8 harg8 arg9 harg9 arg10 harg10 arg11 harg11 h g sc sh x n (by omega) p hp y

/-- The first `n` trips of the first loop cover the first `256 n` rows. -/
theorem pb1_cover (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (h : k0_cond1 i = 1#1) (g : Vec Ideal S1x2048 .f32) (sc sh : Vec Ideal S1x1x2048 .f32)
    (X : BufTy.Contents (Elt Ideal) arg2.view.ty) : ∀ n, n ≤ k0_t1_loop.trips → ∀ y : S1024x2048.Idx, (y 0).val < 256 * n →
    ∃ p ∈ pb_k0_t1 (F := Ideal) Variants.none c none i arg2 harg2 arg3 harg3 arg4 harg4 arg5 harg5 arg6 harg6 arg7 harg7 arg8 harg8 arg9 harg9 arg10 harg10 arg11 harg11 h g sc sh X n, y ∈ p.1.set
  | 0, _ => fun y hy => absurd hy (by omega)
  | n + 1, hn => by
    intro y hy
    rw [pb_k0_t1_succ Variants.none c none i arg2 harg2 arg3 harg3 arg4 harg4 arg5 harg5 arg6 harg6 arg7 harg7 arg8 harg8 arg9 harg9 arg10 harg10 arg11 harg11 h g sc sh X ⟨n, hn⟩, trip1_eq]
    by_cases hy' : (y 0).val < 256 * n
    · obtain ⟨p, hp, hm⟩ := pb1_cover c i arg2 harg2 arg3 harg3 arg4 harg4 arg5 harg5 arg6 harg6 arg7 harg7 arg8 harg8 arg9 harg9 arg10 harg10 arg11 harg11 h g sc sh X n (by omega) y hy'
      exact ⟨p, List.mem_cons_of_mem _ hp, hm⟩
    · refine ⟨_, List.mem_cons_self, ?_⟩
      rw [Rect.mem_set_unit]
      have h0 := off1_row ⟨n, hn⟩
      intro a
      match a with
      | ⟨0, _⟩ => show k0_off1 ⟨n, hn⟩ 0 ≤ (y 0).val ∧ (y 0).val < k0_off1 ⟨n, hn⟩ 0 + 256; rw [h0]; dsimp only; omega
      | ⟨1, _⟩ => exact ⟨Nat.zero_le _, by show (y 1).val < 0 + 2048; have : (y 1).val < 2048 := (y 1).isLt; omega⟩

/-- The first `n` trips of the second loop touch no row from `256 n` on. -/
theorem pb2_rows (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (h : k0_cond2 i = 1#1) (gate : Vec Ideal S1x1x2048 .f32) (fin : Vec Ideal S1x2048 .f32)
    (X : BufTy.Contents (Elt Ideal) arg2.view.ty) (Y : BufTy.Contents (Elt Ideal) arg10.view.ty) : ∀ n, n ≤ k0_t2_loop.trips →
    ∀ p ∈ pb_k0_t2 (F := Ideal) Variants.none c none i arg2 harg2 arg3 harg3 arg4 harg4 arg5 harg5 arg6 harg6 arg7 harg7 arg8 harg8 arg9 harg9 arg10 harg10 arg11 harg11 h gate fin X Y n, ∀ y ∈ p.1.set, (y 0).val < 256 * n
  | 0, _ => fun p hp => absurd hp List.not_mem_nil
  | n + 1, hn => by
    intro p hp y hy
    rw [pb_k0_t2_succ Variants.none c none i arg2 harg2 arg3 harg3 arg4 harg4 arg5 harg5 arg6 harg6 arg7 harg7 arg8 harg8 arg9 harg9 arg10 harg10 arg11 harg11 h gate fin X Y ⟨n, hn⟩, trip2_eq] at hp
    rcases List.mem_cons.mp hp with rfl | hp
    · rw [Rect.mem_set_unit] at hy
      have h0 := off2_row ⟨n, hn⟩
      have := (hy 0).2
      change (y 0).val < k0_off2 ⟨n, hn⟩ 0 + 256 at this
      rw [h0] at this; dsimp only at this; omega
    · have := pb2_rows c i arg2 harg2 arg3 harg3 arg4 harg4 arg5 harg5 arg6 harg6 arg7 harg7 arg8 harg8 arg9 harg9 arg10 harg10 arg11 harg11 h gate fin X Y n (by omega) p hp y hy; omega

/-- Every piece the second loop's trips store is a chunk of `fBlk`, of the sum `a` the block held at entry: a trip reads
    its chunk before any trip stores there. -/
theorem pb2_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (h : k0_cond2 i = 1#1) (gate : Vec Ideal S1x1x2048 .f32) (fin : Vec Ideal S1x2048 .f32)
    (x a : Vec Ideal S1024x2048 .f32) (Y : BufTy.Contents (Elt Ideal) arg10.view.ty) (hY : arg10.view.read (Elt Ideal) Y = a) : ∀ n, n ≤ k0_t2_loop.trips →
    ∀ p ∈ pb_k0_t2 (F := Ideal) Variants.none c none i arg2 harg2 arg3 harg3 arg4 harg4 arg5 harg5 arg6 harg6 arg7 harg7 arg8 harg8 arg9 harg9 arg10 harg10 arg11 harg11 h gate fin (harg2.unread x) Y n, ∀ y : p.1.shape.Idx, p.2 y = fBlk gate fin x a (p.1.emb y)
  | 0, _ => fun p hp => absurd hp List.not_mem_nil
  | n + 1, hn => by
    intro p hp y
    rw [pb_k0_t2_succ Variants.none c none i arg2 harg2 arg3 harg3 arg4 harg4 arg5 harg5 arg6 harg6 arg7 harg7 arg8 harg8 arg9 harg9 arg10 harg10 arg11 harg11 h gate fin (harg2.unread x) Y ⟨n, hn⟩, trip2_eq] at hp
    rcases List.mem_cons.mp hp with rfl | hp
    · rw [View.readAt_writes_of_forall_not_mem]
      · rw [View.readAt_eq_ld, harg2.read_unread, View.readAt_eq_ld, hY]
        exact pay4_chunk gate fin x a _ (chunk_unit _ rfl) y
      · intro j p hp hm
        have h1 := pb2_rows c i arg2 harg2 arg3 harg3 arg4 harg4 arg5 harg5 arg6 harg6 arg7 harg7 arg8 harg8 arg9 harg9 arg10 harg10 arg11 harg11 h gate fin (harg2.unread x) Y n (by omega) p hp _ hm
        have h0 := off2_row ⟨n, hn⟩
        change k0_off2 ⟨n, hn⟩ 0 + 1 * (j 0).val < 256 * n at h1
        rw [h0] at h1; dsimp only at h1; omega
    · exact pb2_pieces c i arg2 harg2 arg3 harg3 arg4 harg4 arg5 harg5 arg6 harg6 arg7 harg7 arg8 harg8 arg9 harg9 arg10 harg10 arg11 harg11 h gate fin x a Y hY n (by omega) p hp y

/-- The first `n` trips of the second loop cover the first `256 n` rows. -/
theorem pb2_cover (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (h : k0_cond2 i = 1#1) (gate : Vec Ideal S1x1x2048 .f32) (fin : Vec Ideal S1x2048 .f32)
    (X : BufTy.Contents (Elt Ideal) arg2.view.ty) (Y : BufTy.Contents (Elt Ideal) arg10.view.ty) : ∀ n, n ≤ k0_t2_loop.trips → ∀ y : S1024x2048.Idx, (y 0).val < 256 * n →
    ∃ p ∈ pb_k0_t2 (F := Ideal) Variants.none c none i arg2 harg2 arg3 harg3 arg4 harg4 arg5 harg5 arg6 harg6 arg7 harg7 arg8 harg8 arg9 harg9 arg10 harg10 arg11 harg11 h gate fin X Y n, y ∈ p.1.set
  | 0, _ => fun y hy => absurd hy (by omega)
  | n + 1, hn => by
    intro y hy
    rw [pb_k0_t2_succ Variants.none c none i arg2 harg2 arg3 harg3 arg4 harg4 arg5 harg5 arg6 harg6 arg7 harg7 arg8 harg8 arg9 harg9 arg10 harg10 arg11 harg11 h gate fin X Y ⟨n, hn⟩, trip2_eq]
    by_cases hy' : (y 0).val < 256 * n
    · obtain ⟨p, hp, hm⟩ := pb2_cover c i arg2 harg2 arg3 harg3 arg4 harg4 arg5 harg5 arg6 harg6 arg7 harg7 arg8 harg8 arg9 harg9 arg10 harg10 arg11 harg11 h gate fin X Y n (by omega) y hy'
      exact ⟨p, List.mem_cons_of_mem _ hp, hm⟩
    · refine ⟨_, List.mem_cons_self, ?_⟩
      rw [Rect.mem_set_unit]
      have h0 := off2_row ⟨n, hn⟩
      intro a
      match a with
      | ⟨0, _⟩ => show k0_off2 ⟨n, hn⟩ 0 ≤ (y 0).val ∧ (y 0).val < k0_off2 ⟨n, hn⟩ 0 + 256; rw [h0]; dsimp only; omega
      | ⟨1, _⟩ => exact ⟨Nat.zero_le _, by show (y 1).val < 0 + 2048; have : (y 1).val < 2048 := (y 1).isLt; omega⟩

/-- THE FIRST POINT OF A ROW BLOCK leaves the block's normalised rows in the scratch … -/
theorem sA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 x7 = hBlk x1 x3 x2 x0 := by
  frame_open
  frame_out
  funext y
  refine View.canon_apply_of_pieces _ _ (pb1_pieces c i arg2 harg2 arg3 harg3 arg4 harg4 arg5 harg5 arg6 harg6 arg7 harg7 arg8 harg8 arg9 harg9 arg10 harg10 arg11 harg11 hc0 x1 x3 x2 x0 _ le_rfl) y
    (pb1_cover c i arg2 harg2 arg3 harg3 arg4 harg4 arg5 harg5 arg6 harg6 arg7 harg7 arg8 harg8 arg9 harg9 arg10 harg10 arg11 harg11 hc0 x1 x3 x2 _ _ le_rfl y ?_)
  have : (y 0).val < 1024 := (y 0).isLt
  rw [trips1]; omega

/-- … and the first hidden tile's addition to zero in the output block. -/
theorem oA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) :
    out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 = k0_pay3 (hBlk x1 x3 x2 x0) x5 (k0_pay2 (F := Ideal)) x6 := by
  frame_out
  congr 1
  rw [View.readCov_eq_canon']
  funext y
  have hy : (Rect.unit (s := S1024x2048) ![0, 0] ![1024, 2048] inb_S1024x2048_S1024x2048_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  rw [hy]
  refine View.canon_apply_of_pieces _ _ (pb1_pieces c i arg2 harg2 arg3 harg3 arg4 harg4 arg5 harg5 arg6 harg6 arg7 harg7 arg8 harg8 arg9 harg9 arg10 harg10 arg11 harg11 hc0 x1 x3 x2 x0 _ le_rfl) y
    (pb1_cover c i arg2 harg2 arg3 harg3 arg4 harg4 arg5 harg5 arg6 harg6 arg7 harg7 arg8 harg8 arg9 harg9 arg10 harg10 arg11 harg11 hc0 x1 x3 x2 _ _ le_rfl y ?_)
  have : (y 0).val < 1024 := (y 0).isLt
  rw [trips1]; omega

/-- A later point adds its hidden tile to what the block held. -/
theorem oB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : ¬cond0_1 i) (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) (xo8 : Vec Ideal S1024x2048 .f32) (xs0 : Vec Ideal S1024x2048 .bf16) :
    out0_B_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xo8 xs0 = k0_pay3 xs0 x5 xo8 x6 := by
  frame_out

/-- The last point of a row block adds its hidden tile and finishes the rows. -/
theorem oC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : cond0_1 i) (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) (xo8 : Vec Ideal S1024x2048 .f32) (xs0 : Vec Ideal S1024x2048 .bf16) :
    out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xo8 xs0 = fBlk x4 x7 x0 (k0_pay3 xs0 x5 xo8 x6) := by
  frame_out
  funext y
  refine View.canon_append_of_pieces _ _ _ (pb2_pieces c i arg2 harg2 arg3 harg3 arg4 harg4 arg5 harg5 arg6 harg6 arg7 harg7 arg8 harg8 arg9 harg9 arg10 harg10 arg11 harg11 hc1 x4 x7 x0 _ _ ?_ _ le_rfl) y
    (pb2_cover c i arg2 harg2 arg3 harg3 arg4 harg4 arg5 harg5 arg6 harg6 arg7 harg7 arg8 harg8 arg9 harg9 arg10 harg10 arg11 harg11 hc1 x4 x7 _ _ _ le_rfl y ?_)
  · rw [View.read_writes_junk_eq_canon]
    exact View.canon_cons_unit_lit _ _ _ (by decide)
  · have : (y 0).val < 1024 := (y 0).isLt
    rw [trips2]; omega

end Cert.FfnIdeal.Hand

end
-- ==== Proof.Ffn.Spec.lean ====
module

public import Idealize.ShloMosaic.PureOps.Ideal
public import Idealize.ShloMosaic.Lib.Pointwise

@[expose] public section

noncomputable section

namespace Cert.FfnSpec

open Idealize.ShloMosaic

/-- Row `R` divided by its root mean square (`2048` lanes, the printed epsilon), at lane `k`, as a factor. -/
def rinv (X : Fin 16384 → Fin 2048 → EReal) (R : Fin 16384) : EReal :=
  Ideal.rsqrt (Ideal.div (∑ k : Fin 2048, X R k * X R k) (Ideal.ofBits FTy.f32 1157627904#32) + Ideal.ofBits FTy.f32 897988541#32)

/-- The batch a row of the flattened array belongs to. -/
def bat (R : Fin 16384) : Fin 2 := ⟨R.val / 8192, by have := R.isLt; omega⟩

/-- The normalised and modulated row. -/
def hRow (X : Fin 16384 → Fin 2048 → EReal) (g : Fin 2048 → EReal) (sc sh : Fin 2 → Fin 2048 → EReal)
    (R : Fin 16384) (k : Fin 2048) : EReal :=
  X R k * rinv X R * (g k * (1 + sc (bat R) k)) + sh (bat R) k

/-- Hidden unit `f` of row `R`: the positive part of the row's product with `w1`. -/
def act (h : Fin 16384 → Fin 2048 → EReal) (w1 : Fin 2048 → Fin 8192 → EReal) (R : Fin 16384) (f : Fin 8192) : EReal :=
  max (∑ k : Fin 2048, h R k * w1 k f) 0

/-- The feed-forward sum of row `R` at lane `c`, over all `8192` hidden units. -/
def ffn (h : Fin 16384 → Fin 2048 → EReal) (w1 : Fin 2048 → Fin 8192 → EReal) (w2 : Fin 8192 → Fin 2048 → EReal)
    (R : Fin 16384) (c : Fin 2048) : EReal :=
  ∑ f : Fin 8192, act h w1 R f * act h w1 R f * w2 f c

/-- The residual stream plus the gated sum. -/
def res (X : Fin 16384 → Fin 2048 → EReal) (gt : Fin 2 → Fin 2048 → EReal) (Y : Fin 16384 → Fin 2048 → EReal)
    (R : Fin 16384) (k : Fin 2048) : EReal :=
  X R k + gt (bat R) k * Y R k

/-- A row normalised by its root mean square and scaled: the model's last step. -/
def out (Z : Fin 16384 → Fin 2048 → EReal) (fin : Fin 2048 → EReal) (R : Fin 16384) (k : Fin 2048) : EReal :=
  Z R k * rinv Z R * fin k

end Cert.FfnSpec

end
-- ==== Proof.Ffn.Array.lean ====
module

public import proofs.«01_k».proof.Proof.Ffn.Block
public import proofs.«01_k».proof.Proof.Ffn.Spec
public import Idealize.ShloMosaic.Lib.StableHlo.ReadAt

@[expose] public section

set_option maxRecDepth 16384

noncomputable section

namespace Cert.FfnIdeal.Hand

open Cert.FfnIdeal Cert.FfnIdeal.Gen Idealize.ShloMosaic Idealize.ShloMosaic.TcCoe Idealize.SL.Sem

open Cert.FfnSpec

variable (m : (ℓ : Loc nD τ sig) → Buf (Elt Ideal) ℓ) (c : Dev nD)

/-! ## The arguments, by coordinates -/

/-- The residual stream, its two batches' rows one after the other. -/
def X (R : Fin 16384) (k : Fin 2048) : EReal :=
  m ((c : Thread nD τ).loc main_arg0) (ix3 (bat R) ⟨R.val % 8192, Nat.mod_lt _ (by decide)⟩ k)
/-- Layer 1's norm weights. -/
def G (k : Fin 2048) : EReal := m ((c : Thread nD τ).loc main_arg2) (ix2 1 k)
/-- Layer 1's modulation vector `s` of 6. -/
def M (s : Fin 6) (b : Fin 2) (k : Fin 2048) : EReal :=
  m ((c : Thread nD τ).loc main_arg1) (ix3 1 b ⟨s.val * 2048 + k.val, by have := s.isLt; have := k.isLt; omega⟩)
/-- Layer 1's two weight matrices. -/
def W1 (k : Fin 2048) (f : Fin 8192) : EReal := m ((c : Thread nD τ).loc main_arg3) (ix3 1 k f)
def W2 (f : Fin 8192) (k : Fin 2048) : EReal := m ((c : Thread nD τ).loc main_arg4) (ix3 1 f k)
/-- The final norm's weights. -/
def Fn (k : Fin 2048) : EReal := m ((c : Thread nD τ).loc main_arg5) (ix1 k)

/-! ## The arrays the region reads, by the arguments -/

theorem V0 (z : S16384x2048.Idx) : V m c main_v0 z = X m c (z 0) (z 1) := by
  idx_vars z
  after_reads_at
  unfold X
  rfl
theorem V3 (z : S1x2048.Idx) : V m c main_v3 z = G m c (z 1) := by
  idx_vars z
  after_reads_at
  unfold G
  rfl
theorem V6 (s : Fin 6) (b : Fin 2) (k : Fin 2048) (z : S24x1x2048.Idx) (h0 : (z 0).val = 12 + 2 * s.val + b.val) (h2 : z 2 = k) :
    V m c main_v6 z = M m c s b k := by
  idx_vars z
  after_reads_at
  unfold M
  refine congrArg (m ((c : Thread nD τ).loc main_arg1)) ?_
  have hs := s.isLt
  have hb := b.isLt
  have a0 : z0.val / 12 = 1 := by omega
  have a1 : z0.val % 2 = b.val := by omega
  have a2 : z0.val / 2 % 6 * 2048 + z2.val = s.val * 2048 + k.val := by
    have e : z2 = k := h2
    rw [e]; omega
  funext a
  match a with
  | ⟨0, _⟩ => exact Fin.ext a0
  | ⟨1, _⟩ => exact Fin.ext a1
  | ⟨2, _⟩ => exact Fin.ext a2
theorem V9 (z : S2048x8192.Idx) : V m c main_v9 z = W1 m c (z 0) (z 1) := by
  idx_vars z
  after_reads_at
  unfold W1
  rfl
theorem V12 (z : S8192x2048.Idx) : V m c main_v12 z = W2 m c (z 0) (z 1) := by
  idx_vars z
  after_reads_at
  unfold W2
  rfl
theorem V13 (z : S1x2048.Idx) : V m c main_v13 z = Fn m c (z 1) := by
  idx_vars z
  after_reads_at
  unfold Fn
  rfl

/-! ## The blocks of a point of row block `b` and hidden tile `j` -/

theorem i0 : ∀ t : Fin cfg0.N, win0_0.index t = ![t.val / 8, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![18 + t.val / 64, 0, 0] := (by decide +kernel : ∀ t : Fin grid0.N, _)
theorem i3 : ∀ t : Fin cfg0.N, win0_3.index t = ![20 + t.val / 64, 0, 0] := (by decide +kernel : ∀ t : Fin grid0.N, _)
theorem i4 : ∀ t : Fin cfg0.N, win0_4.index t = ![22 + t.val / 64, 0, 0] := (by decide +kernel : ∀ t : Fin grid0.N, _)
theorem i5 : ∀ t : Fin cfg0.N, win0_5.index t = ![0, t.val % 8] := (by decide +kernel : ∀ t : Fin grid0.N, _)
theorem i6 : ∀ t : Fin cfg0.N, win0_6.index t = ![t.val % 8, 0] := (by decide +kernel : ∀ t : Fin grid0.N, _)
theorem i7 : ∀ t : Fin cfg0.N, win0_7.index t = ![0, 0] := (by decide +kernel : ∀ t : Fin grid0.N, _)

/-- Row `r` of row block `b`, and hidden unit `f` of tile `j`. -/
def row (b : Fin 16) (r : Fin 1024) : Fin 16384 := ⟨1024 * b.val + r.val, by have := b.isLt; have := r.isLt; omega⟩
def unit (j : Fin 8) (f : Fin 1024) : Fin 8192 := ⟨j.val * 1024 + f.val, by have := j.isLt; have := f.isLt; omega⟩
/-- The point of row block `b` and hidden tile `j`. -/
def pt (b : Fin 16) (j : Fin 8) : Fin cfg0.N := ⟨8 * b.val + j.val, by have := b.isLt; have := j.isLt; show _ < 128; omega⟩

variable (b : Fin 16) (j : Fin 8)

theorem pt_div : (pt b j).val / 8 = b.val := by unfold pt; dsimp only; have := j.isLt; omega
theorem pt_mod : (pt b j).val % 8 = j.val := by unfold pt; dsimp only; have := j.isLt; omega
theorem bat_row (r : Fin 1024) : bat (row b r) = ⟨b.val / 8, by have := b.isLt; omega⟩ := by
  unfold bat row; apply Fin.ext; dsimp only; have := b.isLt; have := r.isLt; omega

theorem b0' (r : Fin 1024) (k : Fin 2048) : iblk m c 0 (pt b j) (ix2 r k) = X m c (row b r) k := by
  have hd := pt_div b j
  blk_simp [iblk, i0]
  rw [V0]
  refine congrArg₂ (X m c) (Fin.ext ?_) (Fin.ext ?_)
  · blk_simp [i0, hd]; show b.val * 1024 + r.val = 1024 * b.val + r.val; omega
  · blk_simp [i0]
theorem b0 (y : S1024x2048.Idx) : iblk m c 0 (pt b j) y = X m c (row b (y 0)) (y 1) := by
  obtain ⟨r, k, rfl⟩ : ∃ r k, y = ix2 r k := ⟨y 0, y 1, eq_ix2 y⟩
  exact b0' m c b j r k
theorem b1 (k : Fin 2048) : iblk m c 1 (pt b j) (ix2 0 k) = G m c k := by
  blk_simp [iblk, i1]
  rw [V3]
  congr 1; apply Fin.ext; blk_simp [i1]
theorem b2 (r : Fin 1024) (k : Fin 2048) : iblk m c 2 (pt b j) (ix3 0 0 k) = M m c 3 (bat (row b r)) k := by
  have hd := pt_div b j
  have e : (pt b j).val / 64 = b.val / 8 := by omega
  blk_simp [iblk, i2]
  rw [bat_row]
  apply V6
  · blk_simp [i2, e]; rfl
  · apply Fin.ext; blk_simp [i2]
theorem b3 (r : Fin 1024) (k : Fin 2048) : iblk m c 3 (pt b j) (ix3 0 0 k) = M m c 4 (bat (row b r)) k := by
  have hd := pt_div b j
  have e : (pt b j).val / 64 = b.val / 8 := by omega
  blk_simp [iblk, i3]
  rw [bat_row]
  apply V6
  · blk_simp [i3, e]; rfl
  · apply Fin.ext; blk_simp [i3]
theorem b4 (r : Fin 1024) (k : Fin 2048) : iblk m c 4 (pt b j) (ix3 0 0 k) = M m c 5 (bat (row b r)) k := by
  have hd := pt_div b j
  have e : (pt b j).val / 64 = b.val / 8 := by omega
  blk_simp [iblk, i4]
  rw [bat_row]
  apply V6
  · blk_simp [i4, e]; rfl
  · apply Fin.ext; blk_simp [i4]
theorem b5 (k : Fin 2048) (f : Fin 1024) : iblk m c 5 (pt b j) (ix2 k f) = W1 m c k (unit j f) := by
  have hd := pt_mod b j
  blk_simp [iblk, i5]
  rw [V9]
  refine congrArg₂ (W1 m c) (Fin.ext ?_) (Fin.ext ?_)
  · blk_simp [i5]
  · blk_simp [i5, hd, unit]
theorem b6 (k : Fin 2048) (f : Fin 1024) : iblk m c 6 (pt b j) (ix2 f k) = W2 m c (unit j f) k := by
  have hd := pt_mod b j
  blk_simp [iblk, i6]
  rw [V12]
  refine congrArg₂ (W2 m c) (Fin.ext ?_) (Fin.ext ?_)
  · blk_simp [i6, hd, unit]
  · blk_simp [i6]
theorem b7 (k : Fin 2048) : iblk m c 7 (pt b j) (ix2 0 k) = Fn m c k := by
  blk_simp [iblk, i7]
  rw [V13]
  congr 1; apply Fin.ext; blk_simp [i7]

/-! ## What a row block's points leave -/

/-- The normalised rows of the whole array. -/
def Hh : Fin 16384 → Fin 2048 → EReal := hRow (X m c) (G m c) (M m c 4) (M m c 3)

/-- `hBlk` of blocks known by coordinates. -/
theorem hBlk_of {g : Vec Ideal S1x2048 .f32} {sc sh : Vec Ideal S1x1x2048 .f32} {x : Vec Ideal S1024x2048 .f32}
    {g' sc' sh' : Fin 2048 → EReal} {x' : Fin 1024 → Fin 2048 → EReal} (hg : ∀ k, g (ix2 0 k) = g' k)
    (hsc : ∀ k, sc (ix3 0 0 k) = sc' k) (hsh : ∀ k, sh (ix3 0 0 k) = sh' k) (hx : ∀ r k, x (ix2 r k) = x' r k) (r : Fin 1024) (k : Fin 2048) :
    hBlk g sc sh x (ix2 r k) = x' r k * Ideal.rsqrt (Ideal.div (∑ k : Fin 2048, x' r k * x' r k) (Ideal.ofBits FTy.f32 1157627904#32)
        + Ideal.ofBits FTy.f32 897988541#32) * (g' k * (1 + sc' k)) + sh' k := by
  have e : hBlk g sc sh x (ix2 r k) = x (ix2 r k) * Ideal.rsqrt (Ideal.div (∑ k : Fin 2048, x (ix2 r k) * x (ix2 r k)) (Ideal.ofBits FTy.f32 1157627904#32)
        + Ideal.ofBits FTy.f32 897988541#32) * (g (ix2 0 k) * (1 + sc (ix3 0 0 k))) + sh (ix3 0 0 k) := rfl
  rw [e]
  simp only [hg, hsc, hsh, hx]

/-- `fBlk` of blocks known by coordinates. -/
theorem fBlk_of {gate : Vec Ideal S1x1x2048 .f32} {fin : Vec Ideal S1x2048 .f32} {x a : Vec Ideal S1024x2048 .f32}
    {gate' fin' : Fin 2048 → EReal} {x' a' : Fin 1024 → Fin 2048 → EReal} (hg : ∀ k, gate (ix3 0 0 k) = gate' k)
    (hf : ∀ k, fin (ix2 0 k) = fin' k) (hx : ∀ r k, x (ix2 r k) = x' r k) (ha : ∀ r k, a (ix2 r k) = a' r k) (r : Fin 1024) (k : Fin 2048) :
    fBlk gate fin x a (ix2 r k) = (x' r k + gate' k * a' r k) * Ideal.rsqrt (Ideal.div (∑ k : Fin 2048,
        (x' r k + gate' k * a' r k) * (x' r k + gate' k * a' r k)) (Ideal.ofBits FTy.f32 1157627904#32)
        + Ideal.ofBits FTy.f32 897988541#32) * fin' k := by
  have e : fBlk gate fin x a (ix2 r k) = (x (ix2 r k) + gate (ix3 0 0 k) * a (ix2 r k)) * Ideal.rsqrt (Ideal.div (∑ k : Fin 2048,
        (x (ix2 r k) + gate (ix3 0 0 k) * a (ix2 r k)) * (x (ix2 r k) + gate (ix3 0 0 k) * a (ix2 r k))) (Ideal.ofBits FTy.f32 1157627904#32)
        + Ideal.ofBits FTy.f32 897988541#32) * fin (ix2 0 k) := rfl
  rw [e]
  simp only [hg, hf, hx, ha]

theorem hBlk_eq (y : S1024x2048.Idx) :
    hBlk (iblk m c 1 (pt b j)) (iblk m c 3 (pt b j)) (iblk m c 2 (pt b j)) (iblk m c 0 (pt b j)) y = Hh m c (row b (y 0)) (y 1) := by
  obtain ⟨r, k, rfl⟩ : ∃ r k, y = ix2 r k := ⟨y 0, y 1, eq_ix2 y⟩
  exact hBlk_of (x' := fun r k => X m c (row b r) k) (b1 m c b j) (b3 m c b j r) (b2 m c b j r) (b0' m c b j) r k

/-- One hidden tile's part of the feed-forward sum. -/
def tile (j : Fin 8) (R : Fin 16384) (k : Fin 2048) : EReal :=
  ∑ f : Fin 1024, act (Hh m c) (W1 m c) R (unit j f) * act (Hh m c) (W1 m c) R (unit j f) * W2 m c (unit j f) k

/-- A point adds its hidden tile's part. -/
theorem pay3_eq (h : Vec Ideal S1024x2048 .bf16) (hh : ∀ y : S1024x2048.Idx, h y = Hh m c (row b (y 0)) (y 1))
    (a : Vec Ideal S1024x2048 .f32) (y : S1024x2048.Idx) :
    k0_pay3 (F := Ideal) h (iblk m c 5 (pt b j)) a (iblk m c 6 (pt b j)) y = a y + tile m c j (row b (y 0)) (y 1) := by
  rw [pay3_apply]
  obtain ⟨r, k, rfl⟩ : ∃ r k, y = ix2 r k := ⟨y 0, y 1, eq_ix2 y⟩
  unfold tile act
  refine congrArg (a (ix2 r k) + ·) (Finset.sum_congr rfl fun f _ => ?_)
  have e1 : ∀ x : Fin 2048, h (ix2 r x) * iblk m c 5 (pt b j) (ix2 x f) = Hh m c (row b r) x * W1 m c x (unit j f) :=
    fun x => congrArg₂ (· * ·) (hh (ix2 r x)) (b5 m c b j x f)
  have e2 := Finset.sum_congr (rfl : (Finset.univ : Finset (Fin 2048)) = Finset.univ) fun x _ => e1 x
  exact congrArg₂ (· * ·) (congrArg₂ (· * ·) (congrArg (max · 0) e2) (congrArg (max · 0) e2)) (b6 m c b j k f)

/-- The sum of the tiles up to `j`. -/
def upto (n : ℕ) (R : Fin 16384) (k : Fin 2048) : EReal :=
  ∑ i ∈ Finset.range n, if h : i < 8 then tile m c ⟨i, h⟩ R k else 0

/-- THE INVARIANT over a row block's points but the last: the scratch holds the block's normalised rows, the output
    block the tiles added so far. -/
theorem outs_lt : ∀ (n : ℕ) (hn : n < 7) (y : S1024x2048.Idx),
    (outsAt0 m c (pt b ⟨n, by omega⟩).val (pt b ⟨n, by omega⟩).isLt).1 y = upto m c (n + 1) (row b (y 0)) (y 1)
      ∧ (outsAt0 m c (pt b ⟨n, by omega⟩).val (pt b ⟨n, by omega⟩).isLt).2 y = Hh m c (row b (y 0)) (y 1)
  | 0, _ => by
    intro y
    have hm := pt_mod b ⟨0, by omega⟩
    rw [outsAt0_A m c (pt b ⟨0, by omega⟩) (by rw [hm]) (by rw [hm]; decide)]
    dsimp only
    rw [oA, sA]
    refine ⟨?_, hBlk_eq m c b _ y⟩
    rw [pay3_eq m c b _ _ (hBlk_eq m c b _), pay2_apply, zero_add]
    unfold upto
    rw [Finset.sum_range_one, dif_pos (by omega)]
  | n + 1, hn => by
    intro y
    have hm := pt_mod b ⟨n + 1, by omega⟩
    rw [outsAt0_B m c (pt b ⟨n + 1, by omega⟩) (by rw [hm]; dsimp only; omega) (by rw [hm]; dsimp only; omega)]
    have ih := outs_lt n (by omega)
    have e : (outsAt0 m c ((pt b ⟨n + 1, by omega⟩).val - 1) (Nat.lt_of_le_of_lt (Nat.sub_le _ _) (pt b ⟨n + 1, by omega⟩).isLt))
      = outsAt0 m c (pt b ⟨n, by omega⟩).val (pt b ⟨n, by omega⟩).isLt := rfl
    rw [e]
    dsimp only
    rw [oB]
    refine ⟨?_, (ih y).2⟩
    rw [pay3_eq m c b _ _ (fun y => (ih y).2), (ih y).1]
    unfold upto
    rw [Finset.sum_range_succ _ (n + 1), dif_pos (by omega)]

/-- All eight tiles make the feed-forward sum. -/
theorem upto_eight (R : Fin 16384) (k : Fin 2048) : upto m c 8 R k = ffn (Hh m c) (W1 m c) (W2 m c) R k := by
  unfold upto ffn
  rw [Finset.sum_range]
  simp only [Fin.is_lt, dif_pos, Fin.eta]
  unfold tile
  exact Fin.sum_mul_add_congr fun s k hl => rfl

/-- The last point of a row block leaves the finished rows. -/
theorem outs_last (y : S1024x2048.Idx) :
    (outsAt0 m c (pt b 7).val (pt b 7).isLt).1 y
      = out (res (X m c) (M m c 5) (ffn (Hh m c) (W1 m c) (W2 m c))) (Fn m c) (row b (y 0)) (y 1) := by
  have hm := pt_mod b 7
  rw [outsAt0_C m c (pt b 7) (by rw [hm]; decide) (by rw [hm]; rfl)]
  have ih := outs_lt m c b 6 (by omega)
  have e : (outsAt0 m c ((pt b 7).val - 1) (Nat.lt_of_le_of_lt (Nat.sub_le _ _) (pt b 7).isLt))
    = outsAt0 m c (pt b ⟨6, by omega⟩).val (pt b ⟨6, by omega⟩).isLt := rfl
  rw [e]
  dsimp only
  rw [oC]
  have hs : ∀ z : S1024x2048.Idx, k0_pay3 (F := Ideal) (outsAt0 m c (pt b ⟨6, by omega⟩).val (pt b ⟨6, by omega⟩).isLt).2 (iblk m c 5 (pt b 7))
      (outsAt0 m c (pt b ⟨6, by omega⟩).val (pt b ⟨6, by omega⟩).isLt).1 (iblk m c 6 (pt b 7)) z
      = ffn (Hh m c) (W1 m c) (W2 m c) (row b (z 0)) (z 1) := by
    intro z
    rw [pay3_eq m c b _ _ (fun y => (ih y).2), (ih z).1]
    refine Eq.trans ?_ (upto_eight m c (row b (z 0)) (z 1))
    unfold upto
    rw [Finset.sum_range_succ _ 7, dif_pos (by omega)]
    rfl
  obtain ⟨r, k, rfl⟩ : ∃ r k, y = ix2 r k := ⟨y 0, y 1, eq_ix2 y⟩
  exact fBlk_of (x' := fun r k => X m c (row b r) k) (a' := fun r k => ffn (Hh m c) (W1 m c) (W2 m c) (row b r) k)
    (b4 m c b 7 r) (b7 m c b 7) (b0' m c b 7) (fun r k => hs (ix2 r k)) r k

/-- THE ARRAY the call returns, at row `R` and lane `k`. -/
theorem G8_eq (i : S16384x2048.Idx) :
    Value.G8 m c i = out (res (X m c) (M m c 5) (ffn (Hh m c) (W1 m c) (W2 m c))) (Fn m c) (i 0) (i 1) := by
  have h0 : (i 0).val < 16384 := (i 0).isLt
  have h1 : (i 1).val < 2048 := (i 1).isLt
  let b : Fin 16 := ⟨(i 0).val / 1024, by omega⟩
  have hp : Value.pt8Of i = (pt b 7).val := by show 8 * _ + 7 = 8 * ((i 0).val / 1024) + 7; unfold Value.run8Of; omega
  unfold Value.G8
  rw [dif_pos (by rw [hp]; exact (pt b 7).isLt)]
  have e := Value.outsAt0_sweep m c (pt b 7).val (pt b 7).isLt
  have e2 := outs_last m c b (Value.loc8Of i)
  rw [e] at e2
  rw [Value.fold0_congr m c _ _ _ (by have := (pt b 7).isLt; omega) hp]
  refine e2.trans ?_
  congr 1
  · apply Fin.ext; show 1024 * ((i 0).val / 1024) + (i 0).val % 1024 = _; omega
  · apply Fin.ext; show (i 1).val % 2048 = _; omega

end Cert.FfnIdeal.Hand

end
-- ==== Proof.Ffn.Ref.lean ====
module

public import proofs.«01_k».proof.Proof.Gen.FfnRefIdeal.Read
public import proofs.«01_k».proof.Proof.Ffn.Spec
public import Idealize.ShloMosaic.Lib.Pointwise

@[expose] public section

set_option maxRecDepth 16384

noncomputable section

namespace Cert.FfnRefIdeal.Hand

open Cert.FfnRefIdeal Cert.FfnRefIdeal.Read Idealize.ShloMosaic Idealize.ShloMosaic.TcCoe Idealize.SL.Sem
open Cert.FfnSpec

/-! ## The arguments, by coordinates -/

/-- The residual stream, its two batches' rows one after the other. -/
def rX (x0 : (⟨S2x8192x2048, .f32⟩ : BufTy).Contents (Elt Ideal)) (R : Fin 16384) (k : Fin 2048) : EReal :=
  x0 (ix3 (bat R) ⟨R.val % 8192, Nat.mod_lt _ (by decide)⟩ k)
/-- Layer 1's norm weights, modulation vectors, weight matrices, and the final norm's weights. -/
def rG (x2 : (⟨S2x2048, .f32⟩ : BufTy).Contents (Elt Ideal)) (k : Fin 2048) : EReal := x2 (ix2 1 k)
def rM (x1 : (⟨S2x2x12288, .f32⟩ : BufTy).Contents (Elt Ideal)) (s : Fin 6) (b : Fin 2) (k : Fin 2048) : EReal :=
  x1 (ix3 1 b ⟨s.val * 2048 + k.val, by have := s.isLt; have := k.isLt; omega⟩)
def rW1 (x3 : (⟨S2x2048x8192, .f32⟩ : BufTy).Contents (Elt Ideal)) (k : Fin 2048) (f : Fin 8192) : EReal := x3 (ix3 1 k f)
def rW2 (x4 : (⟨S2x8192x2048, .f32⟩ : BufTy).Contents (Elt Ideal)) (f : Fin 8192) (k : Fin 2048) : EReal := x4 (ix3 1 f k)
def rFn (x5 : (⟨S2048, .f32⟩ : BufTy).Contents (Elt Ideal)) (k : Fin 2048) : EReal := x5 (ix1 k)

/-- The position in its batch of row `R` of the flattened array. -/
def pos (R : Fin 16384) : Fin 8192 := ⟨R.val % 8192, Nat.mod_lt _ (by decide)⟩

/-- The reference's normalised and modulated rows: the order of the three factors is the only difference to `hRow`. -/
theorem v30_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (R : Fin 16384) (k : Fin 2048) :
    val_main_v30 (F := Ideal) x0 x1 x2 (ix3 (bat R) (pos R) k) = hRow (rX x0) (rG x2) (rM x1 4) (rM x1 3) R k := by
  pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  unfold hRow
  rw [← mul_assoc]
  rfl

/-- The reference's feed-forward sum. -/
theorem v39_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (x3 : (⟨S2x2048x8192, .f32⟩ : BufTy).Contents (Elt Ideal)) (x4 : (⟨S2x8192x2048, .f32⟩ : BufTy).Contents (Elt Ideal)) (R : Fin 16384) (k : Fin 2048) :
    val_main_v39 (F := Ideal) x0 x1 x2 x3 x4 (ix3 (bat R) (pos R) k)
      = ffn (hRow (rX x0) (rG x2) (rM x1 4) (rM x1 3)) (rW1 x3) (rW2 x4) R k := by
  have hh := v30_at x0 x1 x2 R
  unfold val_main_v39 val_main_v38 val_main_v37 val_main_v36
  revert hh
  generalize val_main_v30 (F := Ideal) x0 x1 x2 = h
  intro hh
  pointwise [val_main_call0_cst, val_main_call0_v0, val_main_v32, val_main_v33, val_main_v34, val_main_v35]
  simp only [hh]
  rfl

/-- THE REFERENCE'S RESULT, at row `R` and lane `k`. -/
theorem v56_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (x3 : (⟨S2x2048x8192, .f32⟩ : BufTy).Contents (Elt Ideal)) (x4 : (⟨S2x8192x2048, .f32⟩ : BufTy).Contents (Elt Ideal)) (x5 : (⟨S2048, .f32⟩ : BufTy).Contents (Elt Ideal)) (R : Fin 16384) (k : Fin 2048) :
    val_main_v56 (F := Ideal) x0 x1 x2 x3 x4 x5 (ix2 R k)
      = out (res (rX x0) (rM x1 5) (ffn (hRow (rX x0) (rG x2) (rM x1 4) (rM x1 3)) (rW1 x3) (rW2 x4))) (rFn x5) R k := by
  have hh := v39_at x0 x1 x2 x3 x4 R
  unfold val_main_v56 val_main_v55 val_main_v52 val_main_v51 val_main_v50 val_main_v49 val_main_v48 val_main_v47 val_main_v46 val_main_v45 val_main_v44 val_main_v43 val_main_v42 val_main_v41
  revert hh
  generalize val_main_v39 (F := Ideal) x0 x1 x2 x3 x4 = h
  intro hh
  pointwise [val_main_cst_3, val_main_cst_4, val_main_cst_5, val_main_v53, val_main_v54,val_main_v0, val_main_v1, val_main_v2, val_main_v3, val_main_v4, val_main_v5, val_main_v6, val_main_v7,val_main_v31,val_main_v40]
  change (_ + _ * h (ix3 (bat R) (pos R) k)) * _ * _ = _
  unfold out res rinv
  simp only [← hh]
  rfl

end Cert.FfnRefIdeal.Hand

end
-- ==== Proof.Ffn.Eq.lean ====
module

public import proofs.«01_k».proof.Defs
public import proofs.«01_k».proof.Proof.Ffn.Array
public import proofs.«01_k».proof.Proof.Ffn.Ref

@[expose] public section

noncomputable section

namespace Cert.FfnEq

open Idealize.ShloMosaic Idealize.ShloMosaic.TcCoe Idealize.SL.Sem

/-- The array the call returns is the reference's, where their arguments agree. -/
theorem value_eq (m : (ℓ : Loc FfnIdeal.nD FfnIdeal.τ FfnIdeal.sig) → Buf (Elt Ideal) ℓ)
    (m' : (ℓ : Loc FfnRefIdeal.nD FfnRefIdeal.τ FfnRefIdeal.sig) → Buf (Elt Ideal) ℓ) (c : Dev FfnIdeal.nD)
    (h0 : m' ((c.tc : Thread FfnRefIdeal.nD FfnRefIdeal.τ).loc FfnRefIdeal.main_arg0) = m ((c.tc : Thread FfnIdeal.nD FfnIdeal.τ).loc FfnIdeal.main_arg0))
    (h1 : m' ((c.tc : Thread FfnRefIdeal.nD FfnRefIdeal.τ).loc FfnRefIdeal.main_arg1) = m ((c.tc : Thread FfnIdeal.nD FfnIdeal.τ).loc FfnIdeal.main_arg1))
    (h2 : m' ((c.tc : Thread FfnRefIdeal.nD FfnRefIdeal.τ).loc FfnRefIdeal.main_arg2) = m ((c.tc : Thread FfnIdeal.nD FfnIdeal.τ).loc FfnIdeal.main_arg2))
    (h3 : m' ((c.tc : Thread FfnRefIdeal.nD FfnRefIdeal.τ).loc FfnRefIdeal.main_arg3) = m ((c.tc : Thread FfnIdeal.nD FfnIdeal.τ).loc FfnIdeal.main_arg3))
    (h4 : m' ((c.tc : Thread FfnRefIdeal.nD FfnRefIdeal.τ).loc FfnRefIdeal.main_arg4) = m ((c.tc : Thread FfnIdeal.nD FfnIdeal.τ).loc FfnIdeal.main_arg4))
    (h5 : m' ((c.tc : Thread FfnRefIdeal.nD FfnRefIdeal.τ).loc FfnRefIdeal.main_arg5) = m ((c.tc : Thread FfnIdeal.nD FfnIdeal.τ).loc FfnIdeal.main_arg5)) :
    FfnRefIdeal.Value.res_main_v56 m' c = FfnIdeal.Value.G8 m c := by
  rw [FfnRefIdeal.Read.val_main_v56_eq, h0, h1, h2, h3, h4, h5]
  funext i
  refine Eq.trans ?_ (FfnIdeal.Hand.G8_eq m c i).symm
  obtain ⟨R, k, rfl⟩ : ∃ R k, i = ix2 R k := ⟨i 0, i 1, eq_ix2 i⟩
  exact FfnRefIdeal.Hand.v56_at _ _ _ _ _ _ R k

/-- The feed-forward call and its reference, read over the extended reals, run, agree and keep their arguments. -/
theorem algebraic [Cert.FfnIdeal.Facts] [Cert.FfnRefIdeal.Facts] : Cert.algebraic_FfnIdeal_FfnRefIdeal := by
  intro m g m' g' _ hagree
  refine ⟨fun c => FfnIdeal.Value.G8 m c, FfnIdeal.Value.run m g, ?_⟩
  refine (θ_run _ _ _).mono (fun r h c => ?_) (FfnRefIdeal.Value.run m' g')
  obtain ⟨h0, h1, h2, h3, h4, h5⟩ := hagree c
  exact ⟨(h c).1.trans (value_eq m m' c h0 h1 h2 h3 h4 h5), (h c).2⟩

end Cert.FfnEq

end
-- ==== Proof.Ffn0.Trips.lean ====
module

public import proofs.«01_k».proof.Proof.Gen.Ffn0Ideal.Value
public import Idealize.ShloMosaic.Lib.Pipeline.ValueKit
public import Idealize.ShloMosaic.Lib.Pointwise

@[expose] public section

set_option maxRecDepth 16384

noncomputable section

namespace Cert.Ffn0Ideal.Hand

open Cert.Ffn0Ideal Cert.Ffn0Ideal.Gen Idealize.ShloMosaic Idealize.ShloMosaic.TcCoe Idealize.SL.Sem

variable {F : FTy → Type} [FloatOps F]

theorem trip1_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (k0_h1 : k0_cond1 i = 1#1) (v21 : Vec F S1x2048 .f32) (v23 : Vec F S1x1x2048 .f32) (v28 : Vec F S1x1x2048 .f32) (X_arg2 : BufTy.Contents (Elt F) arg2.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 k0_h1 v21 v23 v28 X_arg2 k
      = [⟨Rect.unit (s := S1024x2048) (k0_off1 k) S256x2048.size (k0_off1_inb i k k0_h1),
          k0_pay1 v21 v23 v28 (arg2.view.readAt (Elt F) (Rect.unit (s := S1024x2048) (k0_off1 k) S256x2048.size (k0_off1_inb i k k0_h1)).toLoadRect X_arg2)⟩] := by
  unfold tripL_k0_t1 trip_k0_t1; rfl

theorem trip2_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (k0_h2 : k0_cond2 i = 1#1) (v21 : Vec F S1x1x2048 .f32) (X_arg2 : BufTy.Contents (Elt F) arg2.view.ty) (k : Fin k0_t2_loop.trips) (f : BufTy.Contents (Elt F) arg10.view.ty) :
    tripL_k0_t2 (F := F) 𝒱 c bd i arg2 harg2 arg3 harg3 arg4 harg4 arg5 harg5 arg6 harg6 arg7 harg7 arg8 harg8 arg9 harg9 arg10 harg10 arg11 harg11 k0_h2 v21 X_arg2 k f
      = [⟨Rect.unit (s := S1024x2048) (k0_off2 k) S256x2048.size (k0_off2_inb i k k0_h2),
          k0_pay4 v21 (arg2.view.readAt (Elt F) (Rect.unit (s := S1024x2048) (k0_off2 k) S256x2048.size (k0_off2_inb i k k0_h2)).toLoadRect X_arg2)
            (arg10.view.readAt (Elt F) (Rect.unit (s := S1024x2048) (k0_off2 k) S256x2048.size (k0_off2_inb i k k0_h2)).toLoadRect f)⟩] := by
  unfold tripL_k0_t2 trip_k0_t2; rfl

end Cert.Ffn0Ideal.Hand

end
-- ==== Proof.Ffn0.Block.lean ====
module

public import proofs.«01_k».proof.Proof.Ffn0.Trips
public import Idealize.ShloMosaic.Lib.Pipeline.CanonAppend

@[expose] public section

set_option maxRecDepth 16384

noncomputable section

namespace Cert.Ffn0Ideal.Hand

open Cert.Ffn0Ideal Cert.Ffn0Ideal.Gen Idealize.ShloMosaic Idealize.ShloMosaic.TcCoe Idealize.SL.Sem

/-- Both loops take their 256-row chunks in order: chunk `k` starts at row `256 k` and lane 0. -/
theorem off1_row : ∀ k : Fin k0_t1_loop.trips, k0_off1 k 0 = 256 * k.val := by decide +kernel
theorem off2_row : ∀ k : Fin k0_t2_loop.trips, k0_off2 k 0 = 256 * k.val := by decide +kernel
theorem trips1 : k0_t1_loop.trips = 4 := by decide +kernel
theorem trips2 : k0_t2_loop.trips = 4 := by decide +kernel

/-- The normalised and modulated rows: row `r` of `x` divided by its root mean square, times
    `g * (1 + sc)`, plus `sh`. -/
def hBlk (g : Vec Ideal S1x2048 .f32) (sc sh : Vec Ideal S1x1x2048 .f32) (x : Vec Ideal S1024x2048 .f32) :
    Vec Ideal S1024x2048 .bf16 := fun y =>
  x y * Ideal.rsqrt
      (Ideal.div (∑ k : Fin 2048, x (ix2 (y 0) k) * x (ix2 (y 0) k)) (Ideal.ofBits FTy.f32 1157627904#32)
        + Ideal.ofBits FTy.f32 897988541#32)
    * (g (ix2 0 (y 1)) * (1 + sc (ix3 0 0 (y 1)))) + sh (ix3 0 0 (y 1))

/-- The layer's last step: the residual stream plus the gated sum. -/
def fBlk (gate : Vec Ideal S1x1x2048 .f32) (x a : Vec Ideal S1024x2048 .f32) :
    Vec Ideal S1024x2048 .f32 := fun y => x y + gate (ix3 0 0 (y 1)) * a y

/-- One hidden tile's addition: the sum so far plus the squared positive part of `h @ w1`, times `w2`. -/
theorem pay3_apply (h : Vec Ideal S1024x2048 .bf16) (w1 : Vec Ideal S2048x1024 .bf16) (a : Vec Ideal S1024x2048 .f32)
    (w2 : Vec Ideal S1024x2048 .bf16) (y : S1024x2048.Idx) :
    k0_pay3 (F := Ideal) h w1 a w2 y = a y + ∑ f : Fin 1024,
        max (∑ k : Fin 2048, h (ix2 (y 0) k) * w1 (ix2 k f)) 0 * max (∑ k : Fin 2048, h (ix2 (y 0) k) * w1 (ix2 k f)) 0
          * w2 (ix2 f (y 1)) := by
  rw [eq_ix2 y]
  pointwise! [k0_pay3]

theorem pay2_apply (y : S1024x2048.Idx) : k0_pay2 (F := Ideal) y = 0 := by
  rw [eq_ix2 y]
  pointwise! [k0_pay2]

/-- What one trip of the first loop stores, at a row and a lane of its chunk. -/
theorem pay1_apply (g : Vec Ideal S1x2048 .f32) (sc sh : Vec Ideal S1x1x2048 .f32) (x : Vec Ideal S256x2048 .f32) (r : Fin 256) (c : Fin 2048) :
    k0_pay1 (F := Ideal) g sc sh x (ix2 r c) = x (ix2 r c) * Ideal.rsqrt
      (Ideal.div (∑ k : Fin 2048, x (ix2 r k) * x (ix2 r k)) (Ideal.ofBits FTy.f32 1157627904#32)
        + Ideal.ofBits FTy.f32 897988541#32)
    * (g (ix2 0 c) * (1 + sc (ix3 0 0 c))) + sh (ix3 0 0 c) := by
  pointwise! [k0_pay1]

/-- What one trip of the second loop stores, at a row and a lane of its chunk. -/
theorem pay4_apply (gate : Vec Ideal S1x1x2048 .f32) (x a : Vec Ideal S256x2048 .f32) (r : Fin 256) (c : Fin 2048) :
    k0_pay4 (F := Ideal) gate x a (ix2 r c) = x (ix2 r c) + gate (ix3 0 0 c) * a (ix2 r c) := by
  pointwise! [k0_pay4]

/-- A chunk of 256 rows sends row `r`, lane `k` of the chunk to lane `k` of one row of the block. -/
def IsChunk (E : S256x2048.Idx → S1024x2048.Idx) : Prop :=
  (∀ r k c, (ix2 (E (ix2 r c) 0) k : S1024x2048.Idx) = E (ix2 r k)) ∧ ∀ r c, E (ix2 r c) 1 = c

theorem chunk_unit {off : Fin 2 → ℕ} (inb : ∀ a, off a + S256x2048.size a ≤ S1024x2048.size a) (h1 : off 1 = 0) :
    IsChunk (fun y => (Rect.unit (s := S1024x2048) off S256x2048.size inb).emb y) := by
  refine ⟨fun r k c => ?_, fun r c => Fin.ext (by show off 1 + 1 * c.val = c.val; omega)⟩
  funext a
  match a with
  | ⟨0, _⟩ => rfl
  | ⟨1, _⟩ => exact Fin.ext (by show k.val = off 1 + 1 * k.val; omega)

/-- A chunk of 256 rows of `hBlk` is what one trip of the first loop stores. -/
theorem pay1_chunk (g : Vec Ideal S1x2048 .f32) (sc sh : Vec Ideal S1x1x2048 .f32) (x : Vec Ideal S1024x2048 .f32)
    (E : S256x2048.Idx → S1024x2048.Idx) (hE : IsChunk E) (y : S256x2048.Idx) :
    k0_pay1 (F := Ideal) g sc sh (fun z => x (E z)) y = hBlk g sc sh x (E y) := by
  obtain ⟨r, c, rfl⟩ : ∃ r c, y = ix2 r c := ⟨y 0, y 1, eq_ix2 y⟩
  rw [pay1_apply]
  unfold hBlk
  simp only [hE.1, hE.2]

/-- A chunk of 256 rows of `fBlk` is what one trip of the second loop stores. -/
theorem pay4_chunk (gate : Vec Ideal S1x1x2048 .f32) (x a : Vec Ideal S1024x2048 .f32)
    (E : S256x2048.Idx → S1024x2048.Idx) (hE : IsChunk E) (y : S256x2048.Idx) :
    k0_pay4 (F := Ideal) gate (fun z => x (E z)) (fun z => a (E z)) y = fBlk gate x a (E y) := by
  obtain ⟨r, c, rfl⟩ : ∃ r c, y = ix2 r c := ⟨y 0, y 1, eq_ix2 y⟩
  rw [pay4_apply]
  unfold fBlk
  simp only [hE.2]

/-- Every piece the first loop's trips store is a chunk of `hBlk`. -/
theorem pb1_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (h : k0_cond1 i = 1#1) (g : Vec Ideal S1x2048 .f32) (sc sh : Vec Ideal S1x1x2048 .f32)
    (x : Vec Ideal S1024x2048 .f32) : ∀ n, n ≤ k0_t1_loop.trips →
    ∀ p ∈ pb_k0_t1 (F := Ideal) Variants.none c none i arg2 harg2 arg3 harg3 arg4 harg4 arg5 harg5 arg6 harg6 arg7 harg7 arg8 harg8 arg9 harg9 arg10 harg10 arg11 harg11 h g sc sh (harg2.unread x) n, ∀ y : p.1.shape.Idx, p.2 y = hBlk g sc sh x (p.1.emb y)
  | 0, _ => fun p hp => absurd hp List.not_mem_nil
  | n + 1, hn => by
    intro p hp y
    rw [pb_k0_t1_succ Variants.none c none i arg2 harg2 arg3 harg3 arg4 harg4 arg5 harg5 arg6 harg6 arg7 harg7 arg8 harg8 arg9 harg9 arg10 harg10 arg11 harg11 h g sc sh (harg2.unread x) ⟨n, hn⟩, trip1_eq] at hp
    rcases List.mem_cons.mp hp with rfl | hp
    · rw [View.readAt_eq_ld, harg2.read_unread]
      exact pay1_chunk g sc sh x _ (chunk_unit _ rfl) y
    · exact pb1_pieces c i arg2 harg2 arg3 harg3 arg4 harg4 arg5 harg5 arg6 harg6 arg7 harg7 arg8 harg8 arg9 harg9 arg10 harg10 arg11 harg11 h g sc sh x n (by omega) p hp y

/-- The first `n` trips of the first loop cover the first `256 n` rows. -/
theorem pb1_cover (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (h : k0_cond1 i = 1#1) (g : Vec Ideal S1x2048 .f32) (sc sh : Vec Ideal S1x1x2048 .f32)
    (X : BufTy.Contents (Elt Ideal) arg2.view.ty) : ∀ n, n ≤ k0_t1_loop.trips → ∀ y : S1024x2048.Idx, (y 0).val < 256 * n →
    ∃ p ∈ pb_k0_t1 (F := Ideal) Variants.none c none i arg2 harg2 arg3 harg3 arg4 harg4 arg5 harg5 arg6 harg6 arg7 harg7 arg8 harg8 arg9 harg9 arg10 harg10 arg11 harg11 h g sc sh X n, y ∈ p.1.set
  | 0, _ => fun y hy => absurd hy (by omega)
  | n + 1, hn => by
    intro y hy
    rw [pb_k0_t1_succ Variants.none c none i arg2 harg2 arg3 harg3 arg4 harg4 arg5 harg5 arg6 harg6 arg7 harg7 arg8 harg8 arg9 harg9 arg10 harg10 arg11 harg11 h g sc sh X ⟨n, hn⟩, trip1_eq]
    by_cases hy' : (y 0).val < 256 * n
    · obtain ⟨p, hp, hm⟩ := pb1_cover c i arg2 harg2 arg3 harg3 arg4 harg4 arg5 harg5 arg6 harg6 arg7 harg7 arg8 harg8 arg9 harg9 arg10 harg10 arg11 harg11 h g sc sh X n (by omega) y hy'
      exact ⟨p, List.mem_cons_of_mem _ hp, hm⟩
    · refine ⟨_, List.mem_cons_self, ?_⟩
      rw [Rect.mem_set_unit]
      have h0 := off1_row ⟨n, hn⟩
      intro a
      match a with
      | ⟨0, _⟩ => show k0_off1 ⟨n, hn⟩ 0 ≤ (y 0).val ∧ (y 0).val < k0_off1 ⟨n, hn⟩ 0 + 256; rw [h0]; dsimp only; omega
      | ⟨1, _⟩ => exact ⟨Nat.zero_le _, by show (y 1).val < 0 + 2048; have : (y 1).val < 2048 := (y 1).isLt; omega⟩

/-- The first `n` trips of the second loop touch no row from `256 n` on. -/
theorem pb2_rows (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (h : k0_cond2 i = 1#1) (gate : Vec Ideal S1x1x2048 .f32)
    (X : BufTy.Contents (Elt Ideal) arg2.view.ty) (Y : BufTy.Contents (Elt Ideal) arg10.view.ty) : ∀ n, n ≤ k0_t2_loop.trips →
    ∀ p ∈ pb_k0_t2 (F := Ideal) Variants.none c none i arg2 harg2 arg3 harg3 arg4 harg4 arg5 harg5 arg6 harg6 arg7 harg7 arg8 harg8 arg9 harg9 arg10 harg10 arg11 harg11 h gate X Y n, ∀ y ∈ p.1.set, (y 0).val < 256 * n
  | 0, _ => fun p hp => absurd hp List.not_mem_nil
  | n + 1, hn => by
    intro p hp y hy
    rw [pb_k0_t2_succ Variants.none c none i arg2 harg2 arg3 harg3 arg4 harg4 arg5 harg5 arg6 harg6 arg7 harg7 arg8 harg8 arg9 harg9 arg10 harg10 arg11 harg11 h gate X Y ⟨n, hn⟩, trip2_eq] at hp
    rcases List.mem_cons.mp hp with rfl | hp
    · rw [Rect.mem_set_unit] at hy
      have h0 := off2_row ⟨n, hn⟩
      have := (hy 0).2
      change (y 0).val < k0_off2 ⟨n, hn⟩ 0 + 256 at this
      rw [h0] at this; dsimp only at this; omega
    · have := pb2_rows c i arg2 harg2 arg3 harg3 arg4 harg4 arg5 harg5 arg6 harg6 arg7 harg7 arg8 harg8 arg9 harg9 arg10 harg10 arg11 harg11 h gate X Y n (by omega) p hp y hy; omega

/-- Every piece the second loop's trips store is a chunk of `fBlk`, of the sum `a` the block held at entry: a trip reads
    its chunk before any trip stores there. -/
theorem pb2_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (h : k0_cond2 i = 1#1) (gate : Vec Ideal S1x1x2048 .f32)
    (x a : Vec Ideal S1024x2048 .f32) (Y : BufTy.Contents (Elt Ideal) arg10.view.ty) (hY : arg10.view.read (Elt Ideal) Y = a) : ∀ n, n ≤ k0_t2_loop.trips →
    ∀ p ∈ pb_k0_t2 (F := Ideal) Variants.none c none i arg2 harg2 arg3 harg3 arg4 harg4 arg5 harg5 arg6 harg6 arg7 harg7 arg8 harg8 arg9 harg9 arg10 harg10 arg11 harg11 h gate (harg2.unread x) Y n, ∀ y : p.1.shape.Idx, p.2 y = fBlk gate x a (p.1.emb y)
  | 0, _ => fun p hp => absurd hp List.not_mem_nil
  | n + 1, hn => by
    intro p hp y
    rw [pb_k0_t2_succ Variants.none c none i arg2 harg2 arg3 harg3 arg4 harg4 arg5 harg5 arg6 harg6 arg7 harg7 arg8 harg8 arg9 harg9 arg10 harg10 arg11 harg11 h gate (harg2.unread x) Y ⟨n, hn⟩, trip2_eq] at hp
    rcases List.mem_cons.mp hp with rfl | hp
    · rw [View.readAt_writes_of_forall_not_mem]
      · rw [View.readAt_eq_ld, harg2.read_unread, View.readAt_eq_ld, hY]
        exact pay4_chunk gate x a _ (chunk_unit _ rfl) y
      · intro j p hp hm
        have h1 := pb2_rows c i arg2 harg2 arg3 harg3 arg4 harg4 arg5 harg5 arg6 harg6 arg7 harg7 arg8 harg8 arg9 harg9 arg10 harg10 arg11 harg11 h gate (harg2.unread x) Y n (by omega) p hp _ hm
        have h0 := off2_row ⟨n, hn⟩
        change k0_off2 ⟨n, hn⟩ 0 + 1 * (j 0).val < 256 * n at h1
        rw [h0] at h1; dsimp only at h1; omega
    · exact pb2_pieces c i arg2 harg2 arg3 harg3 arg4 harg4 arg5 harg5 arg6 harg6 arg7 harg7 arg8 harg8 arg9 harg9 arg10 harg10 arg11 harg11 h gate x a Y hY n (by omega) p hp y

/-- The first `n` trips of the second loop cover the first `256 n` rows. -/
theorem pb2_cover (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (h : k0_cond2 i = 1#1) (gate : Vec Ideal S1x1x2048 .f32)
    (X : BufTy.Contents (Elt Ideal) arg2.view.ty) (Y : BufTy.Contents (Elt Ideal) arg10.view.ty) : ∀ n, n ≤ k0_t2_loop.trips → ∀ y : S1024x2048.Idx, (y 0).val < 256 * n →
    ∃ p ∈ pb_k0_t2 (F := Ideal) Variants.none c none i arg2 harg2 arg3 harg3 arg4 harg4 arg5 harg5 arg6 harg6 arg7 harg7 arg8 harg8 arg9 harg9 arg10 harg10 arg11 harg11 h gate X Y n, y ∈ p.1.set
  | 0, _ => fun y hy => absurd hy (by omega)
  | n + 1, hn => by
    intro y hy
    rw [pb_k0_t2_succ Variants.none c none i arg2 harg2 arg3 harg3 arg4 harg4 arg5 harg5 arg6 harg6 arg7 harg7 arg8 harg8 arg9 harg9 arg10 harg10 arg11 harg11 h gate X Y ⟨n, hn⟩, trip2_eq]
    by_cases hy' : (y 0).val < 256 * n
    · obtain ⟨p, hp, hm⟩ := pb2_cover c i arg2 harg2 arg3 harg3 arg4 harg4 arg5 harg5 arg6 harg6 arg7 harg7 arg8 harg8 arg9 harg9 arg10 harg10 arg11 harg11 h gate X Y n (by omega) y hy'
      exact ⟨p, List.mem_cons_of_mem _ hp, hm⟩
    · refine ⟨_, List.mem_cons_self, ?_⟩
      rw [Rect.mem_set_unit]
      have h0 := off2_row ⟨n, hn⟩
      intro a
      match a with
      | ⟨0, _⟩ => show k0_off2 ⟨n, hn⟩ 0 ≤ (y 0).val ∧ (y 0).val < k0_off2 ⟨n, hn⟩ 0 + 256; rw [h0]; dsimp only; omega
      | ⟨1, _⟩ => exact ⟨Nat.zero_le _, by show (y 1).val < 0 + 2048; have : (y 1).val < 2048 := (y 1).isLt; omega⟩

/-- THE FIRST POINT OF A ROW BLOCK leaves the block's normalised rows in the scratch … -/
theorem sA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 x7 = hBlk x1 x3 x2 x0 := by
  frame_open
  frame_out
  funext y
  refine View.canon_apply_of_pieces _ _ (pb1_pieces c i arg2 harg2 arg3 harg3 arg4 harg4 arg5 harg5 arg6 harg6 arg7 harg7 arg8 harg8 arg9 harg9 arg10 harg10 arg11 harg11 hc0 x1 x3 x2 x0 _ le_rfl) y
    (pb1_cover c i arg2 harg2 arg3 harg3 arg4 harg4 arg5 harg5 arg6 harg6 arg7 harg7 arg8 harg8 arg9 harg9 arg10 harg10 arg11 harg11 hc0 x1 x3 x2 _ _ le_rfl y ?_)
  have : (y 0).val < 1024 := (y 0).isLt
  rw [trips1]; omega

/-- … and the first hidden tile's addition to zero in the output block. -/
theorem oA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) :
    out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 = k0_pay3 (hBlk x1 x3 x2 x0) x5 (k0_pay2 (F := Ideal)) x6 := by
  frame_out
  congr 1
  rw [View.readCov_eq_canon']
  funext y
  have hy : (Rect.unit (s := S1024x2048) ![0, 0] ![1024, 2048] inb_S1024x2048_S1024x2048_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  rw [hy]
  refine View.canon_apply_of_pieces _ _ (pb1_pieces c i arg2 harg2 arg3 harg3 arg4 harg4 arg5 harg5 arg6 harg6 arg7 harg7 arg8 harg8 arg9 harg9 arg10 harg10 arg11 harg11 hc0 x1 x3 x2 x0 _ le_rfl) y
    (pb1_cover c i arg2 harg2 arg3 harg3 arg4 harg4 arg5 harg5 arg6 harg6 arg7 harg7 arg8 harg8 arg9 harg9 arg10 harg10 arg11 harg11 hc0 x1 x3 x2 _ _ le_rfl y ?_)
  have : (y 0).val < 1024 := (y 0).isLt
  rw [trips1]; omega

/-- A later point adds its hidden tile to what the block held. -/
theorem oB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : ¬cond0_1 i) (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) (xo8 : Vec Ideal S1024x2048 .f32) (xs0 : Vec Ideal S1024x2048 .bf16) :
    out0_B_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xo8 xs0 = k0_pay3 xs0 x5 xo8 x6 := by
  frame_out

/-- The last point of a row block adds its hidden tile and finishes the rows. -/
theorem oC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : cond0_1 i) (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S2048x1024 .bf16) (x6 : Vec Ideal S1024x2048 .bf16) (x7 : Vec Ideal S1x2048 .f32) (xo8 : Vec Ideal S1024x2048 .f32) (xs0 : Vec Ideal S1024x2048 .bf16) :
    out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xo8 xs0 = fBlk x4 x0 (k0_pay3 xs0 x5 xo8 x6) := by
  frame_out
  funext y
  refine View.canon_append_of_pieces _ _ _ (pb2_pieces c i arg2 harg2 arg3 harg3 arg4 harg4 arg5 harg5 arg6 harg6 arg7 harg7 arg8 harg8 arg9 harg9 arg10 harg10 arg11 harg11 hc1 x4 x0 _ _ ?_ _ le_rfl) y
    (pb2_cover c i arg2 harg2 arg3 harg3 arg4 harg4 arg5 harg5 arg6 harg6 arg7 harg7 arg8 harg8 arg9 harg9 arg10 harg10 arg11 harg11 hc1 x4 _ _ _ le_rfl y ?_)
  · rw [View.read_writes_junk_eq_canon]
    exact View.canon_cons_unit_lit _ _ _ (by decide)
  · have : (y 0).val < 1024 := (y 0).isLt
    rw [trips2]; omega

end Cert.Ffn0Ideal.Hand

end
-- ==== Proof.Ffn0.Array.lean ====
module

public import proofs.«01_k».proof.Proof.Ffn0.Block
public import proofs.«01_k».proof.Proof.Ffn.Spec
public import Idealize.ShloMosaic.Lib.StableHlo.ReadAt

@[expose] public section

set_option maxRecDepth 16384

noncomputable section

namespace Cert.Ffn0Ideal.Hand

open Cert.Ffn0Ideal Cert.Ffn0Ideal.Gen Idealize.ShloMosaic Idealize.ShloMosaic.TcCoe Idealize.SL.Sem

open Cert.FfnSpec

variable (m : (ℓ : Loc nD τ sig) → Buf (Elt Ideal) ℓ) (c : Dev nD)

/-! ## The arguments, by coordinates -/

/-- The residual stream, its two batches' rows one after the other. -/
def X (R : Fin 16384) (k : Fin 2048) : EReal :=
  m ((c : Thread nD τ).loc main_arg0) (ix3 (bat R) ⟨R.val % 8192, Nat.mod_lt _ (by decide)⟩ k)
/-- Layer 0's norm weights. -/
def G (k : Fin 2048) : EReal := m ((c : Thread nD τ).loc main_arg2) (ix2 0 k)
/-- Layer 0's modulation vector `s` of 6. -/
def M (s : Fin 6) (b : Fin 2) (k : Fin 2048) : EReal :=
  m ((c : Thread nD τ).loc main_arg1) (ix3 0 b ⟨s.val * 2048 + k.val, by have := s.isLt; have := k.isLt; omega⟩)
/-- Layer 0's two weight matrices. -/
def W1 (k : Fin 2048) (f : Fin 8192) : EReal := m ((c : Thread nD τ).loc main_arg3) (ix3 0 k f)
def W2 (f : Fin 8192) (k : Fin 2048) : EReal := m ((c : Thread nD τ).loc main_arg4) (ix3 0 f k)
/-! ## The arrays the region reads, by the arguments -/

theorem V0 (z : S16384x2048.Idx) : V m c main_v0 z = X m c (z 0) (z 1) := by
  idx_vars z
  after_reads_at
  unfold X
  rfl
theorem V3 (z : S1x2048.Idx) : V m c main_v3 z = G m c (z 1) := by
  idx_vars z
  after_reads_at
  unfold G
  rfl
theorem V6 (s : Fin 6) (b : Fin 2) (k : Fin 2048) (z : S24x1x2048.Idx) (h0 : (z 0).val = 2 * s.val + b.val) (h2 : z 2 = k) :
    V m c main_v6 z = M m c s b k := by
  idx_vars z
  after_reads_at
  unfold M
  refine congrArg (m ((c : Thread nD τ).loc main_arg1)) ?_
  have hs := s.isLt
  have hb := b.isLt
  have a0 : z0.val / 12 = 0 := by omega
  have a1 : z0.val % 2 = b.val := by omega
  have a2 : z0.val / 2 % 6 * 2048 + z2.val = s.val * 2048 + k.val := by
    have e : z2 = k := h2
    rw [e]; omega
  funext a
  match a with
  | ⟨0, _⟩ => exact Fin.ext a0
  | ⟨1, _⟩ => exact Fin.ext a1
  | ⟨2, _⟩ => exact Fin.ext a2
theorem V9 (z : S2048x8192.Idx) : V m c main_v9 z = W1 m c (z 0) (z 1) := by
  idx_vars z
  after_reads_at
  unfold W1
  rfl
theorem V12 (z : S8192x2048.Idx) : V m c main_v12 z = W2 m c (z 0) (z 1) := by
  idx_vars z
  after_reads_at
  unfold W2
  rfl
/-! ## The blocks of a point of row block `b` and hidden tile `j` -/

theorem i0 : ∀ t : Fin cfg0.N, win0_0.index t = ![t.val / 8, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![6 + t.val / 64, 0, 0] := (by decide +kernel : ∀ t : Fin grid0.N, _)
theorem i3 : ∀ t : Fin cfg0.N, win0_3.index t = ![8 + t.val / 64, 0, 0] := (by decide +kernel : ∀ t : Fin grid0.N, _)
theorem i4 : ∀ t : Fin cfg0.N, win0_4.index t = ![10 + t.val / 64, 0, 0] := (by decide +kernel : ∀ t : Fin grid0.N, _)
theorem i5 : ∀ t : Fin cfg0.N, win0_5.index t = ![0, t.val % 8] := (by decide +kernel : ∀ t : Fin grid0.N, _)
theorem i6 : ∀ t : Fin cfg0.N, win0_6.index t = ![t.val % 8, 0] := (by decide +kernel : ∀ t : Fin grid0.N, _)

/-- Row `r` of row block `b`, and hidden unit `f` of tile `j`. -/
def row (b : Fin 16) (r : Fin 1024) : Fin 16384 := ⟨1024 * b.val + r.val, by have := b.isLt; have := r.isLt; omega⟩
def unit (j : Fin 8) (f : Fin 1024) : Fin 8192 := ⟨j.val * 1024 + f.val, by have := j.isLt; have := f.isLt; omega⟩
/-- The point of row block `b` and hidden tile `j`. -/
def pt (b : Fin 16) (j : Fin 8) : Fin cfg0.N := ⟨8 * b.val + j.val, by have := b.isLt; have := j.isLt; show _ < 128; omega⟩

variable (b : Fin 16) (j : Fin 8)

theorem pt_div : (pt b j).val / 8 = b.val := by unfold pt; dsimp only; have := j.isLt; omega
theorem pt_mod : (pt b j).val % 8 = j.val := by unfold pt; dsimp only; have := j.isLt; omega
theorem bat_row (r : Fin 1024) : bat (row b r) = ⟨b.val / 8, by have := b.isLt; omega⟩ := by
  unfold bat row; apply Fin.ext; dsimp only; have := b.isLt; have := r.isLt; omega

theorem b0' (r : Fin 1024) (k : Fin 2048) : iblk m c 0 (pt b j) (ix2 r k) = X m c (row b r) k := by
  have hd := pt_div b j
  blk_simp [iblk, i0]
  rw [V0]
  refine congrArg₂ (X m c) (Fin.ext ?_) (Fin.ext ?_)
  · blk_simp [i0, hd]; show b.val * 1024 + r.val = 1024 * b.val + r.val; omega
  · blk_simp [i0]
theorem b0 (y : S1024x2048.Idx) : iblk m c 0 (pt b j) y = X m c (row b (y 0)) (y 1) := by
  obtain ⟨r, k, rfl⟩ : ∃ r k, y = ix2 r k := ⟨y 0, y 1, eq_ix2 y⟩
  exact b0' m c b j r k
theorem b1 (k : Fin 2048) : iblk m c 1 (pt b j) (ix2 0 k) = G m c k := by
  blk_simp [iblk, i1]
  rw [V3]
  congr 1; apply Fin.ext; blk_simp [i1]
theorem b2 (r : Fin 1024) (k : Fin 2048) : iblk m c 2 (pt b j) (ix3 0 0 k) = M m c 3 (bat (row b r)) k := by
  have hd := pt_div b j
  have e : (pt b j).val / 64 = b.val / 8 := by omega
  blk_simp [iblk, i2]
  rw [bat_row]
  apply V6
  · blk_simp [i2, e]; rfl
  · apply Fin.ext; blk_simp [i2]
theorem b3 (r : Fin 1024) (k : Fin 2048) : iblk m c 3 (pt b j) (ix3 0 0 k) = M m c 4 (bat (row b r)) k := by
  have hd := pt_div b j
  have e : (pt b j).val / 64 = b.val / 8 := by omega
  blk_simp [iblk, i3]
  rw [bat_row]
  apply V6
  · blk_simp [i3, e]; rfl
  · apply Fin.ext; blk_simp [i3]
theorem b4 (r : Fin 1024) (k : Fin 2048) : iblk m c 4 (pt b j) (ix3 0 0 k) = M m c 5 (bat (row b r)) k := by
  have hd := pt_div b j
  have e : (pt b j).val / 64 = b.val / 8 := by omega
  blk_simp [iblk, i4]
  rw [bat_row]
  apply V6
  · blk_simp [i4, e]; rfl
  · apply Fin.ext; blk_simp [i4]
theorem b5 (k : Fin 2048) (f : Fin 1024) : iblk m c 5 (pt b j) (ix2 k f) = W1 m c k (unit j f) := by
  have hd := pt_mod b j
  blk_simp [iblk, i5]
  rw [V9]
  refine congrArg₂ (W1 m c) (Fin.ext ?_) (Fin.ext ?_)
  · blk_simp [i5]
  · blk_simp [i5, hd, unit]
theorem b6 (k : Fin 2048) (f : Fin 1024) : iblk m c 6 (pt b j) (ix2 f k) = W2 m c (unit j f) k := by
  have hd := pt_mod b j
  blk_simp [iblk, i6]
  rw [V12]
  refine congrArg₂ (W2 m c) (Fin.ext ?_) (Fin.ext ?_)
  · blk_simp [i6, hd, unit]
  · blk_simp [i6]
/-! ## What a row block's points leave -/

/-- The normalised rows of the whole array. -/
def Hh : Fin 16384 → Fin 2048 → EReal := hRow (X m c) (G m c) (M m c 4) (M m c 3)

/-- `hBlk` of blocks known by coordinates. -/
theorem hBlk_of {g : Vec Ideal S1x2048 .f32} {sc sh : Vec Ideal S1x1x2048 .f32} {x : Vec Ideal S1024x2048 .f32}
    {g' sc' sh' : Fin 2048 → EReal} {x' : Fin 1024 → Fin 2048 → EReal} (hg : ∀ k, g (ix2 0 k) = g' k)
    (hsc : ∀ k, sc (ix3 0 0 k) = sc' k) (hsh : ∀ k, sh (ix3 0 0 k) = sh' k) (hx : ∀ r k, x (ix2 r k) = x' r k) (r : Fin 1024) (k : Fin 2048) :
    hBlk g sc sh x (ix2 r k) = x' r k * Ideal.rsqrt (Ideal.div (∑ k : Fin 2048, x' r k * x' r k) (Ideal.ofBits FTy.f32 1157627904#32)
        + Ideal.ofBits FTy.f32 897988541#32) * (g' k * (1 + sc' k)) + sh' k := by
  have e : hBlk g sc sh x (ix2 r k) = x (ix2 r k) * Ideal.rsqrt (Ideal.div (∑ k : Fin 2048, x (ix2 r k) * x (ix2 r k)) (Ideal.ofBits FTy.f32 1157627904#32)
        + Ideal.ofBits FTy.f32 897988541#32) * (g (ix2 0 k) * (1 + sc (ix3 0 0 k))) + sh (ix3 0 0 k) := rfl
  rw [e]
  simp only [hg, hsc, hsh, hx]

/-- `fBlk` of blocks known by coordinates. -/
theorem fBlk_of {gate : Vec Ideal S1x1x2048 .f32} {x a : Vec Ideal S1024x2048 .f32}
    {gate' : Fin 2048 → EReal} {x' a' : Fin 1024 → Fin 2048 → EReal} (hg : ∀ k, gate (ix3 0 0 k) = gate' k)
    (hx : ∀ r k, x (ix2 r k) = x' r k) (ha : ∀ r k, a (ix2 r k) = a' r k) (r : Fin 1024) (k : Fin 2048) :
    fBlk gate x a (ix2 r k) = x' r k + gate' k * a' r k := by
  have e : fBlk gate x a (ix2 r k) = x (ix2 r k) + gate (ix3 0 0 k) * a (ix2 r k) := rfl
  rw [e, hg, hx, ha]

theorem hBlk_eq (y : S1024x2048.Idx) :
    hBlk (iblk m c 1 (pt b j)) (iblk m c 3 (pt b j)) (iblk m c 2 (pt b j)) (iblk m c 0 (pt b j)) y = Hh m c (row b (y 0)) (y 1) := by
  obtain ⟨r, k, rfl⟩ : ∃ r k, y = ix2 r k := ⟨y 0, y 1, eq_ix2 y⟩
  exact hBlk_of (x' := fun r k => X m c (row b r) k) (b1 m c b j) (b3 m c b j r) (b2 m c b j r) (b0' m c b j) r k

/-- One hidden tile's part of the feed-forward sum. -/
def tile (j : Fin 8) (R : Fin 16384) (k : Fin 2048) : EReal :=
  ∑ f : Fin 1024, act (Hh m c) (W1 m c) R (unit j f) * act (Hh m c) (W1 m c) R (unit j f) * W2 m c (unit j f) k

/-- A point adds its hidden tile's part. -/
theorem pay3_eq (h : Vec Ideal S1024x2048 .bf16) (hh : ∀ y : S1024x2048.Idx, h y = Hh m c (row b (y 0)) (y 1))
    (a : Vec Ideal S1024x2048 .f32) (y : S1024x2048.Idx) :
    k0_pay3 (F := Ideal) h (iblk m c 5 (pt b j)) a (iblk m c 6 (pt b j)) y = a y + tile m c j (row b (y 0)) (y 1) := by
  rw [pay3_apply]
  obtain ⟨r, k, rfl⟩ : ∃ r k, y = ix2 r k := ⟨y 0, y 1, eq_ix2 y⟩
  unfold tile act
  refine congrArg (a (ix2 r k) + ·) (Finset.sum_congr rfl fun f _ => ?_)
  have e1 : ∀ x : Fin 2048, h (ix2 r x) * iblk m c 5 (pt b j) (ix2 x f) = Hh m c (row b r) x * W1 m c x (unit j f) :=
    fun x => congrArg₂ (· * ·) (hh (ix2 r x)) (b5 m c b j x f)
  have e2 := Finset.sum_congr (rfl : (Finset.univ : Finset (Fin 2048)) = Finset.univ) fun x _ => e1 x
  exact congrArg₂ (· * ·) (congrArg₂ (· * ·) (congrArg (max · 0) e2) (congrArg (max · 0) e2)) (b6 m c b j k f)

/-- The sum of the tiles up to `j`. -/
def upto (n : ℕ) (R : Fin 16384) (k : Fin 2048) : EReal :=
  ∑ i ∈ Finset.range n, if h : i < 8 then tile m c ⟨i, h⟩ R k else 0

/-- THE INVARIANT over a row block's points but the last: the scratch holds the block's normalised rows, the output
    block the tiles added so far. -/
theorem outs_lt : ∀ (n : ℕ) (hn : n < 7) (y : S1024x2048.Idx),
    (outsAt0 m c (pt b ⟨n, by omega⟩).val (pt b ⟨n, by omega⟩).isLt).1 y = upto m c (n + 1) (row b (y 0)) (y 1)
      ∧ (outsAt0 m c (pt b ⟨n, by omega⟩).val (pt b ⟨n, by omega⟩).isLt).2 y = Hh m c (row b (y 0)) (y 1)
  | 0, _ => by
    intro y
    have hm := pt_mod b ⟨0, by omega⟩
    rw [outsAt0_A m c (pt b ⟨0, by omega⟩) (by rw [hm]) (by rw [hm]; decide)]
    dsimp only
    rw [oA, sA]
    refine ⟨?_, hBlk_eq m c b _ y⟩
    rw [pay3_eq m c b _ _ (hBlk_eq m c b _), pay2_apply, zero_add]
    unfold upto
    rw [Finset.sum_range_one, dif_pos (by omega)]
  | n + 1, hn => by
    intro y
    have hm := pt_mod b ⟨n + 1, by omega⟩
    rw [outsAt0_B m c (pt b ⟨n + 1, by omega⟩) (by rw [hm]; dsimp only; omega) (by rw [hm]; dsimp only; omega)]
    have ih := outs_lt n (by omega)
    have e : (outsAt0 m c ((pt b ⟨n + 1, by omega⟩).val - 1) (Nat.lt_of_le_of_lt (Nat.sub_le _ _) (pt b ⟨n + 1, by omega⟩).isLt))
      = outsAt0 m c (pt b ⟨n, by omega⟩).val (pt b ⟨n, by omega⟩).isLt := rfl
    rw [e]
    dsimp only
    rw [oB]
    refine ⟨?_, (ih y).2⟩
    rw [pay3_eq m c b _ _ (fun y => (ih y).2), (ih y).1]
    unfold upto
    rw [Finset.sum_range_succ _ (n + 1), dif_pos (by omega)]

/-- All eight tiles make the feed-forward sum. -/
theorem upto_eight (R : Fin 16384) (k : Fin 2048) : upto m c 8 R k = ffn (Hh m c) (W1 m c) (W2 m c) R k := by
  unfold upto ffn
  rw [Finset.sum_range]
  simp only [Fin.is_lt, dif_pos, Fin.eta]
  unfold tile
  exact Fin.sum_mul_add_congr fun s k hl => rfl

/-- The last point of a row block leaves the finished rows. -/
theorem outs_last (y : S1024x2048.Idx) :
    (outsAt0 m c (pt b 7).val (pt b 7).isLt).1 y
      = res (X m c) (M m c 5) (ffn (Hh m c) (W1 m c) (W2 m c)) (row b (y 0)) (y 1) := by
  have hm := pt_mod b 7
  rw [outsAt0_C m c (pt b 7) (by rw [hm]; decide) (by rw [hm]; rfl)]
  have ih := outs_lt m c b 6 (by omega)
  have e : (outsAt0 m c ((pt b 7).val - 1) (Nat.lt_of_le_of_lt (Nat.sub_le _ _) (pt b 7).isLt))
    = outsAt0 m c (pt b ⟨6, by omega⟩).val (pt b ⟨6, by omega⟩).isLt := rfl
  rw [e]
  dsimp only
  rw [oC]
  have hs : ∀ z : S1024x2048.Idx, k0_pay3 (F := Ideal) (outsAt0 m c (pt b ⟨6, by omega⟩).val (pt b ⟨6, by omega⟩).isLt).2 (iblk m c 5 (pt b 7))
      (outsAt0 m c (pt b ⟨6, by omega⟩).val (pt b ⟨6, by omega⟩).isLt).1 (iblk m c 6 (pt b 7)) z
      = ffn (Hh m c) (W1 m c) (W2 m c) (row b (z 0)) (z 1) := by
    intro z
    rw [pay3_eq m c b _ _ (fun y => (ih y).2), (ih z).1]
    refine Eq.trans ?_ (upto_eight m c (row b (z 0)) (z 1))
    unfold upto
    rw [Finset.sum_range_succ _ 7, dif_pos (by omega)]
    rfl
  obtain ⟨r, k, rfl⟩ : ∃ r k, y = ix2 r k := ⟨y 0, y 1, eq_ix2 y⟩
  exact fBlk_of (x' := fun r k => X m c (row b r) k) (a' := fun r k => ffn (Hh m c) (W1 m c) (W2 m c) (row b r) k)
    (b4 m c b 7 r) (b0' m c b 7) (fun r k => hs (ix2 r k)) r k

/-- THE ARRAY the call returns, at row `R` and lane `k`. -/
theorem G8_eq (i : S16384x2048.Idx) :
    Value.G8 m c i = res (X m c) (M m c 5) (ffn (Hh m c) (W1 m c) (W2 m c)) (i 0) (i 1) := by
  have h0 : (i 0).val < 16384 := (i 0).isLt
  have h1 : (i 1).val < 2048 := (i 1).isLt
  let b : Fin 16 := ⟨(i 0).val / 1024, by omega⟩
  have hp : Value.pt8Of i = (pt b 7).val := by show 8 * _ + 7 = 8 * ((i 0).val / 1024) + 7; unfold Value.run8Of; omega
  unfold Value.G8
  rw [dif_pos (by rw [hp]; exact (pt b 7).isLt)]
  have e := Value.outsAt0_sweep m c (pt b 7).val (pt b 7).isLt
  have e2 := outs_last m c b (Value.loc8Of i)
  rw [e] at e2
  rw [Value.fold0_congr m c _ _ _ (by have := (pt b 7).isLt; omega) hp]
  refine e2.trans ?_
  congr 1
  · apply Fin.ext; show 1024 * ((i 0).val / 1024) + (i 0).val % 1024 = _; omega
  · apply Fin.ext; show (i 1).val % 2048 = _; omega

end Cert.Ffn0Ideal.Hand

end
-- ==== Proof.Ffn0.Ref.lean ====
module

public import proofs.«01_k».proof.Proof.Gen.Ffn0RefIdeal.Read
public import proofs.«01_k».proof.Proof.Ffn.Spec
public import Idealize.ShloMosaic.Lib.Pointwise

@[expose] public section

set_option maxRecDepth 16384

noncomputable section

namespace Cert.Ffn0RefIdeal.Hand

open Cert.Ffn0RefIdeal Cert.Ffn0RefIdeal.Read Idealize.ShloMosaic Idealize.ShloMosaic.TcCoe Idealize.SL.Sem
open Cert.FfnSpec

/-! ## The arguments, by coordinates -/

/-- The residual stream, its two batches' rows one after the other. -/
def rX (x0 : (⟨S2x8192x2048, .f32⟩ : BufTy).Contents (Elt Ideal)) (R : Fin 16384) (k : Fin 2048) : EReal :=
  x0 (ix3 (bat R) ⟨R.val % 8192, Nat.mod_lt _ (by decide)⟩ k)
/-- Layer 0's norm weights, modulation vectors and weight matrices. -/
def rG (x2 : (⟨S2x2048, .f32⟩ : BufTy).Contents (Elt Ideal)) (k : Fin 2048) : EReal := x2 (ix2 0 k)
def rM (x1 : (⟨S2x2x12288, .f32⟩ : BufTy).Contents (Elt Ideal)) (s : Fin 6) (b : Fin 2) (k : Fin 2048) : EReal :=
  x1 (ix3 0 b ⟨s.val * 2048 + k.val, by have := s.isLt; have := k.isLt; omega⟩)
def rW1 (x3 : (⟨S2x2048x8192, .f32⟩ : BufTy).Contents (Elt Ideal)) (k : Fin 2048) (f : Fin 8192) : EReal := x3 (ix3 0 k f)
def rW2 (x4 : (⟨S2x8192x2048, .f32⟩ : BufTy).Contents (Elt Ideal)) (f : Fin 8192) (k : Fin 2048) : EReal := x4 (ix3 0 f k)

/-- The position in its batch of row `R` of the flattened array. -/
def pos (R : Fin 16384) : Fin 8192 := ⟨R.val % 8192, Nat.mod_lt _ (by decide)⟩

/-- The reference's normalised and modulated rows: the order of the three factors is the only difference to `hRow`. -/
theorem v30_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (R : Fin 16384) (k : Fin 2048) :
    val_main_v30 (F := Ideal) x0 x1 x2 (ix3 (bat R) (pos R) k) = hRow (rX x0) (rG x2) (rM x1 4) (rM x1 3) R k := by
  pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  unfold hRow
  rw [← mul_assoc]
  rfl

/-- The reference's feed-forward sum. -/
theorem v39_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (x3 : (⟨S2x2048x8192, .f32⟩ : BufTy).Contents (Elt Ideal)) (x4 : (⟨S2x8192x2048, .f32⟩ : BufTy).Contents (Elt Ideal)) (R : Fin 16384) (k : Fin 2048) :
    val_main_v39 (F := Ideal) x0 x1 x2 x3 x4 (ix3 (bat R) (pos R) k)
      = ffn (hRow (rX x0) (rG x2) (rM x1 4) (rM x1 3)) (rW1 x3) (rW2 x4) R k := by
  have hh := v30_at x0 x1 x2 R
  unfold val_main_v39 val_main_v38 val_main_v37 val_main_v36
  revert hh
  generalize val_main_v30 (F := Ideal) x0 x1 x2 = h
  intro hh
  pointwise [val_main_call0_cst, val_main_call0_v0, val_main_v32, val_main_v33, val_main_v34, val_main_v35]
  simp only [hh]
  rfl

/-- THE REFERENCE'S RESULT, at row `R` and lane `k`. -/
theorem v43_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (x3 : (⟨S2x2048x8192, .f32⟩ : BufTy).Contents (Elt Ideal)) (x4 : (⟨S2x8192x2048, .f32⟩ : BufTy).Contents (Elt Ideal)) (R : Fin 16384) (k : Fin 2048) :
    val_main_v43 (F := Ideal) x0 x1 x2 x3 x4 (ix2 R k)
      = res (rX x0) (rM x1 5) (ffn (hRow (rX x0) (rG x2) (rM x1 4) (rM x1 3)) (rW1 x3) (rW2 x4)) R k := by
  have hh := v39_at x0 x1 x2 x3 x4 R
  unfold val_main_v43 val_main_v42 val_main_v41
  revert hh
  generalize val_main_v39 (F := Ideal) x0 x1 x2 x3 x4 = h
  intro hh
  pointwise [val_main_v0, val_main_v1, val_main_v7, val_main_v31, val_main_v40]
  change _ + _ * h (ix3 (bat R) (pos R) k) = _
  unfold res
  rw [← hh]
  rfl

end Cert.Ffn0RefIdeal.Hand

end
-- ==== Proof.Ffn0.Eq.lean ====
module

public import proofs.«01_k».proof.Defs
public import proofs.«01_k».proof.Proof.Ffn0.Array
public import proofs.«01_k».proof.Proof.Ffn0.Ref

@[expose] public section

noncomputable section

namespace Cert.Ffn0Eq

open Idealize.ShloMosaic Idealize.ShloMosaic.TcCoe Idealize.SL.Sem

/-- The array the call returns is the reference's, where their arguments agree. -/
theorem value_eq (m : (ℓ : Loc Ffn0Ideal.nD Ffn0Ideal.τ Ffn0Ideal.sig) → Buf (Elt Ideal) ℓ)
    (m' : (ℓ : Loc Ffn0RefIdeal.nD Ffn0RefIdeal.τ Ffn0RefIdeal.sig) → Buf (Elt Ideal) ℓ) (c : Dev Ffn0Ideal.nD)
    (h0 : m' ((c.tc : Thread Ffn0RefIdeal.nD Ffn0RefIdeal.τ).loc Ffn0RefIdeal.main_arg0) = m ((c.tc : Thread Ffn0Ideal.nD Ffn0Ideal.τ).loc Ffn0Ideal.main_arg0))
    (h1 : m' ((c.tc : Thread Ffn0RefIdeal.nD Ffn0RefIdeal.τ).loc Ffn0RefIdeal.main_arg1) = m ((c.tc : Thread Ffn0Ideal.nD Ffn0Ideal.τ).loc Ffn0Ideal.main_arg1))
    (h2 : m' ((c.tc : Thread Ffn0RefIdeal.nD Ffn0RefIdeal.τ).loc Ffn0RefIdeal.main_arg2) = m ((c.tc : Thread Ffn0Ideal.nD Ffn0Ideal.τ).loc Ffn0Ideal.main_arg2))
    (h3 : m' ((c.tc : Thread Ffn0RefIdeal.nD Ffn0RefIdeal.τ).loc Ffn0RefIdeal.main_arg3) = m ((c.tc : Thread Ffn0Ideal.nD Ffn0Ideal.τ).loc Ffn0Ideal.main_arg3))
    (h4 : m' ((c.tc : Thread Ffn0RefIdeal.nD Ffn0RefIdeal.τ).loc Ffn0RefIdeal.main_arg4) = m ((c.tc : Thread Ffn0Ideal.nD Ffn0Ideal.τ).loc Ffn0Ideal.main_arg4))
    (h5 : m' ((c.tc : Thread Ffn0RefIdeal.nD Ffn0RefIdeal.τ).loc Ffn0RefIdeal.main_arg5) = m ((c.tc : Thread Ffn0Ideal.nD Ffn0Ideal.τ).loc Ffn0Ideal.main_arg5)) :
    Ffn0RefIdeal.Value.res_main_v43 m' c = Ffn0Ideal.Value.G8 m c := by
  rw [Ffn0RefIdeal.Read.val_main_v43_eq, h0, h1, h2, h3, h4]
  funext i
  refine Eq.trans ?_ (Ffn0Ideal.Hand.G8_eq m c i).symm
  obtain ⟨R, k, rfl⟩ : ∃ R k, i = ix2 R k := ⟨i 0, i 1, eq_ix2 i⟩
  exact Ffn0RefIdeal.Hand.v43_at _ _ _ _ _ R k

/-- The feed-forward call and its reference, read over the extended reals, run, agree and keep their arguments. -/
theorem algebraic [Cert.Ffn0Ideal.Facts] [Cert.Ffn0RefIdeal.Facts] : Cert.algebraic_Ffn0Ideal_Ffn0RefIdeal := by
  intro m g m' g' _ hagree
  refine ⟨fun c => Ffn0Ideal.Value.G8 m c, Ffn0Ideal.Value.run m g, ?_⟩
  refine (θ_run _ _ _).mono (fun r h c => ?_) (Ffn0RefIdeal.Value.run m' g')
  obtain ⟨h0, h1, h2, h3, h4, h5⟩ := hagree c
  exact ⟨(h c).1.trans (value_eq m m' c h0 h1 h2 h3 h4 h5), (h c).2⟩

end Cert.Ffn0Eq

end
-- ==== Proof.SsmIn.Runs.lean ====
module

public import proofs.«01_k».proof.Proof.Gen.SsmInIdeal.Frame
public import proofs.«01_k».proof.Proof.Gen.SsmInIdeal.Skeleton
public import proofs.«01_k».proof.Proof.Gen.SsmInIdeal.Loops
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.SsmInIdeal.Hand

open Cert.SsmInIdeal Cert.SsmInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 10) — by arithmetic of the point. -/
theorem hcond0_0 : ∀ t : Fin cfg0.N, cond0_0 (grid0.coords t) ↔ t.val % 10 = 0 :=
  (fun t => by
    have ht : t.val < 160 := Nat.lt_of_lt_of_eq t.isLt N_0
    have e0 : (grid0.coords t 0).val = t.val / 10 % 16 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x8020080200802008020080200802008020080200 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → cfg0.idle 7 (grid0.coords t) = false := by decide +kernel
/-- At the points of case B the printed configuration (`Cfg.idle`) calls output 7 idle: the case stores nothing into it. -/
theorem idleAt0_7_B : ∀ t : Fin cfg0.N, ¬cond0_0 (grid0.coords t) → cfg0.idle 7 (grid0.coords t) = true := by decide +kernel
/-- At the points of case B, which keeps output 7's prior contents (it stores nothing into it), the
    window's buffer is not FRESH: something was stored into it since the region's entry or its last write-back, idle points
    between or not (Lib/Pipeline/TableIdle.lean `Cfg.fresh`, by the table `freshTab0_7`). -/
theorem notFresh0_7_B : ∀ t : Fin cfg0.N, ¬cond0_0 (grid0.coords t) → cfg0.fresh 7 t.val = false := by
  intro t; rw [fresh0_7_eq t]; revert t; decide +kernel

/-! ## The kernel body on any staging memrefs: a subtype the run finds -/

/-- One staging buffer of output window 6, through which its contents are stated (`View.read_writes_of_cover`: the
    choice does not matter). -/
abbrev VO0_6 : View sig .tc .vmem S1024x1024 .bf16 := (Memref.whole cc0_stg6_0 : Memref sig .tc .vmem S1024x1024 .bf16).view
/-- One staging buffer of output window 7, through which its contents are stated (`View.read_writes_of_cover`: the
    choice does not matter). -/
abbrev VO0_7 : View sig .tc .vmem S1024x128 .f32 := (Memref.whole cc0_stg7_0 : Memref sig .tc .vmem S1024x128 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x2048 .bf16 := Memref.whole cc0_scratch0
/-- The scratch `arg10` the kernel carries between points, as a view: what it holds is stated through it. -/
abbrev VS0_0 : View sig .tc .vmem S1024x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.SsmInIdeal.Hand

end
-- ==== Proof.SsmIn.RunA.lean ====
module

public import proofs.«01_k».proof.Proof.SsmIn.Runs

@[expose] public section

set_option maxRecDepth 16384

noncomputable section

namespace Cert.SsmInIdeal.Hand

open Cert.SsmInIdeal Cert.SsmInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (the condition holds: points 0, 10, … 150: 16 of 160), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) :
    Σ' (L6 : List (View.Piece (Elt F) S1024x1024 .bf16)), Σ' (L7 : List (View.Piece (Elt F) S1024x128 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_ssm_in_proj i arg2 harg2 arg3 harg3 arg4 harg4 arg5 harg5 arg6 harg6 arg7 harg7 arg8 harg8 arg9 harg9 arg10 harg10) K } := by
  refine ⟨?_, ?_, ?_, fun E K => ?run⟩
  case run =>
    simp only [cc0_ssm_in_proj_eq_skeleton]; unfold cc0_ssm_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    have hrd0 : ∀ (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (k0_h1 : k0_cond1 i = 1#1) (v12 : Vec F S1x2048 .f32) (v14 : Vec F S1x1x2048 .f32) (v19 : Vec F S1x1x2048 .f32) (X_arg2 : BufTy.Contents (Elt F) arg2.view.ty) (hrdF : BufTy.Contents (Elt F) arg10.view.ty) (hrdB : LoadRect S1024x2048), arg10.view.readAt (Elt F) hrdB (arg10.view.writes (Elt F) hrdF (pb_k0_t1 (F := F) 𝒱 c bd i arg2 harg2 arg3 harg3 arg4 harg4 arg5 harg5 arg6 harg6 arg7 harg7 arg8 harg8 arg9 harg9 arg10 harg10 k0_h1 v12 v14 v19 X_arg2 (Scf.trips k0_t1_loop.lb k0_t1_loop.ub k0_t1_loop.st))) = arg10.view.readCov (pb_k0_t1 (F := F) 𝒱 c bd i arg2 harg2 arg3 harg3 arg4 harg4 arg5 harg5 arg6 harg6 arg7 harg7 arg8 harg8 arg9 harg9 arg10 harg10 k0_h1 v12 v14 v19 X_arg2 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 k0_h1 v12 v14 v19 X_arg2 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 k0_h1 v12 v14 v19 X_arg2 (Scf.trips k0_t1_loop.lb k0_t1_loop.ub k0_t1_loop.st)) S256x2048.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.SsmInIdeal.Hand

end
-- ==== Proof.SsmIn.RunB.lean ====
module

public import proofs.«01_k».proof.Proof.SsmIn.RunA

@[expose] public section

set_option maxRecDepth 16384

noncomputable section

namespace Cert.SsmInIdeal.Hand

open Cert.SsmInIdeal Cert.SsmInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's store leaves in output 6's staging memref, as pieces, where the condition fails, with the proof that
    on whole staging memrefs — the inputs' at their contents, output 6's at anything, output 7's and the scratch at the contents
    the point before left — the body runs to the continuation holding all of them but output 6's as they were. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) (xo7 : Vec F S1024x128 .f32) (xs0 : Vec F S1024x2048 .bf16) :
    { L6 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xo7 ∗ owns (c : Thread nD τ) arg10 fullShare xs0) -∗ K ⟨⟩))
          ⊢ wp frame (wpE (defs₀ (F := F)) Variants.none c none) E (cc0_ssm_in_proj i arg2 harg2 arg3 harg3 arg4 harg4 arg5 harg5 arg6 harg6 arg7 harg7 arg8 harg8 arg9 harg9 arg10 harg10) K } := by
  refine ⟨?_, fun E K => ?run⟩
  case run =>
    simp only [cc0_ssm_in_proj_eq_skeleton]; unfold cc0_ssm_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS0

end Cert.SsmInIdeal.Hand

end
-- ==== Proof.SsmIn.Frame.lean ====
module

public import proofs.«01_k».proof.Proof.SsmIn.RunB
public import Idealize.ShloMosaic.Lib.Claim

@[expose] public section

set_option maxRecDepth 16384

noncomputable section

namespace Cert.SsmInIdeal.Hand

open Cert.SsmInIdeal Cert.SsmInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (1 store of `S1024x1024`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) (y : S1024x1024.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S1024x1024.size (by sl_kernel_rfl) y

/-- What case A leaves in output 6's staging buffer: its pieces read back over junk. -/
def out0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) : Vec F S1024x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

/-- Case A's pieces for output 7 tile its block (1 store of `S1024x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) (y : S1024x128.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.1 S1024x128.size (by sl_kernel_rfl) y

/-- What case A leaves in output 7's staging buffer: its pieces read back over junk. -/
def out0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) : Vec F S1024x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5).2.1)

/-- Case A's pieces for scratch `arg10`, which the kernel carries between points, cover it: 4 pieces of `S256x2048` tiling it (Lib/Ring.lean `Piece.tiledL`). -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) (y : S1024x2048.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.2.1 S256x2048.size (by sl_kernel_rfl) y

/-- What case A leaves in scratch `arg10`: its pieces read back over junk. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4 x5).2.2.1)

/-- Case B's pieces for output 6 tile its block (1 store of `S1024x1024`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) (xo7 : Vec F S1024x128 .f32) (xs0 : Vec F S1024x2048 .bf16) (y : S1024x1024.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo7 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo7 xs0).1 S1024x1024.size (by sl_kernel_rfl) y

/-- What case B leaves in output 6's staging buffer: its pieces read back over junk. -/
def out0_B_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) (xo7 : Vec F S1024x128 .f32) (xs0 : Vec F S1024x2048 .bf16) : Vec F S1024x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xo7 xs0).1)

/-- Case B stores nothing into output 7's staging buffer: it holds what the point before left. -/
def out0_B_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) (xo7 : Vec F S1024x128 .f32) (xs0 : Vec F S1024x2048 .bf16) : Vec F S1024x128 .f32 := xo7

/-- Case B stores nothing into scratch `arg10`: it holds what the point before left. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x1024 .bf16) (x5 : Vec F S2048x128 .bf16) (xo7 : Vec F S1024x128 .f32) (xs0 : Vec F S1024x2048 .bf16) : Vec F S1024x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. -/
def outsAt0 (c : Dev nD) : (n : ℕ) → n < cfg0.N → Vec F S1024x1024 .bf16 × Vec F S1024x128 .f32 × Vec F S1024x2048 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 10 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 10 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 10 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Output 7's contents carry through the points that leave it idle: at such a point the proof data's `after` is the point before's. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [after0_7, after0_7]
  by_cases h0 : t.val % 10 = 0
  · rw [liveAt0_7_A t ((hcond0_0 t).mpr h0)] at hi
    exact absurd hi Bool.false_ne_true
  · rw [outsAt0_B m c t h0]
    rfl
/-- At a point of case B output 7's current staging buffer holds what the point before left: the buffer is not fresh
    there (`notFresh0_7_B`: stored into since the region's entry or the last write-back, carried through the points that
    leave it idle by `hcarry0_7`; Lib/Pipeline/TableIdle.lean `Dat.before_out_traj`). -/
theorem before0_7_B (c : Dev nD) (t : Fin cfg0.N) (h0 : ¬t.val % 10 = 0) (d) :
    (dats m 0 c).before 7 t d = (outsAt0 m c (t.val - 1) (Nat.lt_of_le_of_lt (Nat.sub_le _ _) t.isLt)).2.1 := by
  rw [Dat.before_out_traj _ 7 rfl (fun _ _ => rfl) (hcarry0_7 m c) t.val t rfl d,
    if_neg (by rw [notFresh0_7_B t (fun h => h0 ((hcond0_0 t).mp h))]; exact Bool.false_ne_true)]
  dsimp only [dats]

/-- At a point of case B output 7's staging buffer, left at what the point before left in it, is what the obligation asks for:
    at a point that does not write it back, what the body found; at one that does, the proof data's `after`. -/
theorem leaves0_7_B (c : Dev nD) (t : Fin cfg0.N) (h0 : ¬t.val % 10 = 0) :
    owns (c : Thread nD τ) (ms0_7 t) fullShare ((outsAt0 m c (t.val - 1) (Nat.lt_of_le_of_lt (Nat.sub_le _ _) t.isLt)).2.1) ⊢ (dats m 0 c).leavesExact 7 t := by
  have hi := idleAt0_7_B t (fun h => h0 ((hcond0_0 t).mp h))
  have ha : (dats m 0 c).after 7 t = (outsAt0 m c (t.val - 1) (Nat.lt_of_le_of_lt (Nat.sub_le _ _) t.isLt)).2.1 := by
    rw [after0_7, outsAt0_B m c t h0]
    rfl
  unfold Dat.leavesExact
  rw [hi]
  cases hf : (cfg0.win 7).flush t
  · dsimp only
    iintro H
    iexists ((outsAt0 m c (t.val - 1) (Nat.lt_of_le_of_lt (Nat.sub_le _ _) t.isLt)).2.1)
    rw [before0_7_B m c t h0]
    iexact H
  · dsimp only
    rw [ha]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 160 := lt_of_lt_of_eq t.isLt (show cfg0.N = 160 from N_0)
  by_cases h0 : t.val % 10 = 0
  · rw [show (dats m 0 c).leavesExact 0 t = owns (c : Thread nD τ) (ms0_0 t) fullShare ((dats m 0 c).after 0 t) from by
    unfold Dat.leavesExact; rw [liveAt0_0 t], after0_0]
    rw [show (dats m 0 c).leavesExact 1 t = owns (c : Thread nD τ) (ms0_1 t) fullShare ((dats m 0 c).after 1 t) from by
    unfold Dat.leavesExact; rw [liveAt0_1 t], after0_1]
    rw [show (dats m 0 c).leavesExact 2 t = owns (c : Thread nD τ) (ms0_2 t) fullShare ((dats m 0 c).after 2 t) from by
    unfold Dat.leavesExact; rw [liveAt0_2 t], after0_2]
    rw [show (dats m 0 c).leavesExact 3 t = owns (c : Thread nD τ) (ms0_3 t) fullShare ((dats m 0 c).after 3 t) from by
    unfold Dat.leavesExact; rw [liveAt0_3 t], after0_3]
    rw [show (dats m 0 c).leavesExact 4 t = owns (c : Thread nD τ) (ms0_4 t) fullShare ((dats m 0 c).after 4 t) from by
    unfold Dat.leavesExact; rw [liveAt0_4 t], after0_4]
    rw [show (dats m 0 c).leavesExact 5 t = owns (c : Thread nD τ) (ms0_5 t) fullShare ((dats m 0 c).after 5 t) from by
    unfold Dat.leavesExact; rw [liveAt0_5 t], after0_5]
    rw [show (dats m 0 c).leavesExact 6 t = owns (c : Thread nD τ) (ms0_6 t) fullShare ((dats m 0 c).after 6 t) from by
    unfold Dat.leavesExact; rw [liveAt0_6 t], after0_6]
    rw [show (dats m 0 c).leavesExact 7 t = owns (c : Thread nD τ) (ms0_7 t) fullShare ((dats m 0 c).after 7 t) from by
    unfold Dat.leavesExact; rw [liveAt0_7_A t ((hcond0_0 t).mpr h0)], after0_7]
    by_cases hz : t.val = 0
    · rw [PhiS_castSucc m c t, PhiS_zero m c _ _ hz, PhiA0_eq]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · rw [PhiS_castSucc m c t, PhiS_pos m c _ _ hz]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
  · rw [show (dats m 0 c).leavesExact 0 t = owns (c : Thread nD τ) (ms0_0 t) fullShare ((dats m 0 c).after 0 t) from by
    unfold Dat.leavesExact; rw [liveAt0_0 t], after0_0]
    rw [show (dats m 0 c).leavesExact 1 t = owns (c : Thread nD τ) (ms0_1 t) fullShare ((dats m 0 c).after 1 t) from by
    unfold Dat.leavesExact; rw [liveAt0_1 t], after0_1]
    rw [show (dats m 0 c).leavesExact 2 t = owns (c : Thread nD τ) (ms0_2 t) fullShare ((dats m 0 c).after 2 t) from by
    unfold Dat.leavesExact; rw [liveAt0_2 t], after0_2]
    rw [show (dats m 0 c).leavesExact 3 t = owns (c : Thread nD τ) (ms0_3 t) fullShare ((dats m 0 c).after 3 t) from by
    unfold Dat.leavesExact; rw [liveAt0_3 t], after0_3]
    rw [show (dats m 0 c).leavesExact 4 t = owns (c : Thread nD τ) (ms0_4 t) fullShare ((dats m 0 c).after 4 t) from by
    unfold Dat.leavesExact; rw [liveAt0_4 t], after0_4]
    rw [show (dats m 0 c).leavesExact 5 t = owns (c : Thread nD τ) (ms0_5 t) fullShare ((dats m 0 c).after 5 t) from by
    unfold Dat.leavesExact; rw [liveAt0_5 t], after0_5]
    rw [show (dats m 0 c).leavesExact 6 t = owns (c : Thread nD τ) (ms0_6 t) fullShare ((dats m 0 c).after 6 t) from by
    unfold Dat.leavesExact; rw [liveAt0_6 t], after0_6]
    by_cases hz : t.val = 0
    · exfalso; have hN : t.val < 160 := lt_of_lt_of_eq t.isLt (show cfg0.N = 160 from N_0); omega
    · rw [PhiS_castSucc m c t, PhiS_pos m c _ _ hz]
      rw [outsAt0_B m c t h0]
      simp only [before0_7_B m c t h0]
      unfold out0_B_6 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      iapply (leaves0_7_B m c t h0)
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 160 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME at any values of the floats: every execution ends, the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.SsmInIdeal.Hand

end
-- ==== Proof.SsmIn.Bits.lean ====
module

public import proofs.«01_k».proof.Defs
public import proofs.«01_k».proof.Proof.Gen.SsmIn
public import proofs.«01_k».proof.Proof.Gen.SsmInIdeal
public import proofs.«01_k».proof.Proof.SsmIn.Frame

@[expose] public section

set_option maxRecDepth 16384

noncomputable section

/-! The call and its reading over the extended reals are the same program, no operation having been rewritten, and the frame
    of the latter (Frame.lean) holds at any values of the floats. So it is the frame of the call too. -/

namespace Cert.SsmInBits

open Idealize.ShloMosaic Idealize.SL.Sem

/-- The two programs' kernels have the same body. -/
theorem bodies_eq [Cert.SsmIn.Facts] [Cert.SsmInIdeal.Facts] : Cert.SsmIn.defs₀ (F := Bits) = Cert.SsmInIdeal.defs₀ (F := Bits) := by
  unfold Cert.SsmIn.defs₀ Cert.SsmInIdeal.defs₀
  congr 1
  funext l x
  match l, x with
  | 0, (t, s) => rfl

/-- The two programs' body tables are the same. -/
theorem tables_eq [Cert.SsmIn.Facts] [Cert.SsmInIdeal.Facts] : Cert.SsmIn.defs (F := Bits) = Cert.SsmInIdeal.defs (F := Bits) :=
  congrArg (Pipeline.defs (Cert.SsmIn.pcfgs (F := Bits))) bodies_eq

/-- The call runs to its end and keeps its arguments, at the floats' bits. -/
theorem frame : quiescent_SsmIn (hSsmIn := Cert.SsmIn.Gen.facts) := fun m ρ _ =>
  (congrArg (fun D => θ_run D (onTc (τ := Cert.SsmIn.τ) (Cert.SsmIn.main (F := Bits))) ⟨m, fun _ => 0, ρ⟩ _)
    (@tables_eq Cert.SsmIn.Gen.facts Cert.SsmInIdeal.Gen.facts)).mpr (Cert.SsmInIdeal.Hand.frame m ρ)

end Cert.SsmInBits

end
-- ==== Proof.SsmIn.Block.lean ====
module

public import proofs.«01_k».proof.Proof.SsmIn.Frame
public import Idealize.ShloMosaic.Lib.Pipeline.ValueKit
public import Idealize.ShloMosaic.Lib.Pipeline.CanonAppend
public import Idealize.ShloMosaic.Lib.Pointwise

@[expose] public section

set_option maxRecDepth 16384

noncomputable section

namespace Cert.SsmInIdeal.Hand

open Cert.SsmInIdeal Cert.SsmInIdeal.Gen Idealize.ShloMosaic Idealize.ShloMosaic.TcCoe Idealize.SL.Sem

/-- One trip of the loop stores one chunk of 256 normalised rows. -/
theorem trip1_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (k0_h1 : k0_cond1 i = 1#1) (g : Vec Ideal S1x2048 .f32) (sc sh : Vec Ideal S1x1x2048 .f32) (X : BufTy.Contents (Elt Ideal) arg2.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 k0_h1 g sc sh X k
      = [⟨Rect.unit (s := S1024x2048) (k0_off1 k) S256x2048.size (k0_off1_inb i k k0_h1),
          k0_pay1 g sc sh (arg2.view.readAt (Elt Ideal) (Rect.unit (s := S1024x2048) (k0_off1 k) S256x2048.size (k0_off1_inb i k k0_h1)).toLoadRect X)⟩] := by
  unfold tripL_k0_t1 trip_k0_t1; rfl

/-- The loop takes its 256-row chunks in order: chunk `k` starts at row `256 k` and lane 0. -/
theorem off1_row : ∀ k : Fin k0_t1_loop.trips, k0_off1 k 0 = 256 * k.val := by decide +kernel
theorem trips1 : k0_t1_loop.trips = 4 := by decide +kernel

/-- The normalised and modulated rows: row `r` of `x` divided by its root mean square, times
    `g * (1 + sc)`, plus `sh`. -/
def hBlk (g : Vec Ideal S1x2048 .f32) (sc sh : Vec Ideal S1x1x2048 .f32) (x : Vec Ideal S1024x2048 .f32) :
    Vec Ideal S1024x2048 .bf16 := fun y =>
  x y * Ideal.rsqrt
      (Ideal.div (∑ k : Fin 2048, x (ix2 (y 0) k) * x (ix2 (y 0) k)) (Ideal.ofBits FTy.f32 1157627904#32)
        + Ideal.ofBits FTy.f32 897988541#32)
    * (g (ix2 0 (y 1)) * (1 + sc (ix3 0 0 (y 1)))) + sh (ix3 0 0 (y 1))

/-- What one trip of the loop stores, at a row and a lane of its chunk. -/
theorem pay1_apply (g : Vec Ideal S1x2048 .f32) (sc sh : Vec Ideal S1x1x2048 .f32) (x : Vec Ideal S256x2048 .f32) (r : Fin 256) (c : Fin 2048) :
    k0_pay1 (F := Ideal) g sc sh x (ix2 r c) = x (ix2 r c) * Ideal.rsqrt
      (Ideal.div (∑ k : Fin 2048, x (ix2 r k) * x (ix2 r k)) (Ideal.ofBits FTy.f32 1157627904#32)
        + Ideal.ofBits FTy.f32 897988541#32)
    * (g (ix2 0 c) * (1 + sc (ix3 0 0 c))) + sh (ix3 0 0 c) := by
  pointwise! [k0_pay1]

/-- The second result's tile: the rows times the narrow weight tile. -/
theorem pay2_apply (h : Vec Ideal S1024x2048 .bf16) (w : Vec Ideal S2048x128 .bf16) (r : Fin 1024) (f : Fin 128) :
    k0_pay2 (F := Ideal) h w (ix2 r f) = ∑ k : Fin 2048, h (ix2 r k) * w (ix2 k f) := by
  pointwise! [k0_pay2]

/-- The first result's tile: the rows times the column tile of the weight. -/
theorem pay3_apply (h : Vec Ideal S1024x2048 .bf16) (w : Vec Ideal S2048x1024 .bf16) (r : Fin 1024) (f : Fin 1024) :
    k0_pay3 (F := Ideal) h w (ix2 r f) = ∑ k : Fin 2048, h (ix2 r k) * w (ix2 k f) := by
  pointwise! [k0_pay3]

/-- A chunk of 256 rows sends row `r`, lane `k` of the chunk to lane `k` of one row of the block. -/
def IsChunk (E : S256x2048.Idx → S1024x2048.Idx) : Prop :=
  (∀ r k c, (ix2 (E (ix2 r c) 0) k : S1024x2048.Idx) = E (ix2 r k)) ∧ ∀ r c, E (ix2 r c) 1 = c

theorem chunk_unit {off : Fin 2 → ℕ} (inb : ∀ a, off a + S256x2048.size a ≤ S1024x2048.size a) (h1 : off 1 = 0) :
    IsChunk (fun y => (Rect.unit (s := S1024x2048) off S256x2048.size inb).emb y) := by
  refine ⟨fun r k c => ?_, fun r c => Fin.ext (by show off 1 + 1 * c.val = c.val; omega)⟩
  funext a
  match a with
  | ⟨0, _⟩ => rfl
  | ⟨1, _⟩ => exact Fin.ext (by show k.val = off 1 + 1 * k.val; omega)

/-- A chunk of 256 rows of `hBlk` is what one trip of the loop stores. -/
theorem pay1_chunk (g : Vec Ideal S1x2048 .f32) (sc sh : Vec Ideal S1x1x2048 .f32) (x : Vec Ideal S1024x2048 .f32)
    (E : S256x2048.Idx → S1024x2048.Idx) (hE : IsChunk E) (y : S256x2048.Idx) :
    k0_pay1 (F := Ideal) g sc sh (fun z => x (E z)) y = hBlk g sc sh x (E y) := by
  obtain ⟨r, c, rfl⟩ : ∃ r c, y = ix2 r c := ⟨y 0, y 1, eq_ix2 y⟩
  rw [pay1_apply]
  unfold hBlk
  simp only [hE.1, hE.2]

/-- Every piece the loop's trips store is a chunk of `hBlk`. -/
theorem pb1_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (h : k0_cond1 i = 1#1) (g : Vec Ideal S1x2048 .f32) (sc sh : Vec Ideal S1x1x2048 .f32)
    (x : Vec Ideal S1024x2048 .f32) : ∀ n, n ≤ k0_t1_loop.trips →
    ∀ p ∈ pb_k0_t1 (F := Ideal) Variants.none c none i arg2 harg2 arg3 harg3 arg4 harg4 arg5 harg5 arg6 harg6 arg7 harg7 arg8 harg8 arg9 harg9 arg10 harg10 h g sc sh (harg2.unread x) n, ∀ y : p.1.shape.Idx, p.2 y = hBlk g sc sh x (p.1.emb y)
  | 0, _ => fun p hp => absurd hp List.not_mem_nil
  | n + 1, hn => by
    intro p hp y
    rw [pb_k0_t1_succ Variants.none c none i arg2 harg2 arg3 harg3 arg4 harg4 arg5 harg5 arg6 harg6 arg7 harg7 arg8 harg8 arg9 harg9 arg10 harg10 h g sc sh (harg2.unread x) ⟨n, hn⟩, trip1_eq] at hp
    rcases List.mem_cons.mp hp with rfl | hp
    · rw [View.readAt_eq_ld, harg2.read_unread]
      exact pay1_chunk g sc sh x _ (chunk_unit _ rfl) y
    · exact pb1_pieces c i arg2 harg2 arg3 harg3 arg4 harg4 arg5 harg5 arg6 harg6 arg7 harg7 arg8 harg8 arg9 harg9 arg10 harg10 h g sc sh x n (by omega) p hp y

/-- The first `n` trips of the loop cover the first `256 n` rows. -/
theorem pb1_cover (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (h : k0_cond1 i = 1#1) (g : Vec Ideal S1x2048 .f32) (sc sh : Vec Ideal S1x1x2048 .f32)
    (X : BufTy.Contents (Elt Ideal) arg2.view.ty) : ∀ n, n ≤ k0_t1_loop.trips → ∀ y : S1024x2048.Idx, (y 0).val < 256 * n →
    ∃ p ∈ pb_k0_t1 (F := Ideal) Variants.none c none i arg2 harg2 arg3 harg3 arg4 harg4 arg5 harg5 arg6 harg6 arg7 harg7 arg8 harg8 arg9 harg9 arg10 harg10 h g sc sh X n, y ∈ p.1.set
  | 0, _ => fun y hy => absurd hy (by omega)
  | n + 1, hn => by
    intro y hy
    rw [pb_k0_t1_succ Variants.none c none i arg2 harg2 arg3 harg3 arg4 harg4 arg5 harg5 arg6 harg6 arg7 harg7 arg8 harg8 arg9 harg9 arg10 harg10 h g sc sh X ⟨n, hn⟩, trip1_eq]
    by_cases hy' : (y 0).val < 256 * n
    · obtain ⟨p, hp, hm⟩ := pb1_cover c i arg2 harg2 arg3 harg3 arg4 harg4 arg5 harg5 arg6 harg6 arg7 harg7 arg8 harg8 arg9 harg9 arg10 harg10 h g sc sh X n (by omega) y hy'
      exact ⟨p, List.mem_cons_of_mem _ hp, hm⟩
    · refine ⟨_, List.mem_cons_self, ?_⟩
      rw [Rect.mem_set_unit]
      have h0 := off1_row ⟨n, hn⟩
      intro a
      match a with
      | ⟨0, _⟩ => show k0_off1 ⟨n, hn⟩ 0 ≤ (y 0).val ∧ (y 0).val < k0_off1 ⟨n, hn⟩ 0 + 256; rw [h0]; dsimp only; omega
      | ⟨1, _⟩ => exact ⟨Nat.zero_le _, by show (y 1).val < 0 + 2048; have : (y 1).val < 2048 := (y 1).isLt; omega⟩

/-- Read back whole, the loop's pieces are `hBlk`. -/
theorem pb1_canon (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (h : k0_cond1 i = 1#1) (g : Vec Ideal S1x2048 .f32) (sc sh : Vec Ideal S1x1x2048 .f32)
    (x : Vec Ideal S1024x2048 .f32) :
    arg10.view.readCov (pb_k0_t1 (F := Ideal) Variants.none c none i arg2 harg2 arg3 harg3 arg4 harg4 arg5 harg5 arg6 harg6 arg7 harg7 arg8 harg8 arg9 harg9 arg10 harg10 h g sc sh (harg2.unread x) k0_t1_loop.trips)
      (Rect.unit (s := S1024x2048) ![0, 0] ![1024, 2048] inb_S1024x2048_S1024x2048_0_0).toLoadRect = hBlk g sc sh x := by
  rw [View.readCov_eq_canon']
  funext y
  have hy : (Rect.unit (s := S1024x2048) ![0, 0] ![1024, 2048] inb_S1024x2048_S1024x2048_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  rw [hy]
  refine View.canon_apply_of_pieces _ _ (pb1_pieces c i arg2 harg2 arg3 harg3 arg4 harg4 arg5 harg5 arg6 harg6 arg7 harg7 arg8 harg8 arg9 harg9 arg10 harg10 h g sc sh x _ le_rfl) y
    (pb1_cover c i arg2 harg2 arg3 harg3 arg4 harg4 arg5 harg5 arg6 harg6 arg7 harg7 arg8 harg8 arg9 harg9 arg10 harg10 h g sc sh _ _ le_rfl y ?_)
  have : (y 0).val < 1024 := (y 0).isLt
  rw [trips1]; omega

/-- THE FIRST POINT OF A ROW BLOCK leaves the block's normalised rows in the scratch … -/
theorem sA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i) (x0 : Vec Ideal S1024x2048 .f32) (x1 : Vec Ideal S1x2048 .f32) (x2 : Vec Ideal S1x1x2048 .f32) (x3 : Vec Ideal S1x1x2048 .f32) (x4 : Vec Ideal S2048x1024 .bf16) (x5 : Vec Ideal S2048x128 .bf16) :
    sout0_A_0 (F := Ideal) c i arg2 harg2 arg3 harg3 arg4 harg4 arg5 harg5 arg6 harg6 arg7 harg7 arg8 harg8 arg9 harg9 arg10 harg10 hc0 x0 x1 x2 x3 x4 x5 = hBlk x1 x3 x2 x0 := by
  unfold sout0_A_0 kernelRun0_A VS0_0
  frame_out
  funext y
  refine View.canon_apply_of_pieces _ _ (pb1_pieces c i arg2 harg2 arg3 harg3 arg4 harg4 arg5 harg5 arg6 harg6 arg7 harg7 arg8 harg8 arg9 harg9 arg10 harg10 hc0 x1 x3 x2 x0 _ le_rfl) y
    (pb1_cover c i arg2 harg2 arg3 harg3 arg4 harg4 arg5 harg5 arg6 harg6 arg7 harg7 arg8 harg8 arg9 harg9 arg10 harg10 hc0 x1 x3 x2 _ _ le_rfl y ?_)
  have : (y 0).val < 1024 := (y 0).isLt
  rw [trips1]; omega

/-- … stores their product with the narrow weight tile as the second result's block … -/
theorem oA7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i) (x0 : Vec Ideal S1024x2048 .f32) (x1 : Vec Ideal S1x2048 .f32) (x2 : Vec Ideal S1x1x2048 .f32) (x3 : Vec Ideal S1x1x2048 .f32) (x4 : Vec Ideal S2048x1024 .bf16) (x5 : Vec Ideal S2048x128 .bf16) :
    out0_A_7 (F := Ideal) c i arg2 harg2 arg3 harg3 arg4 harg4 arg5 harg5 arg6 harg6 arg7 harg7 arg8 harg8 arg9 harg9 arg10 harg10 hc0 x0 x1 x2 x3 x4 x5 = k0_pay2 (hBlk x1 x3 x2 x0) x5 := by
  unfold out0_A_7 kernelRun0_A VO0_7
  frame_out
  exact congrArg (fun h => k0_pay2 h x5) (pb1_canon c i arg2 harg2 arg3 harg3 arg4 harg4 arg5 harg5 arg6 harg6 arg7 harg7 arg8 harg8 arg9 harg9 arg10 harg10 hc0 x1 x3 x2 x0)

/-- … and with the first column tile as the first result's. -/
theorem oA6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i) (x0 : Vec Ideal S1024x2048 .f32) (x1 : Vec Ideal S1x2048 .f32) (x2 : Vec Ideal S1x1x2048 .f32) (x3 : Vec Ideal S1x1x2048 .f32) (x4 : Vec Ideal S2048x1024 .bf16) (x5 : Vec Ideal S2048x128 .bf16) :
    out0_A_6 (F := Ideal) c i arg2 harg2 arg3 harg3 arg4 harg4 arg5 harg5 arg6 harg6 arg7 harg7 arg8 harg8 arg9 harg9 arg10 harg10 hc0 x0 x1 x2 x3 x4 x5 = k0_pay3 (hBlk x1 x3 x2 x0) x4 := by
  unfold out0_A_6 kernelRun0_A VO0_6
  frame_out
  exact congrArg (fun h => k0_pay3 h x4) (pb1_canon c i arg2 harg2 arg3 harg3 arg4 harg4 arg5 harg5 arg6 harg6 arg7 harg7 arg8 harg8 arg9 harg9 arg10 harg10 hc0 x1 x3 x2 x0)

/-- A later point multiplies the rows the scratch holds by its own column tile. -/
theorem oB6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : ¬cond0_0 i) (x0 : Vec Ideal S1024x2048 .f32) (x1 : Vec Ideal S1x2048 .f32) (x2 : Vec Ideal S1x1x2048 .f32) (x3 : Vec Ideal S1x1x2048 .f32) (x4 : Vec Ideal S2048x1024 .bf16) (x5 : Vec Ideal S2048x128 .bf16) (xo7 : Vec Ideal S1024x128 .f32) (xs0 : Vec Ideal S1024x2048 .bf16) :
    out0_B_6 (F := Ideal) c i arg2 harg2 arg3 harg3 arg4 harg4 arg5 harg5 arg6 harg6 arg7 harg7 arg8 harg8 arg9 harg9 arg10 harg10 hc0 x0 x1 x2 x3 x4 x5 xo7 xs0 = k0_pay3 xs0 x4 := by
  unfold out0_B_6 kernelRun0_B VO0_6
  frame_out

end Cert.SsmInIdeal.Hand

end
-- ==== Proof.SsmIn.Array.lean ====
module

public import proofs.«01_k».proof.Proof.SsmIn.Block
public import proofs.«01_k».proof.Proof.Ffn.Spec
public import Idealize.ShloMosaic.Lib.StableHlo.ReadAt

@[expose] public section

set_option maxRecDepth 16384

noncomputable section

namespace Cert.SsmInIdeal.Hand

open Cert.SsmInIdeal Cert.SsmInIdeal.Gen Idealize.ShloMosaic Idealize.ShloMosaic.TcCoe Idealize.SL.Sem

open Cert.FfnSpec

variable (m : (ℓ : Loc nD τ sig) → Buf (Elt Ideal) ℓ) (c : Dev nD)

/-! ## The arguments, by coordinates -/

/-- The residual stream, its two batches' rows one after the other. -/
def X (R : Fin 16384) (k : Fin 2048) : EReal :=
  m ((c : Thread nD τ).loc main_arg0) (ix3 (bat R) ⟨R.val % 8192, Nat.mod_lt _ (by decide)⟩ k)
/-- Layer 1's norm weights. -/
def G (k : Fin 2048) : EReal := m ((c : Thread nD τ).loc main_arg2) (ix2 1 k)
/-- Layer 1's modulation vector `s` of 6. -/
def M (s : Fin 6) (b : Fin 2) (k : Fin 2048) : EReal :=
  m ((c : Thread nD τ).loc main_arg1) (ix3 1 b ⟨s.val * 2048 + k.val, by have := s.isLt; have := k.isLt; omega⟩)
/-- The input projection. -/
def W (k : Fin 2048) (f : Fin 10304) : EReal := m ((c : Thread nD τ).loc main_arg3) (ix3 0 k f)
/-- Column `f` of the first result, as a column of the projection. -/
def wide (f : Fin 10240) : Fin 10304 := ⟨f.val, by have := f.isLt; omega⟩
/-- The narrow weight tile: the projection's last 64 columns, and 64 columns of zeros. -/
def W2 (k : Fin 2048) (f : Fin 128) : EReal :=
  if h : f.val < 64 then W m c k ⟨10240 + f.val, by omega⟩ else 0

/-! ## The arrays the region reads, by the arguments -/

theorem V0 (z : S16384x2048.Idx) : V m c main_v4 z = X m c (z 0) (z 1) := by
  idx_vars z
  after_reads_at
  unfold X
  rfl
theorem V3 (z : S1x2048.Idx) : V m c main_v7 z = G m c (z 1) := by
  idx_vars z
  after_reads_at
  unfold G
  rfl
theorem V6 (s : Fin 6) (b : Fin 2) (k : Fin 2048) (z : S24x1x2048.Idx) (h0 : (z 0).val = 12 + 2 * s.val + b.val) (h2 : z 2 = k) :
    V m c main_v10 z = M m c s b k := by
  idx_vars z
  after_reads_at
  unfold M
  refine congrArg (m ((c : Thread nD τ).loc main_arg1)) ?_
  have hs := s.isLt
  have hb := b.isLt
  have a0 : z0.val / 12 = 1 := by omega
  have a1 : z0.val % 2 = b.val := by omega
  have a2 : z0.val / 2 % 6 * 2048 + z2.val = s.val * 2048 + k.val := by
    have e : z2 = k := h2
    rw [e]; omega
  funext a
  match a with
  | ⟨0, _⟩ => exact Fin.ext a0
  | ⟨1, _⟩ => exact Fin.ext a1
  | ⟨2, _⟩ => exact Fin.ext a2
theorem V12 (z : S2048x10240.Idx) : V m c main_v12 z = W m c (z 0) (wide (z 1)) := by
  idx_vars z
  after_reads_at
  unfold W wide
  rfl
theorem V3w (z : S2048x128.Idx) : V m c main_v3 z = W2 m c (z 0) (z 1) := by
  idx_vars z
  after_reads_at
  unfold W2 W
  pointwise
  have e : FloatOps.sitofp (F := Ideal) FTy.f32 (0#32) = (0 : EReal) := by
    show (((0#32 : BitVec 32).toInt : ℝ) : EReal) = 0
    norm_num
  rw [e]

/-! ## The blocks of a point of row block `b` and column tile `j` -/

theorem i0 : ∀ t : Fin cfg0.N, win0_0.index t = ![t.val / 10, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![12 + t.val / 80, 0, 0] := (by decide +kernel : ∀ t : Fin grid0.N, _)
theorem i3 : ∀ t : Fin cfg0.N, win0_3.index t = ![14 + t.val / 80, 0, 0] := (by decide +kernel : ∀ t : Fin grid0.N, _)
theorem i4 : ∀ t : Fin cfg0.N, win0_4.index t = ![0, t.val % 10] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![t.val / 10, t.val % 10] := (by decide +kernel : ∀ t : Fin grid0.N, _)
theorem i7 : ∀ t : Fin cfg0.N, win0_7.index t = ![t.val / 10, 0] := (by decide +kernel : ∀ t : Fin grid0.N, _)

/-- Row `r` of row block `b`, and column `f` of tile `j`. -/
def row (b : Fin 16) (r : Fin 1024) : Fin 16384 := ⟨b.val * 1024 + r.val, by have := b.isLt; have := r.isLt; omega⟩
def unit (j : Fin 10) (f : Fin 1024) : Fin 10240 := ⟨j.val * 1024 + f.val, by have := j.isLt; have := f.isLt; omega⟩
/-- The point of row block `b` and column tile `j`. -/
def pt (b : Fin 16) (j : Fin 10) : Fin cfg0.N := ⟨10 * b.val + j.val, by have := b.isLt; have := j.isLt; show _ < 160; omega⟩

theorem pt_surj (t : Fin cfg0.N) : ∃ b j, t = pt b j := by
  have h : t.val < 160 := t.isLt
  exact ⟨⟨t.val / 10, by omega⟩, ⟨t.val % 10, by omega⟩, Fin.ext (by unfold pt; dsimp only; omega)⟩

variable (b : Fin 16) (j : Fin 10)

theorem pt_div : (pt b j).val / 10 = b.val := by unfold pt; dsimp only; have := j.isLt; omega
theorem pt_mod : (pt b j).val % 10 = j.val := by unfold pt; dsimp only; have := j.isLt; omega
theorem bat_row (r : Fin 1024) : bat (row b r) = ⟨b.val / 8, by have := b.isLt; omega⟩ := by
  unfold bat row; apply Fin.ext; dsimp only; have := b.isLt; have := r.isLt; omega

theorem b0' (r : Fin 1024) (k : Fin 2048) : iblk m c 0 (pt b j) (ix2 r k) = X m c (row b r) k := by
  have hd := pt_div b j
  blk_simp [iblk, i0]
  rw [V0]
  refine congrArg₂ (X m c) (Fin.ext ?_) (Fin.ext ?_)
  · blk_simp [i0, hd, row]
  · blk_simp [i0]
theorem b1 (k : Fin 2048) : iblk m c 1 (pt b j) (ix2 0 k) = G m c k := by
  blk_simp [iblk, i1]
  rw [V3]
  congr 1; apply Fin.ext; blk_simp [i1]
theorem b2 (r : Fin 1024) (k : Fin 2048) : iblk m c 2 (pt b j) (ix3 0 0 k) = M m c 0 (bat (row b r)) k := by
  have hd := pt_div b j
  have e : (pt b j).val / 80 = b.val / 8 := by omega
  blk_simp [iblk, i2]
  rw [bat_row]
  apply V6
  · blk_simp [i2, e]; rfl
  · apply Fin.ext; blk_simp [i2]
theorem b3 (r : Fin 1024) (k : Fin 2048) : iblk m c 3 (pt b j) (ix3 0 0 k) = M m c 1 (bat (row b r)) k := by
  have hd := pt_div b j
  have e : (pt b j).val / 80 = b.val / 8 := by omega
  blk_simp [iblk, i3]
  rw [bat_row]
  apply V6
  · blk_simp [i3, e]; rfl
  · apply Fin.ext; blk_simp [i3]
theorem b4 (k : Fin 2048) (f : Fin 1024) : iblk m c 4 (pt b j) (ix2 k f) = W m c k (wide (unit j f)) := by
  have hd := pt_mod b j
  blk_simp [iblk, i4]
  rw [V12]
  refine congrArg₂ (W m c) (Fin.ext ?_) (congrArg wide (Fin.ext ?_))
  · blk_simp [i4]
  · blk_simp [i4, hd, unit]
theorem b5 (k : Fin 2048) (f : Fin 128) : iblk m c 5 (pt b j) (ix2 k f) = W2 m c k f := by
  blk_simp [iblk, i5]
  rw [V3w]
  refine congrArg₂ (W2 m c) (Fin.ext ?_) (Fin.ext ?_)
  · blk_simp [i5]
  · blk_simp [i5]

/-! ## What a row block's points leave -/

/-- The normalised rows of the whole array. -/
def Hh : Fin 16384 → Fin 2048 → EReal := hRow (X m c) (G m c) (M m c 1) (M m c 0)

/-- `hBlk` of blocks known by coordinates. -/
theorem hBlk_of {g : Vec Ideal S1x2048 .f32} {sc sh : Vec Ideal S1x1x2048 .f32} {x : Vec Ideal S1024x2048 .f32}
    {g' sc' sh' : Fin 2048 → EReal} {x' : Fin 1024 → Fin 2048 → EReal} (hg : ∀ k, g (ix2 0 k) = g' k)
    (hsc : ∀ k, sc (ix3 0 0 k) = sc' k) (hsh : ∀ k, sh (ix3 0 0 k) = sh' k) (hx : ∀ r k, x (ix2 r k) = x' r k) (r : Fin 1024) (k : Fin 2048) :
    hBlk g sc sh x (ix2 r k) = x' r k * Ideal.rsqrt (Ideal.div (∑ k : Fin 2048, x' r k * x' r k) (Ideal.ofBits FTy.f32 1157627904#32)
        + Ideal.ofBits FTy.f32 897988541#32) * (g' k * (1 + sc' k)) + sh' k := by
  have e : hBlk g sc sh x (ix2 r k) = x (ix2 r k) * Ideal.rsqrt (Ideal.div (∑ k : Fin 2048, x (ix2 r k) * x (ix2 r k)) (Ideal.ofBits FTy.f32 1157627904#32)
        + Ideal.ofBits FTy.f32 897988541#32) * (g (ix2 0 k) * (1 + sc (ix3 0 0 k))) + sh (ix3 0 0 k) := rfl
  rw [e]
  simp only [hg, hsc, hsh, hx]

theorem hBlk_eq (y : S1024x2048.Idx) :
    hBlk (iblk m c 1 (pt b j)) (iblk m c 3 (pt b j)) (iblk m c 2 (pt b j)) (iblk m c 0 (pt b j)) y = Hh m c (row b (y 0)) (y 1) := by
  obtain ⟨r, k, rfl⟩ : ∃ r k, y = ix2 r k := ⟨y 0, y 1, eq_ix2 y⟩
  exact hBlk_of (x' := fun r k => X m c (row b r) k) (b1 m c b j) (b3 m c b j r) (b2 m c b j r) (b0' m c b j) r k

/-- The first result at row `R` and column `f`, and the second. -/
def out1 (R : Fin 16384) (f : Fin 10240) : EReal := ∑ k : Fin 2048, Hh m c R k * W m c k (wide f)
def out2 (R : Fin 16384) (f : Fin 128) : EReal := ∑ k : Fin 2048, Hh m c R k * W2 m c k f

/-- A point's product of the normalised rows with its column tile. -/
theorem pay3_eq (h : Vec Ideal S1024x2048 .bf16) (hh : ∀ y : S1024x2048.Idx, h y = Hh m c (row b (y 0)) (y 1)) (y : S1024x1024.Idx) :
    k0_pay3 (F := Ideal) h (iblk m c 4 (pt b j)) y = out1 m c (row b (y 0)) (unit j (y 1)) := by
  obtain ⟨r, f, rfl⟩ : ∃ r f, y = ix2 r f := ⟨y 0, y 1, eq_ix2 y⟩
  rw [pay3_apply]
  unfold out1
  exact Finset.sum_congr rfl fun k _ => congrArg₂ (fun a b : EReal => a * b) (hh (ix2 r k)) (b4 m c b j k f)

/-- A point's product of the normalised rows with the narrow tile. -/
theorem pay2_eq (h : Vec Ideal S1024x2048 .bf16) (hh : ∀ y : S1024x2048.Idx, h y = Hh m c (row b (y 0)) (y 1)) (y : S1024x128.Idx) :
    k0_pay2 (F := Ideal) h (iblk m c 5 (pt b j)) y = out2 m c (row b (y 0)) (y 1) := by
  obtain ⟨r, f, rfl⟩ : ∃ r f, y = ix2 r f := ⟨y 0, y 1, eq_ix2 y⟩
  rw [pay2_apply]
  unfold out2
  exact Finset.sum_congr rfl fun k _ => congrArg₂ (fun a b : EReal => a * b) (hh (ix2 r k)) (b5 m c b j k f)

/-- THE INVARIANT over a row block's points: the first result's block holds the point's product, the second's the one
    stored at the first column tile, the scratch the row block's normalised rows. -/
theorem outs_at : ∀ (n : ℕ) (hn : n < 10),
    (∀ y : S1024x1024.Idx, (outsAt0 m c (pt b ⟨n, hn⟩).val (pt b ⟨n, hn⟩).isLt).1 y = out1 m c (row b (y 0)) (unit ⟨n, hn⟩ (y 1)))
      ∧ (∀ y : S1024x128.Idx, (outsAt0 m c (pt b ⟨n, hn⟩).val (pt b ⟨n, hn⟩).isLt).2.1 y = out2 m c (row b (y 0)) (y 1))
      ∧ (∀ y : S1024x2048.Idx, (outsAt0 m c (pt b ⟨n, hn⟩).val (pt b ⟨n, hn⟩).isLt).2.2 y = Hh m c (row b (y 0)) (y 1))
  | 0, hn => by
    have hm := pt_mod b ⟨0, hn⟩
    rw [outsAt0_A m c (pt b ⟨0, hn⟩) hm]
    dsimp only
    rw [oA6, oA7, sA]
    exact ⟨pay3_eq m c b _ _ (hBlk_eq m c b _), pay2_eq m c b _ _ (hBlk_eq m c b _), hBlk_eq m c b _⟩
  | n + 1, hn => by
    have hm := pt_mod b ⟨n + 1, hn⟩
    rw [outsAt0_B m c (pt b ⟨n + 1, hn⟩) (by rw [hm]; exact Nat.succ_ne_zero n)]
    have ih := outs_at n (by omega)
    have e : (outsAt0 m c ((pt b ⟨n + 1, hn⟩).val - 1) (Nat.lt_of_le_of_lt (Nat.sub_le _ _) (pt b ⟨n + 1, hn⟩).isLt))
      = outsAt0 m c (pt b ⟨n, by omega⟩).val (pt b ⟨n, by omega⟩).isLt := rfl
    rw [e]
    dsimp only
    rw [oB6]
    unfold out0_B_7 sout0_B_0
    exact ⟨pay3_eq m c b _ _ ih.2.2, ih.2.1, ih.2.2⟩

/-! ## The results -/

/-- The two results, as buffers' contents. -/
def G6 : S16384x10240.Idx → EReal := fun i => out1 m c (i 0) (i 1)
def G7 : S16384x128.Idx → EReal := fun i => out2 m c (i 0) (i 1)

/-- THE FIRST ARRAY the call returns. -/
theorem arr6_eq : (dats m 0 c).arrAt 6 (cfgs 0).N = G6 m c := by
  refine (dats m 0 c).arrAt_eq_of_covers 6 _ (by decide +kernel) fun t hf y => ?_
  obtain ⟨b, j, rfl⟩ := pt_surj t
  have hd := pt_div b j
  have hm := pt_mod b j
  blk_simp
  rw [after0_6]
  refine ((outs_at m c b j.val j.isLt).1 y).trans ?_
  unfold G6
  refine congrArg₂ (out1 m c) (Fin.ext ?_) (Fin.ext ?_)
  · blk_simp [i6, row, hd]
  · blk_simp [i6, unit, hm]

/-- THE SECOND ARRAY the call returns. -/
theorem arr7_eq : (dats m 0 c).arrAt 7 (cfgs 0).N = G7 m c := by
  refine (dats m 0 c).arrAt_eq_of_covers 7 _ (by decide +kernel) fun t hf y => ?_
  obtain ⟨b, j, rfl⟩ := pt_surj t
  have hd := pt_div b j
  blk_simp
  rw [after0_7]
  refine ((outs_at m c b j.val j.isLt).2.1 y).trans ?_
  unfold G7
  refine congrArg₂ (out2 m c) (Fin.ext ?_) (Fin.ext ?_)
  · blk_simp [i7, row, hd]
  · blk_simp [i7]

/-- The call's run: its two results, its arguments kept. -/
theorem run_results (ρ : Dev nD → PrngReg) : θ_run defs (onTc (τ := τ) (main (F := Ideal))) ⟨m, fun _ => 0, ρ⟩ fun r => ∀ c : Dev nD,
      r.2.mem ((c : Thread nD τ).loc main_v13_0) = G6 m c
      ∧ r.2.mem ((c : Thread nD τ).loc main_v13_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 6).trans (arr6_eq m c), ((h c).1 7).trans (arr7_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.SsmInIdeal.Hand

end
-- ==== Proof.SsmIn.Ref.lean ====
module

public import proofs.«01_k».proof.Proof.Gen.SsmInRefIdeal.Read
public import proofs.«01_k».proof.Proof.Ffn.Spec
public import Idealize.ShloMosaic.Lib.Pointwise

@[expose] public section

set_option maxRecDepth 16384

noncomputable section

namespace Cert.SsmInRefIdeal.Hand

open Cert.SsmInRefIdeal Cert.SsmInRefIdeal.Read Idealize.ShloMosaic Idealize.ShloMosaic.TcCoe Idealize.SL.Sem
open Cert.FfnSpec

/-! ## The arguments, by coordinates -/

/-- The residual stream, its two batches' rows one after the other. -/
def rX (x0 : (⟨S2x8192x2048, .f32⟩ : BufTy).Contents (Elt Ideal)) (R : Fin 16384) (k : Fin 2048) : EReal :=
  x0 (ix3 (bat R) ⟨R.val % 8192, Nat.mod_lt _ (by decide)⟩ k)
/-- Layer 1's norm weights and modulation vectors, and the input projection. -/
def rG (x2 : (⟨S2x2048, .f32⟩ : BufTy).Contents (Elt Ideal)) (k : Fin 2048) : EReal := x2 (ix2 1 k)
def rM (x1 : (⟨S2x2x12288, .f32⟩ : BufTy).Contents (Elt Ideal)) (s : Fin 6) (b : Fin 2) (k : Fin 2048) : EReal :=
  x1 (ix3 1 b ⟨s.val * 2048 + k.val, by have := s.isLt; have := k.isLt; omega⟩)
def rW (x3 : (⟨S1x2048x10304, .f32⟩ : BufTy).Contents (Elt Ideal)) (k : Fin 2048) (f : Fin 10304) : EReal := x3 (ix3 0 k f)

/-- The position in its batch of row `R` of the flattened array. -/
def pos (R : Fin 16384) : Fin 8192 := ⟨R.val % 8192, Nat.mod_lt _ (by decide)⟩

/-- The reference's normalised and modulated rows: the order of the three factors is the only difference to `hRow`. -/
theorem v30_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (R : Fin 16384) (k : Fin 2048) :
    val_main_v30 (F := Ideal) x0 x1 x2 (ix3 (bat R) (pos R) k) = hRow (rX x0) (rG x2) (rM x1 1) (rM x1 0) R k := by
  pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  have e : rM x1 0 (bat R) k = x1 (ix3 1 (bat R) ⟨k.val, by have := k.isLt; omega⟩) :=
    congrArg x1 (congrArg (ix3 1 (bat R)) (Fin.ext (by show 0 * 2048 + k.val = k.val; omega)))
  unfold hRow
  rw [← mul_assoc, e]
  rfl

/-- The reference's projection, at row `R` and column `f`. -/
theorem v33_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (x3 : (⟨S1x2048x10304, .f32⟩ : BufTy).Contents (Elt Ideal)) (R : Fin 16384) (f : Fin 10304) :
    val_main_v33 (F := Ideal) x0 x1 x2 x3 (ix2 R f) = ∑ k : Fin 2048, hRow (rX x0) (rG x2) (rM x1 1) (rM x1 0) R k * rW x3 k f := by
  have hh := v30_at x0 x1 x2 R
  have hi : idx_main_v33 (ix2 R f) = ix3 (bat R) (pos R) f := by
    have hR := R.isLt
    have hf := f.isLt
    funext a
    match a with
    | ⟨0, _⟩ => exact Fin.ext (by show (R.val * 10304 + f.val) / 84410368 = R.val / 8192; omega)
    | ⟨1, _⟩ => exact Fin.ext (by show (R.val * 10304 + f.val) / 10304 % 8192 = R.val % 8192; omega)
    | ⟨2, _⟩ => exact Fin.ext (by show (R.val * 10304 + f.val) % 10304 = f.val; omega)
  rw [val_main_v33_apply, hi, val_main_v32_apply]
  refine Finset.sum_congr rfl fun k _ => congrArg₂ (fun a b : EReal => a * b) ?_ ?_
  · have e : lidx_main_v32 (ix3 (bat R) (pos R) f) k = ix3 (bat R) (pos R) k := by
      funext a
      match a with
      | ⟨0, _⟩ => rfl
      | ⟨1, _⟩ => rfl
      | ⟨2, _⟩ => rfl
    rw [e]
    exact hh k
  · have e : ridx_main_v32 (ix3 (bat R) (pos R) f) k = ix2 k f := by
      funext a
      match a with
      | ⟨0, _⟩ => rfl
      | ⟨1, _⟩ => rfl
    rw [e]
    pointwise [val_main_v31]
    rfl

/-- THE REFERENCE'S FIRST RESULT, the projection's columns before the last 64. -/
theorem res1_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (x3 : (⟨S1x2048x10304, .f32⟩ : BufTy).Contents (Elt Ideal)) (R : Fin 16384) (f : Fin 10240) :
    val_main_v36 (F := Ideal) x0 x1 x2 x3 (ix2 R f) = ∑ k : Fin 2048, hRow (rX x0) (rG x2) (rM x1 1) (rM x1 0) R k * rW x3 k ⟨f.val, by have := f.isLt; omega⟩ := by
  have hh := v33_at x0 x1 x2 x3 R ⟨f.val, by have := f.isLt; omega⟩
  unfold val_main_v36 val_main_v35
  revert hh
  generalize val_main_v33 (F := Ideal) x0 x1 x2 x3 = h
  intro hh
  pointwise
  exact hh

/-- THE REFERENCE'S SECOND RESULT: the projection's last 64 columns, and 64 columns of zeros. -/
theorem res2_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (x3 : (⟨S1x2048x10304, .f32⟩ : BufTy).Contents (Elt Ideal)) (R : Fin 16384) (f : Fin 128) :
    val_main_v38 (F := Ideal) x0 x1 x2 x3 (ix2 R f)
      = if h : f.val < 64 then ∑ k : Fin 2048, hRow (rX x0) (rG x2) (rM x1 1) (rM x1 0) R k * rW x3 k ⟨10240 + f.val, by omega⟩ else 0 := by
  have hh := fun g : Fin 64 => v33_at x0 x1 x2 x3 R ⟨10240 + g.val, by have := g.isLt; omega⟩
  unfold val_main_v38 val_main_v37 val_main_v34 val_main_cst_3
  revert hh
  generalize val_main_v33 (F := Ideal) x0 x1 x2 x3 = h
  intro hh
  pointwise
  split
  · next hf => exact hh ⟨f.val, hf⟩
  · rfl

end Cert.SsmInRefIdeal.Hand

end
-- ==== Proof.SsmIn.Eq.lean ====
module

public import proofs.«01_k».proof.Defs
public import proofs.«01_k».proof.Proof.SsmIn.Array
public import proofs.«01_k».proof.Proof.SsmIn.Ref
public import proofs.«01_k».proof.Proof.Gen.SsmInRefIdeal.Run

@[expose] public section

noncomputable section

namespace Cert.SsmInEq

open Idealize.ShloMosaic Idealize.ShloMosaic.TcCoe Idealize.SL.Sem

/-- The first array the call returns is the reference's, where their arguments agree. -/
theorem value1_eq (m : (ℓ : Loc SsmInIdeal.nD SsmInIdeal.τ SsmInIdeal.sig) → Buf (Elt Ideal) ℓ)
    (m' : (ℓ : Loc SsmInRefIdeal.nD SsmInRefIdeal.τ SsmInRefIdeal.sig) → Buf (Elt Ideal) ℓ) (c : Dev SsmInIdeal.nD)
    (h0 : m' ((c.tc : Thread SsmInRefIdeal.nD SsmInRefIdeal.τ).loc SsmInRefIdeal.main_arg0) = m ((c.tc : Thread SsmInIdeal.nD SsmInIdeal.τ).loc SsmInIdeal.main_arg0))
    (h1 : m' ((c.tc : Thread SsmInRefIdeal.nD SsmInRefIdeal.τ).loc SsmInRefIdeal.main_arg1) = m ((c.tc : Thread SsmInIdeal.nD SsmInIdeal.τ).loc SsmInIdeal.main_arg1))
    (h2 : m' ((c.tc : Thread SsmInRefIdeal.nD SsmInRefIdeal.τ).loc SsmInRefIdeal.main_arg2) = m ((c.tc : Thread SsmInIdeal.nD SsmInIdeal.τ).loc SsmInIdeal.main_arg2))
    (h3 : m' ((c.tc : Thread SsmInRefIdeal.nD SsmInRefIdeal.τ).loc SsmInRefIdeal.main_arg3) = m ((c.tc : Thread SsmInIdeal.nD SsmInIdeal.τ).loc SsmInIdeal.main_arg3)) :
    SsmInRefIdeal.Read.val_main_v36 (F := Ideal) (m' ((c.tc : Thread SsmInRefIdeal.nD SsmInRefIdeal.τ).loc SsmInRefIdeal.main_arg0)) (m' ((c.tc : Thread SsmInRefIdeal.nD SsmInRefIdeal.τ).loc SsmInRefIdeal.main_arg1)) (m' ((c.tc : Thread SsmInRefIdeal.nD SsmInRefIdeal.τ).loc SsmInRefIdeal.main_arg2)) (m' ((c.tc : Thread SsmInRefIdeal.nD SsmInRefIdeal.τ).loc SsmInRefIdeal.main_arg3)) = SsmInIdeal.Hand.G6 m c := by
  rw [h0, h1, h2, h3]
  funext i
  obtain ⟨R, f, rfl⟩ : ∃ R f, i = ix2 R f := ⟨i 0, i 1, eq_ix2 i⟩
  exact SsmInRefIdeal.Hand.res1_at _ _ _ _ R f

/-- The second array the call returns is the reference's, where their arguments agree. -/
theorem value2_eq (m : (ℓ : Loc SsmInIdeal.nD SsmInIdeal.τ SsmInIdeal.sig) → Buf (Elt Ideal) ℓ)
    (m' : (ℓ : Loc SsmInRefIdeal.nD SsmInRefIdeal.τ SsmInRefIdeal.sig) → Buf (Elt Ideal) ℓ) (c : Dev SsmInIdeal.nD)
    (h0 : m' ((c.tc : Thread SsmInRefIdeal.nD SsmInRefIdeal.τ).loc SsmInRefIdeal.main_arg0) = m ((c.tc : Thread SsmInIdeal.nD SsmInIdeal.τ).loc SsmInIdeal.main_arg0))
    (h1 : m' ((c.tc : Thread SsmInRefIdeal.nD SsmInRefIdeal.τ).loc SsmInRefIdeal.main_arg1) = m ((c.tc : Thread SsmInIdeal.nD SsmInIdeal.τ).loc SsmInIdeal.main_arg1))
    (h2 : m' ((c.tc : Thread SsmInRefIdeal.nD SsmInRefIdeal.τ).loc SsmInRefIdeal.main_arg2) = m ((c.tc : Thread SsmInIdeal.nD SsmInIdeal.τ).loc SsmInIdeal.main_arg2))
    (h3 : m' ((c.tc : Thread SsmInRefIdeal.nD SsmInRefIdeal.τ).loc SsmInRefIdeal.main_arg3) = m ((c.tc : Thread SsmInIdeal.nD SsmInIdeal.τ).loc SsmInIdeal.main_arg3)) :
    SsmInRefIdeal.Read.val_main_v38 (F := Ideal) (m' ((c.tc : Thread SsmInRefIdeal.nD SsmInRefIdeal.τ).loc SsmInRefIdeal.main_arg0)) (m' ((c.tc : Thread SsmInRefIdeal.nD SsmInRefIdeal.τ).loc SsmInRefIdeal.main_arg1)) (m' ((c.tc : Thread SsmInRefIdeal.nD SsmInRefIdeal.τ).loc SsmInRefIdeal.main_arg2)) (m' ((c.tc : Thread SsmInRefIdeal.nD SsmInRefIdeal.τ).loc SsmInRefIdeal.main_arg3)) = SsmInIdeal.Hand.G7 m c := by
  rw [h0, h1, h2, h3]
  funext i
  obtain ⟨R, f, rfl⟩ : ∃ R f, i = ix2 R f := ⟨i 0, i 1, eq_ix2 i⟩
  refine (SsmInRefIdeal.Hand.res2_at _ _ _ _ R f).trans ?_
  unfold SsmInIdeal.Hand.G7 SsmInIdeal.Hand.out2
  by_cases hf : f.val < 64
  · have e : ∀ k, SsmInIdeal.Hand.W2 m c k f = SsmInIdeal.Hand.W m c k ⟨10240 + f.val, by omega⟩ := fun k => dif_pos hf
    rw [dif_pos hf]
    exact Finset.sum_congr rfl fun k _ => congrArg₂ (fun a b : EReal => a * b) rfl (e k).symm
  · have e : ∀ k, SsmInIdeal.Hand.W2 m c k f = 0 := fun k => dif_neg hf
    rw [dif_neg hf]
    exact (Finset.sum_eq_zero fun k _ => (congrArg₂ (fun a b : EReal => a * b) rfl (e k)).trans (mul_zero (M₀ := EReal) _)).symm

/-- The input projection's call and its reference, read over the extended reals, run, agree in both results and keep
    their arguments. -/
theorem algebraic [Cert.SsmInIdeal.Facts] [Cert.SsmInRefIdeal.Facts] : Cert.algebraic_SsmInIdeal_SsmInRefIdeal := by
  intro m g m' g' _ hagree
  refine ⟨fun c => SsmInIdeal.Hand.G6 m c, fun c => SsmInIdeal.Hand.G7 m c, SsmInIdeal.Hand.run_results m g, ?_⟩
  refine (θ_run _ _ _).mono (fun r h c => ?_) (SsmInRefIdeal.Value.run m' g')
  obtain ⟨h0, h1, h2, h3⟩ := hagree c
  exact ⟨((h c).1.trans (SsmInRefIdeal.Read.val_main_v36_eq _ _ _ _)).trans (value1_eq m m' c h0 h1 h2 h3),
    ((h c).2.1.trans (SsmInRefIdeal.Read.val_main_v38_eq _ _ _ _)).trans (value2_eq m m' c h0 h1 h2 h3), (h c).2.2⟩

end Cert.SsmInEq

end
-- ==== Proof.EvenIn.Runs.lean ====
module

public import proofs.«01_k».proof.Proof.Gen.EvenInIdeal.Frame
public import proofs.«01_k».proof.Proof.Gen.EvenInIdeal.Skeleton
public import proofs.«01_k».proof.Proof.Gen.EvenInIdeal.Loops
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.EvenInIdeal.Hand

open Cert.EvenInIdeal Cert.EvenInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 6) — by arithmetic of the point. -/
theorem hcond0_0 : ∀ t : Fin cfg0.N, cond0_0 (grid0.coords t) ↔ t.val % 6 = 0 :=
  (fun t => by
    have ht : t.val < 96 := Nat.lt_of_lt_of_eq t.isLt N_0
    have e0 : (grid0.coords t 0).val = t.val / 6 % 16 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x820820820820820820820820 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → cfg0.idle 7 (grid0.coords t) = false := by decide +kernel
/-- At the points of case B the printed configuration (`Cfg.idle`) calls output 7 idle: the case stores nothing into it. -/
theorem idleAt0_7_B : ∀ t : Fin cfg0.N, ¬cond0_0 (grid0.coords t) → cfg0.idle 7 (grid0.coords t) = true := by decide +kernel
/-- At the points of case B, which keeps output 7's prior contents (it stores nothing into it), the
    window's buffer is not FRESH: something was stored into it since the region's entry or its last write-back, idle points
    between or not (Lib/Pipeline/TableIdle.lean `Cfg.fresh`, by the table `freshTab0_7`). -/
theorem notFresh0_7_B : ∀ t : Fin cfg0.N, ¬cond0_0 (grid0.coords t) → cfg0.fresh 7 t.val = false := by
  intro t; rw [fresh0_7_eq t]; revert t; decide +kernel

/-! ## The kernel body on any staging memrefs: a subtype the run finds -/

/-- One staging buffer of output window 6, through which its contents are stated (`View.read_writes_of_cover`: the
    choice does not matter). -/
abbrev VO0_6 : View sig .tc .vmem S1024x768 .bf16 := (Memref.whole cc0_stg6_0 : Memref sig .tc .vmem S1024x768 .bf16).view
/-- One staging buffer of output window 7, through which its contents are stated (`View.read_writes_of_cover`: the
    choice does not matter). -/
abbrev VO0_7 : View sig .tc .vmem S1024x512 .f32 := (Memref.whole cc0_stg7_0 : Memref sig .tc .vmem S1024x512 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x2048 .bf16 := Memref.whole cc0_scratch0
/-- The scratch `arg10` the kernel carries between points, as a view: what it holds is stated through it. -/
abbrev VS0_0 : View sig .tc .vmem S1024x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.EvenInIdeal.Hand

end
-- ==== Proof.EvenIn.RunA.lean ====
module

public import proofs.«01_k».proof.Proof.EvenIn.Runs

@[expose] public section

set_option maxRecDepth 16384

noncomputable section

namespace Cert.EvenInIdeal.Hand

open Cert.EvenInIdeal Cert.EvenInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (the condition holds: points 0, 6, … 90: 16 of 96), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) :
    Σ' (L6 : List (View.Piece (Elt F) S1024x768 .bf16)), Σ' (L7 : List (View.Piece (Elt F) S1024x512 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_even_in_proj i arg2 harg2 arg3 harg3 arg4 harg4 arg5 harg5 arg6 harg6 arg7 harg7 arg8 harg8 arg9 harg9 arg10 harg10) K } := by
  refine ⟨?_, ?_, ?_, fun E K => ?run⟩
  case run =>
    simp only [cc0_even_in_proj_eq_skeleton]; unfold cc0_even_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    have hrd0 : ∀ (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (k0_h1 : k0_cond1 i = 1#1) (v12 : Vec F S1x2048 .f32) (v14 : Vec F S1x1x2048 .f32) (v19 : Vec F S1x1x2048 .f32) (X_arg2 : BufTy.Contents (Elt F) arg2.view.ty) (hrdF : BufTy.Contents (Elt F) arg10.view.ty) (hrdB : LoadRect S1024x2048), arg10.view.readAt (Elt F) hrdB (arg10.view.writes (Elt F) hrdF (pb_k0_t1 (F := F) 𝒱 c bd i arg2 harg2 arg3 harg3 arg4 harg4 arg5 harg5 arg6 harg6 arg7 harg7 arg8 harg8 arg9 harg9 arg10 harg10 k0_h1 v12 v14 v19 X_arg2 (Scf.trips k0_t1_loop.lb k0_t1_loop.ub k0_t1_loop.st))) = arg10.view.readCov (pb_k0_t1 (F := F) 𝒱 c bd i arg2 harg2 arg3 harg3 arg4 harg4 arg5 harg5 arg6 harg6 arg7 harg7 arg8 harg8 arg9 harg9 arg10 harg10 k0_h1 v12 v14 v19 X_arg2 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 k0_h1 v12 v14 v19 X_arg2 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 k0_h1 v12 v14 v19 X_arg2 (Scf.trips k0_t1_loop.lb k0_t1_loop.ub k0_t1_loop.st)) S256x2048.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.EvenInIdeal.Hand

end
-- ==== Proof.EvenIn.RunB.lean ====
module

public import proofs.«01_k».proof.Proof.EvenIn.RunA

@[expose] public section

set_option maxRecDepth 16384

noncomputable section

namespace Cert.EvenInIdeal.Hand

open Cert.EvenInIdeal Cert.EvenInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's store leaves in output 6's staging memref, as pieces, where the condition fails, with the proof that
    on whole staging memrefs — the inputs' at their contents, output 6's at anything, output 7's and the scratch at the contents
    the point before left — the body runs to the continuation holding all of them but output 6's as they were. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) (xo7 : Vec F S1024x512 .f32) (xs0 : Vec F S1024x2048 .bf16) :
    { L6 : List (View.Piece (Elt F) S1024x768 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xo7 ∗ owns (c : Thread nD τ) arg10 fullShare xs0) -∗ K ⟨⟩))
          ⊢ wp frame (wpE (defs₀ (F := F)) Variants.none c none) E (cc0_even_in_proj i arg2 harg2 arg3 harg3 arg4 harg4 arg5 harg5 arg6 harg6 arg7 harg7 arg8 harg8 arg9 harg9 arg10 harg10) K } := by
  refine ⟨?_, fun E K => ?run⟩
  case run =>
    simp only [cc0_even_in_proj_eq_skeleton]; unfold cc0_even_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS0

end Cert.EvenInIdeal.Hand

end
-- ==== Proof.EvenIn.Frame.lean ====
module

public import proofs.«01_k».proof.Proof.EvenIn.RunB
public import Idealize.ShloMosaic.Lib.Claim

@[expose] public section

set_option maxRecDepth 16384

noncomputable section

namespace Cert.EvenInIdeal.Hand

open Cert.EvenInIdeal Cert.EvenInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (1 store of `S1024x768`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) (y : S1024x768.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S1024x768.size (by sl_kernel_rfl) y

/-- What case A leaves in output 6's staging buffer: its pieces read back over junk. -/
def out0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) : Vec F S1024x768 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

/-- Case A's pieces for output 7 tile its block (1 store of `S1024x512`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) (y : S1024x512.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.1 S1024x512.size (by sl_kernel_rfl) y

/-- What case A leaves in output 7's staging buffer: its pieces read back over junk. -/
def out0_A_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) : Vec F S1024x512 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5).2.1)

/-- Case A's pieces for scratch `arg10`, which the kernel carries between points, cover it: 4 pieces of `S256x2048` tiling it (Lib/Ring.lean `Piece.tiledL`). -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) (y : S1024x2048.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.2.1 S256x2048.size (by sl_kernel_rfl) y

/-- What case A leaves in scratch `arg10`: its pieces read back over junk. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4 x5).2.2.1)

/-- Case B's pieces for output 6 tile its block (1 store of `S1024x768`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) (xo7 : Vec F S1024x512 .f32) (xs0 : Vec F S1024x2048 .bf16) (y : S1024x768.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo7 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo7 xs0).1 S1024x768.size (by sl_kernel_rfl) y

/-- What case B leaves in output 6's staging buffer: its pieces read back over junk. -/
def out0_B_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) (xo7 : Vec F S1024x512 .f32) (xs0 : Vec F S1024x2048 .bf16) : Vec F S1024x768 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xo7 xs0).1)

/-- Case B stores nothing into output 7's staging buffer: it holds what the point before left. -/
def out0_B_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) (xo7 : Vec F S1024x512 .f32) (xs0 : Vec F S1024x2048 .bf16) : Vec F S1024x512 .f32 := xo7

/-- Case B stores nothing into scratch `arg10`: it holds what the point before left. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1x1x2048 .f32) (x3 : Vec F S1x1x2048 .f32) (x4 : Vec F S2048x768 .bf16) (x5 : Vec F S2048x512 .bf16) (xo7 : Vec F S1024x512 .f32) (xs0 : Vec F S1024x2048 .bf16) : Vec F S1024x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. -/
def outsAt0 (c : Dev nD) : (n : ℕ) → n < cfg0.N → Vec F S1024x768 .bf16 × Vec F S1024x512 .f32 × Vec F S1024x2048 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (X0_4 m c ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (X0_4 m c ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (X0_4 m c ⟨0, hn⟩) (iblk m c 5 ⟨0, hn⟩))
  | n + 1, hn =>
    if h0 : (n + 1) % 6 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (X0_4 m c ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (X0_4 m c ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (X0_4 m c ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (X0_4 m c ⟨n + 1, hn⟩) (iblk m c 5 ⟨n + 1, hn⟩) (outsAt0 c n (Nat.lt_of_succ_lt hn)).2.1 (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (X0_4 m c ⟨n + 1, hn⟩) (iblk m c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (X0_4 m c ⟨n + 1, hn⟩) (iblk m c 5 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 6 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (X0_4 m c t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (X0_4 m c t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (X0_4 m c t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 6 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (X0_4 m c t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (X0_4 m c t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (X0_4 m c t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Output 7's contents carry through the points that leave it idle: at such a point the proof data's `after` is the point before's. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [after0_7, after0_7]
  by_cases h0 : t.val % 6 = 0
  · rw [liveAt0_7_A t ((hcond0_0 t).mpr h0)] at hi
    exact absurd hi Bool.false_ne_true
  · rw [outsAt0_B m c t h0]
    rfl
/-- At a point of case B output 7's current staging buffer holds what the point before left: the buffer is not fresh
    there (`notFresh0_7_B`: stored into since the region's entry or the last write-back, carried through the points that
    leave it idle by `hcarry0_7`; Lib/Pipeline/TableIdle.lean `Dat.before_out_traj`). -/
theorem before0_7_B (c : Dev nD) (t : Fin cfg0.N) (h0 : ¬t.val % 6 = 0) (d) :
    (dats m 0 c).before 7 t d = (outsAt0 m c (t.val - 1) (Nat.lt_of_le_of_lt (Nat.sub_le _ _) t.isLt)).2.1 := by
  rw [Dat.before_out_traj _ 7 rfl (fun _ _ => rfl) (hcarry0_7 m c) t.val t rfl d,
    if_neg (by rw [notFresh0_7_B t (fun h => h0 ((hcond0_0 t).mp h))]; exact Bool.false_ne_true)]
  dsimp only [dats]

/-- At a point of case B output 7's staging buffer, left at what the point before left in it, is what the obligation asks for:
    at a point that does not write it back, what the body found; at one that does, the proof data's `after`. -/
theorem leaves0_7_B (c : Dev nD) (t : Fin cfg0.N) (h0 : ¬t.val % 6 = 0) :
    owns (c : Thread nD τ) (ms0_7 t) fullShare ((outsAt0 m c (t.val - 1) (Nat.lt_of_le_of_lt (Nat.sub_le _ _) t.isLt)).2.1) ⊢ (dats m 0 c).leavesExact 7 t := by
  have hi := idleAt0_7_B t (fun h => h0 ((hcond0_0 t).mp h))
  have ha : (dats m 0 c).after 7 t = (outsAt0 m c (t.val - 1) (Nat.lt_of_le_of_lt (Nat.sub_le _ _) t.isLt)).2.1 := by
    rw [after0_7, outsAt0_B m c t h0]
    rfl
  unfold Dat.leavesExact
  rw [hi]
  cases hf : (cfg0.win 7).flush t
  · dsimp only
    iintro H
    iexists ((outsAt0 m c (t.val - 1) (Nat.lt_of_le_of_lt (Nat.sub_le _ _) t.isLt)).2.1)
    rw [before0_7_B m c t h0]
    iexact H
  · dsimp only
    rw [ha]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 6 = 0
  · rw [show (dats m 0 c).leavesExact 0 t = owns (c : Thread nD τ) (ms0_0 t) fullShare ((dats m 0 c).after 0 t) from by
    unfold Dat.leavesExact; rw [liveAt0_0 t], after0_0]
    rw [show (dats m 0 c).leavesExact 1 t = owns (c : Thread nD τ) (ms0_1 t) fullShare ((dats m 0 c).after 1 t) from by
    unfold Dat.leavesExact; rw [liveAt0_1 t], after0_1]
    rw [show (dats m 0 c).leavesExact 2 t = owns (c : Thread nD τ) (ms0_2 t) fullShare ((dats m 0 c).after 2 t) from by
    unfold Dat.leavesExact; rw [liveAt0_2 t], after0_2]
    rw [show (dats m 0 c).leavesExact 3 t = owns (c : Thread nD τ) (ms0_3 t) fullShare ((dats m 0 c).after 3 t) from by
    unfold Dat.leavesExact; rw [liveAt0_3 t], after0_3]
    rw [show (dats m 0 c).leavesExact 4 t = owns (c : Thread nD τ) (ms0_4 t) fullShare ((dats m 0 c).after 4 t) from by
    unfold Dat.leavesExact; rw [liveAt0_4 t], after0_4]
    rw [show (dats m 0 c).leavesExact 5 t = owns (c : Thread nD τ) (ms0_5 t) fullShare ((dats m 0 c).after 5 t) from by
    unfold Dat.leavesExact; rw [liveAt0_5 t], after0_5]
    rw [show (dats m 0 c).leavesExact 6 t = owns (c : Thread nD τ) (ms0_6 t) fullShare ((dats m 0 c).after 6 t) from by
    unfold Dat.leavesExact; rw [liveAt0_6 t], after0_6]
    rw [show (dats m 0 c).leavesExact 7 t = owns (c : Thread nD τ) (ms0_7 t) fullShare ((dats m 0 c).after 7 t) from by
    unfold Dat.leavesExact; rw [liveAt0_7_A t ((hcond0_0 t).mpr h0)], after0_7]
    by_cases hz : t.val = 0
    · rw [PhiS_castSucc m c t, PhiS_zero m c _ _ hz, PhiA0_eq]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (X0_4 m c t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · rw [PhiS_castSucc m c t, PhiS_pos m c _ _ hz]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (X0_4 m c t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
  · rw [show (dats m 0 c).leavesExact 0 t = owns (c : Thread nD τ) (ms0_0 t) fullShare ((dats m 0 c).after 0 t) from by
    unfold Dat.leavesExact; rw [liveAt0_0 t], after0_0]
    rw [show (dats m 0 c).leavesExact 1 t = owns (c : Thread nD τ) (ms0_1 t) fullShare ((dats m 0 c).after 1 t) from by
    unfold Dat.leavesExact; rw [liveAt0_1 t], after0_1]
    rw [show (dats m 0 c).leavesExact 2 t = owns (c : Thread nD τ) (ms0_2 t) fullShare ((dats m 0 c).after 2 t) from by
    unfold Dat.leavesExact; rw [liveAt0_2 t], after0_2]
    rw [show (dats m 0 c).leavesExact 3 t = owns (c : Thread nD τ) (ms0_3 t) fullShare ((dats m 0 c).after 3 t) from by
    unfold Dat.leavesExact; rw [liveAt0_3 t], after0_3]
    rw [show (dats m 0 c).leavesExact 4 t = owns (c : Thread nD τ) (ms0_4 t) fullShare ((dats m 0 c).after 4 t) from by
    unfold Dat.leavesExact; rw [liveAt0_4 t], after0_4]
    rw [show (dats m 0 c).leavesExact 5 t = owns (c : Thread nD τ) (ms0_5 t) fullShare ((dats m 0 c).after 5 t) from by
    unfold Dat.leavesExact; rw [liveAt0_5 t], after0_5]
    rw [show (dats m 0 c).leavesExact 6 t = owns (c : Thread nD τ) (ms0_6 t) fullShare ((dats m 0 c).after 6 t) from by
    unfold Dat.leavesExact; rw [liveAt0_6 t], after0_6]
    by_cases hz : t.val = 0
    · exfalso; have hN : t.val < 96 := lt_of_lt_of_eq t.isLt (show cfg0.N = 96 from N_0); omega
    · rw [PhiS_castSucc m c t, PhiS_pos m c _ _ hz]
      rw [outsAt0_B m c t h0]
      simp only [before0_7_B m c t h0]
      unfold out0_B_6 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (X0_4 m c t) (iblk m c 5 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      iapply (leaves0_7_B m c t h0)
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME at any values of the floats: every execution ends, the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.EvenInIdeal.Hand

end
-- ==== Proof.EvenIn.Bits.lean ====
module

public import proofs.«01_k».proof.Defs
public import proofs.«01_k».proof.Proof.Gen.EvenIn
public import proofs.«01_k».proof.Proof.Gen.EvenInIdeal
public import proofs.«01_k».proof.Proof.EvenIn.Frame

@[expose] public section

set_option maxRecDepth 16384

noncomputable section

/-! The call and its reading over the extended reals are the same program, no operation having been rewritten, and the frame
    of the latter (Frame.lean) holds at any values of the floats. So it is the frame of the call too. -/

namespace Cert.EvenInBits

open Idealize.ShloMosaic Idealize.SL.Sem

/-- The two programs' kernels have the same body. -/
theorem bodies_eq [Cert.EvenIn.Facts] [Cert.EvenInIdeal.Facts] : Cert.EvenIn.defs₀ (F := Bits) = Cert.EvenInIdeal.defs₀ (F := Bits) := by
  unfold Cert.EvenIn.defs₀ Cert.EvenInIdeal.defs₀
  congr 1
  funext l x
  match l, x with
  | 0, (t, s) => rfl

/-- The two programs' body tables are the same. -/
theorem tables_eq [Cert.EvenIn.Facts] [Cert.EvenInIdeal.Facts] : Cert.EvenIn.defs (F := Bits) = Cert.EvenInIdeal.defs (F := Bits) :=
  congrArg (Pipeline.defs (Cert.EvenIn.pcfgs (F := Bits))) bodies_eq

/-- The call runs to its end and keeps its arguments, at the floats' bits. -/
theorem frame : quiescent_EvenIn (hEvenIn := Cert.EvenIn.Gen.facts) := fun m ρ _ =>
  (congrArg (fun D => θ_run D (onTc (τ := Cert.EvenIn.τ) (Cert.EvenIn.main (F := Bits))) ⟨m, fun _ => 0, ρ⟩ _)
    (@tables_eq Cert.EvenIn.Gen.facts Cert.EvenInIdeal.Gen.facts)).mpr (Cert.EvenInIdeal.Hand.frame m ρ)

end Cert.EvenInBits

end
-- ==== Proof.EvenIn.Block.lean ====
module

public import proofs.«01_k».proof.Proof.EvenIn.Frame
public import Idealize.ShloMosaic.Lib.Pipeline.ValueKit
public import Idealize.ShloMosaic.Lib.Pipeline.CanonAppend
public import Idealize.ShloMosaic.Lib.Pointwise

@[expose] public section

set_option maxRecDepth 16384

noncomputable section

namespace Cert.EvenInIdeal.Hand

open Cert.EvenInIdeal Cert.EvenInIdeal.Gen Idealize.ShloMosaic Idealize.ShloMosaic.TcCoe Idealize.SL.Sem

/-- One trip of the loop stores one chunk of 256 normalised rows. -/
theorem trip1_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (k0_h1 : k0_cond1 i = 1#1) (g : Vec Ideal S1x2048 .f32) (sc sh : Vec Ideal S1x1x2048 .f32) (X : BufTy.Contents (Elt Ideal) arg2.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 k0_h1 g sc sh X k
      = [⟨Rect.unit (s := S1024x2048) (k0_off1 k) S256x2048.size (k0_off1_inb i k k0_h1),
          k0_pay1 g sc sh (arg2.view.readAt (Elt Ideal) (Rect.unit (s := S1024x2048) (k0_off1 k) S256x2048.size (k0_off1_inb i k k0_h1)).toLoadRect X)⟩] := by
  unfold tripL_k0_t1 trip_k0_t1; rfl

/-- The loop takes its 256-row chunks in order: chunk `k` starts at row `256 k` and lane 0. -/
theorem off1_row : ∀ k : Fin k0_t1_loop.trips, k0_off1 k 0 = 256 * k.val := by decide +kernel
theorem trips1 : k0_t1_loop.trips = 4 := by decide +kernel

/-- The normalised and modulated rows: row `r` of `x` divided by its root mean square, times
    `g * (1 + sc)`, plus `sh`. -/
def hBlk (g : Vec Ideal S1x2048 .f32) (sc sh : Vec Ideal S1x1x2048 .f32) (x : Vec Ideal S1024x2048 .f32) :
    Vec Ideal S1024x2048 .bf16 := fun y =>
  x y * Ideal.rsqrt
      (Ideal.div (∑ k : Fin 2048, x (ix2 (y 0) k) * x (ix2 (y 0) k)) (Ideal.ofBits FTy.f32 1157627904#32)
        + Ideal.ofBits FTy.f32 897988541#32)
    * (g (ix2 0 (y 1)) * (1 + sc (ix3 0 0 (y 1)))) + sh (ix3 0 0 (y 1))

/-- What one trip of the loop stores, at a row and a lane of its chunk. -/
theorem pay1_apply (g : Vec Ideal S1x2048 .f32) (sc sh : Vec Ideal S1x1x2048 .f32) (x : Vec Ideal S256x2048 .f32) (r : Fin 256) (c : Fin 2048) :
    k0_pay1 (F := Ideal) g sc sh x (ix2 r c) = x (ix2 r c) * Ideal.rsqrt
      (Ideal.div (∑ k : Fin 2048, x (ix2 r k) * x (ix2 r k)) (Ideal.ofBits FTy.f32 1157627904#32)
        + Ideal.ofBits FTy.f32 897988541#32)
    * (g (ix2 0 c) * (1 + sc (ix3 0 0 c))) + sh (ix3 0 0 c) := by
  pointwise! [k0_pay1]

/-- The second result's tile: the rows times the narrow weight tile. -/
theorem pay2_apply (h : Vec Ideal S1024x2048 .bf16) (w : Vec Ideal S2048x512 .bf16) (r : Fin 1024) (f : Fin 512) :
    k0_pay2 (F := Ideal) h w (ix2 r f) = ∑ k : Fin 2048, h (ix2 r k) * w (ix2 k f) := by
  pointwise! [k0_pay2]

/-- The first result's tile: the rows times the column tile of the weight. -/
theorem pay3_apply (h : Vec Ideal S1024x2048 .bf16) (w : Vec Ideal S2048x768 .bf16) (r : Fin 1024) (f : Fin 768) :
    k0_pay3 (F := Ideal) h w (ix2 r f) = ∑ k : Fin 2048, h (ix2 r k) * w (ix2 k f) := by
  pointwise! [k0_pay3]

/-- A chunk of 256 rows sends row `r`, lane `k` of the chunk to lane `k` of one row of the block. -/
def IsChunk (E : S256x2048.Idx → S1024x2048.Idx) : Prop :=
  (∀ r k c, (ix2 (E (ix2 r c) 0) k : S1024x2048.Idx) = E (ix2 r k)) ∧ ∀ r c, E (ix2 r c) 1 = c

theorem chunk_unit {off : Fin 2 → ℕ} (inb : ∀ a, off a + S256x2048.size a ≤ S1024x2048.size a) (h1 : off 1 = 0) :
    IsChunk (fun y => (Rect.unit (s := S1024x2048) off S256x2048.size inb).emb y) := by
  refine ⟨fun r k c => ?_, fun r c => Fin.ext (by show off 1 + 1 * c.val = c.val; omega)⟩
  funext a
  match a with
  | ⟨0, _⟩ => rfl
  | ⟨1, _⟩ => exact Fin.ext (by show k.val = off 1 + 1 * k.val; omega)

/-- A chunk of 256 rows of `hBlk` is what one trip of the loop stores. -/
theorem pay1_chunk (g : Vec Ideal S1x2048 .f32) (sc sh : Vec Ideal S1x1x2048 .f32) (x : Vec Ideal S1024x2048 .f32)
    (E : S256x2048.Idx → S1024x2048.Idx) (hE : IsChunk E) (y : S256x2048.Idx) :
    k0_pay1 (F := Ideal) g sc sh (fun z => x (E z)) y = hBlk g sc sh x (E y) := by
  obtain ⟨r, c, rfl⟩ : ∃ r c, y = ix2 r c := ⟨y 0, y 1, eq_ix2 y⟩
  rw [pay1_apply]
  unfold hBlk
  simp only [hE.1, hE.2]

/-- Every piece the loop's trips store is a chunk of `hBlk`. -/
theorem pb1_pieces (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (h : k0_cond1 i = 1#1) (g : Vec Ideal S1x2048 .f32) (sc sh : Vec Ideal S1x1x2048 .f32)
    (x : Vec Ideal S1024x2048 .f32) : ∀ n, n ≤ k0_t1_loop.trips →
    ∀ p ∈ pb_k0_t1 (F := Ideal) Variants.none c none i arg2 harg2 arg3 harg3 arg4 harg4 arg5 harg5 arg6 harg6 arg7 harg7 arg8 harg8 arg9 harg9 arg10 harg10 h g sc sh (harg2.unread x) n, ∀ y : p.1.shape.Idx, p.2 y = hBlk g sc sh x (p.1.emb y)
  | 0, _ => fun p hp => absurd hp List.not_mem_nil
  | n + 1, hn => by
    intro p hp y
    rw [pb_k0_t1_succ Variants.none c none i arg2 harg2 arg3 harg3 arg4 harg4 arg5 harg5 arg6 harg6 arg7 harg7 arg8 harg8 arg9 harg9 arg10 harg10 h g sc sh (harg2.unread x) ⟨n, hn⟩, trip1_eq] at hp
    rcases List.mem_cons.mp hp with rfl | hp
    · rw [View.readAt_eq_ld, harg2.read_unread]
      exact pay1_chunk g sc sh x _ (chunk_unit _ rfl) y
    · exact pb1_pieces c i arg2 harg2 arg3 harg3 arg4 harg4 arg5 harg5 arg6 harg6 arg7 harg7 arg8 harg8 arg9 harg9 arg10 harg10 h g sc sh x n (by omega) p hp y

/-- The first `n` trips of the loop cover the first `256 n` rows. -/
theorem pb1_cover (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (h : k0_cond1 i = 1#1) (g : Vec Ideal S1x2048 .f32) (sc sh : Vec Ideal S1x1x2048 .f32)
    (X : BufTy.Contents (Elt Ideal) arg2.view.ty) : ∀ n, n ≤ k0_t1_loop.trips → ∀ y : S1024x2048.Idx, (y 0).val < 256 * n →
    ∃ p ∈ pb_k0_t1 (F := Ideal) Variants.none c none i arg2 harg2 arg3 harg3 arg4 harg4 arg5 harg5 arg6 harg6 arg7 harg7 arg8 harg8 arg9 harg9 arg10 harg10 h g sc sh X n, y ∈ p.1.set
  | 0, _ => fun y hy => absurd hy (by omega)
  | n + 1, hn => by
    intro y hy
    rw [pb_k0_t1_succ Variants.none c none i arg2 harg2 arg3 harg3 arg4 harg4 arg5 harg5 arg6 harg6 arg7 harg7 arg8 harg8 arg9 harg9 arg10 harg10 h g sc sh X ⟨n, hn⟩, trip1_eq]
    by_cases hy' : (y 0).val < 256 * n
    · obtain ⟨p, hp, hm⟩ := pb1_cover c i arg2 harg2 arg3 harg3 arg4 harg4 arg5 harg5 arg6 harg6 arg7 harg7 arg8 harg8 arg9 harg9 arg10 harg10 h g sc sh X n (by omega) y hy'
      exact ⟨p, List.mem_cons_of_mem _ hp, hm⟩
    · refine ⟨_, List.mem_cons_self, ?_⟩
      rw [Rect.mem_set_unit]
      have h0 := off1_row ⟨n, hn⟩
      intro a
      match a with
      | ⟨0, _⟩ => show k0_off1 ⟨n, hn⟩ 0 ≤ (y 0).val ∧ (y 0).val < k0_off1 ⟨n, hn⟩ 0 + 256; rw [h0]; dsimp only; omega
      | ⟨1, _⟩ => exact ⟨Nat.zero_le _, by show (y 1).val < 0 + 2048; have : (y 1).val < 2048 := (y 1).isLt; omega⟩

/-- Read back whole, the loop's pieces are `hBlk`. -/
theorem pb1_canon (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (h : k0_cond1 i = 1#1) (g : Vec Ideal S1x2048 .f32) (sc sh : Vec Ideal S1x1x2048 .f32)
    (x : Vec Ideal S1024x2048 .f32) :
    arg10.view.readCov (pb_k0_t1 (F := Ideal) Variants.none c none i arg2 harg2 arg3 harg3 arg4 harg4 arg5 harg5 arg6 harg6 arg7 harg7 arg8 harg8 arg9 harg9 arg10 harg10 h g sc sh (harg2.unread x) k0_t1_loop.trips)
      (Rect.unit (s := S1024x2048) ![0, 0] ![1024, 2048] inb_S1024x2048_S1024x2048_0_0).toLoadRect = hBlk g sc sh x := by
  rw [View.readCov_eq_canon']
  funext y
  have hy : (Rect.unit (s := S1024x2048) ![0, 0] ![1024, 2048] inb_S1024x2048_S1024x2048_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  rw [hy]
  refine View.canon_apply_of_pieces _ _ (pb1_pieces c i arg2 harg2 arg3 harg3 arg4 harg4 arg5 harg5 arg6 harg6 arg7 harg7 arg8 harg8 arg9 harg9 arg10 harg10 h g sc sh x _ le_rfl) y
    (pb1_cover c i arg2 harg2 arg3 harg3 arg4 harg4 arg5 harg5 arg6 harg6 arg7 harg7 arg8 harg8 arg9 harg9 arg10 harg10 h g sc sh _ _ le_rfl y ?_)
  have : (y 0).val < 1024 := (y 0).isLt
  rw [trips1]; omega

/-- THE FIRST POINT OF A ROW BLOCK leaves the block's normalised rows in the scratch … -/
theorem sA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : cond0_0 i) (x0 : Vec Ideal S1024x2048 .f32) (x1 : Vec Ideal S1x2048 .f32) (x2 : Vec Ideal S1x1x2048 .f32) (x3 : Vec Ideal S1x1x2048 .f32) (x4 : Vec Ideal S2048x768 .bf16) (x5 : Vec Ideal S2048x512 .bf16) :
    sout0_A_0 (F := Ideal) c i arg2 harg2 arg3 harg3 arg4 harg4 arg5 harg5 arg6 harg6 arg7 harg7 arg8 harg8 arg9 harg9 arg10 harg10 hc0 x0 x1 x2 x3 x4 x5 = hBlk x1 x3 x2 x0 := by
  unfold sout0_A_0 kernelRun0_A VS0_0
  frame_out
  funext y
  refine View.canon_apply_of_pieces _ _ (pb1_pieces c i arg2 harg2 arg3 harg3 arg4 harg4 arg5 harg5 arg6 harg6 arg7 harg7 arg8 harg8 arg9 harg9 arg10 harg10 hc0 x1 x3 x2 x0 _ le_rfl) y
    (pb1_cover c i arg2 harg2 arg3 harg3 arg4 harg4 arg5 harg5 arg6 harg6 arg7 harg7 arg8 harg8 arg9 harg9 arg10 harg10 hc0 x1 x3 x2 _ _ le_rfl y ?_)
  have : (y 0).val < 1024 := (y 0).isLt
  rw [trips1]; omega

/-- … stores their product with the narrow weight tile as the second result's block … -/
theorem oA7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : cond0_0 i) (x0 : Vec Ideal S1024x2048 .f32) (x1 : Vec Ideal S1x2048 .f32) (x2 : Vec Ideal S1x1x2048 .f32) (x3 : Vec Ideal S1x1x2048 .f32) (x4 : Vec Ideal S2048x768 .bf16) (x5 : Vec Ideal S2048x512 .bf16) :
    out0_A_7 (F := Ideal) c i arg2 harg2 arg3 harg3 arg4 harg4 arg5 harg5 arg6 harg6 arg7 harg7 arg8 harg8 arg9 harg9 arg10 harg10 hc0 x0 x1 x2 x3 x4 x5 = k0_pay2 (hBlk x1 x3 x2 x0) x5 := by
  unfold out0_A_7 kernelRun0_A VO0_7
  frame_out
  exact congrArg (fun h => k0_pay2 h x5) (pb1_canon c i arg2 harg2 arg3 harg3 arg4 harg4 arg5 harg5 arg6 harg6 arg7 harg7 arg8 harg8 arg9 harg9 arg10 harg10 hc0 x1 x3 x2 x0)

/-- … and with the first column tile as the first result's. -/
theorem oA6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : cond0_0 i) (x0 : Vec Ideal S1024x2048 .f32) (x1 : Vec Ideal S1x2048 .f32) (x2 : Vec Ideal S1x1x2048 .f32) (x3 : Vec Ideal S1x1x2048 .f32) (x4 : Vec Ideal S2048x768 .bf16) (x5 : Vec Ideal S2048x512 .bf16) :
    out0_A_6 (F := Ideal) c i arg2 harg2 arg3 harg3 arg4 harg4 arg5 harg5 arg6 harg6 arg7 harg7 arg8 harg8 arg9 harg9 arg10 harg10 hc0 x0 x1 x2 x3 x4 x5 = k0_pay3 (hBlk x1 x3 x2 x0) x4 := by
  unfold out0_A_6 kernelRun0_A VO0_6
  frame_out
  exact congrArg (fun h => k0_pay3 h x4) (pb1_canon c i arg2 harg2 arg3 harg3 arg4 harg4 arg5 harg5 arg6 harg6 arg7 harg7 arg8 harg8 arg9 harg9 arg10 harg10 hc0 x1 x3 x2 x0)

/-- A later point multiplies the rows the scratch holds by its own column tile. -/
theorem oB6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x768 .bf16) (harg6 : arg6.IsWhole) (arg7 : Memref sig .tc .vmem S2048x512 .bf16) (harg7 : arg7.IsWhole) (arg8 : Memref sig .tc .vmem S1024x768 .bf16) (harg8 : arg8.IsWhole) (arg9 : Memref sig .tc .vmem S1024x512 .f32) (harg9 : arg9.IsWhole) (arg10 : Memref sig .tc .vmem S1024x2048 .bf16) (harg10 : arg10.IsWhole) (hc0 : ¬cond0_0 i) (x0 : Vec Ideal S1024x2048 .f32) (x1 : Vec Ideal S1x2048 .f32) (x2 : Vec Ideal S1x1x2048 .f32) (x3 : Vec Ideal S1x1x2048 .f32) (x4 : Vec Ideal S2048x768 .bf16) (x5 : Vec Ideal S2048x512 .bf16) (xo7 : Vec Ideal S1024x512 .f32) (xs0 : Vec Ideal S1024x2048 .bf16) :
    out0_B_6 (F := Ideal) c i arg2 harg2 arg3 harg3 arg4 harg4 arg5 harg5 arg6 harg6 arg7 harg7 arg8 harg8 arg9 harg9 arg10 harg10 hc0 x0 x1 x2 x3 x4 x5 xo7 xs0 = k0_pay3 xs0 x4 := by
  unfold out0_B_6 kernelRun0_B VO0_6
  frame_out

end Cert.EvenInIdeal.Hand

end
-- ==== Proof.EvenIn.Array.lean ====
module

public import proofs.«01_k».proof.Proof.EvenIn.Block
public import proofs.«01_k».proof.Proof.Ffn.Spec
public import Idealize.ShloMosaic.Lib.StableHlo.ReadAt

@[expose] public section

set_option maxRecDepth 16384

noncomputable section

namespace Cert.EvenInIdeal.Hand

open Cert.EvenInIdeal Cert.EvenInIdeal.Gen Idealize.ShloMosaic Idealize.ShloMosaic.TcCoe Idealize.SL.Sem

open Cert.FfnSpec

variable (m : (ℓ : Loc nD τ sig) → Buf (Elt Ideal) ℓ) (c : Dev nD)

/-! ## The arguments, by coordinates -/

/-- The residual stream, its two batches' rows one after the other. -/
def X (R : Fin 16384) (k : Fin 2048) : EReal :=
  m ((c : Thread nD τ).loc main_arg0) (ix3 (bat R) ⟨R.val % 8192, Nat.mod_lt _ (by decide)⟩ k)
/-- Layer 0's norm weights. -/
def G (k : Fin 2048) : EReal := m ((c : Thread nD τ).loc main_arg2) (ix2 0 k)
/-- Layer 0's modulation vector `s` of 6. -/
def M (s : Fin 6) (b : Fin 2) (k : Fin 2048) : EReal :=
  m ((c : Thread nD τ).loc main_arg1) (ix3 0 b ⟨s.val * 2048 + k.val, by have := s.isLt; have := k.isLt; omega⟩)
/-- The input projection. -/
def W (k : Fin 2048) (f : Fin 5120) : EReal := m ((c : Thread nD τ).loc main_arg3) (ix3 0 k f)
/-- Column `f` of the first result, as a column of the projection. -/
def wide (f : Fin 4608) : Fin 5120 := ⟨f.val, by have := f.isLt; omega⟩
/-- The narrow weight tile: the projection's last 512 columns. -/
def W2 (k : Fin 2048) (f : Fin 512) : EReal := W m c k ⟨4608 + f.val, by have := f.isLt; omega⟩

/-! ## The arrays the region reads, by the arguments -/

theorem V0 (z : S16384x2048.Idx) : V m c main_v0 z = X m c (z 0) (z 1) := by
  idx_vars z
  after_reads_at
  unfold X
  rfl
theorem V3 (z : S1x2048.Idx) : V m c main_v3 z = G m c (z 1) := by
  idx_vars z
  after_reads_at
  unfold G
  rfl
theorem V6 (s : Fin 6) (b : Fin 2) (k : Fin 2048) (z : S24x1x2048.Idx) (h0 : (z 0).val = 0 + 2 * s.val + b.val) (h2 : z 2 = k) :
    V m c main_v6 z = M m c s b k := by
  idx_vars z
  after_reads_at
  unfold M
  refine congrArg (m ((c : Thread nD τ).loc main_arg1)) ?_
  have hs := s.isLt
  have hb := b.isLt
  have a0 : z0.val / 12 = 0 := by omega
  have a1 : z0.val % 2 = b.val := by omega
  have a2 : z0.val / 2 % 6 * 2048 + z2.val = s.val * 2048 + k.val := by
    have e : z2 = k := h2
    rw [e]; omega
  funext a
  match a with
  | ⟨0, _⟩ => exact Fin.ext a0
  | ⟨1, _⟩ => exact Fin.ext a1
  | ⟨2, _⟩ => exact Fin.ext a2
theorem V8 (z : S2048x5120.Idx) : V m c main_v8 z = W m c (z 0) (z 1) := by
  idx_vars z
  after_reads_at
  unfold W
  rfl

/-! ## The blocks of a point of row block `b` and column tile `j` -/

theorem i0 : ∀ t : Fin cfg0.N, win0_0.index t = ![t.val / 6, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0 + t.val / 48, 0, 0] := (by decide +kernel : ∀ t : Fin grid0.N, _)
theorem i3 : ∀ t : Fin cfg0.N, win0_3.index t = ![2 + t.val / 48, 0, 0] := (by decide +kernel : ∀ t : Fin grid0.N, _)
theorem i4 : ∀ t : Fin cfg0.N, win0_4.index t = ![0, t.val % 6] := (by decide +kernel : ∀ t : Fin grid0.N, _)
theorem i5 : ∀ t : Fin cfg0.N, win0_5.index t = ![0, 9] := (by decide +kernel : ∀ t : Fin grid0.N, _)
theorem i6 : ∀ t : Fin cfg0.N, win0_6.index t = ![t.val / 6, t.val % 6] := (by decide +kernel : ∀ t : Fin grid0.N, _)
theorem i7 : ∀ t : Fin cfg0.N, win0_7.index t = ![t.val / 6, 0] := (by decide +kernel : ∀ t : Fin grid0.N, _)

/-- Row `r` of row block `b`, and column `f` of tile `j`. -/
def row (b : Fin 16) (r : Fin 1024) : Fin 16384 := ⟨b.val * 1024 + r.val, by have := b.isLt; have := r.isLt; omega⟩
def unit (j : Fin 6) (f : Fin 768) : Fin 4608 := ⟨j.val * 768 + f.val, by have := j.isLt; have := f.isLt; omega⟩
/-- The point of row block `b` and column tile `j`. -/
def pt (b : Fin 16) (j : Fin 6) : Fin cfg0.N := ⟨6 * b.val + j.val, by have := b.isLt; have := j.isLt; show _ < 96; omega⟩

theorem pt_surj (t : Fin cfg0.N) : ∃ b j, t = pt b j := by
  have h : t.val < 96 := t.isLt
  exact ⟨⟨t.val / 6, by omega⟩, ⟨t.val % 6, by omega⟩, Fin.ext (by unfold pt; dsimp only; omega)⟩

variable (b : Fin 16) (j : Fin 6)

theorem pt_div : (pt b j).val / 6 = b.val := by unfold pt; dsimp only; have := j.isLt; omega
theorem pt_mod : (pt b j).val % 6 = j.val := by unfold pt; dsimp only; have := j.isLt; omega
theorem bat_row (r : Fin 1024) : bat (row b r) = ⟨b.val / 8, by have := b.isLt; omega⟩ := by
  unfold bat row; apply Fin.ext; dsimp only; have := b.isLt; have := r.isLt; omega

theorem b0' (r : Fin 1024) (k : Fin 2048) : iblk m c 0 (pt b j) (ix2 r k) = X m c (row b r) k := by
  have hd := pt_div b j
  blk_simp [iblk, i0]
  rw [V0]
  refine congrArg₂ (X m c) (Fin.ext ?_) (Fin.ext ?_)
  · blk_simp [i0, hd, row]
  · blk_simp [i0]
theorem b1 (k : Fin 2048) : iblk m c 1 (pt b j) (ix2 0 k) = G m c k := by
  blk_simp [iblk, i1]
  rw [V3]
  congr 1; apply Fin.ext; blk_simp [i1]
theorem b2 (r : Fin 1024) (k : Fin 2048) : iblk m c 2 (pt b j) (ix3 0 0 k) = M m c 0 (bat (row b r)) k := by
  have hd := pt_div b j
  have e : (pt b j).val / 48 = b.val / 8 := by omega
  blk_simp [iblk, i2]
  rw [bat_row]
  apply V6
  · blk_simp [i2, e]; show b.val / 8 + 0 = 2 * 0 + b.val / 8; omega
  · apply Fin.ext; blk_simp [i2]
theorem b3 (r : Fin 1024) (k : Fin 2048) : iblk m c 3 (pt b j) (ix3 0 0 k) = M m c 1 (bat (row b r)) k := by
  have hd := pt_div b j
  have e : (pt b j).val / 48 = b.val / 8 := by omega
  blk_simp [iblk, i3]
  rw [bat_row]
  apply V6
  · blk_simp [i3, e]; rfl
  · apply Fin.ext; blk_simp [i3]
theorem b4 (k : Fin 2048) (f : Fin 768) : X0_4 m c (pt b j) (ix2 k f) = W m c k (wide (unit j f)) := by
  have hd := pt_mod b j
  unfold X0_4 Pipeline.Window.fill
  rw [dif_pos (moved0_4 (pt b j) (ix2 k f))]
  blk_simp [iblk, i4]
  rw [V8]
  refine congrArg₂ (W m c) (Fin.ext ?_) (Fin.ext ?_)
  · blk_simp [i4]
  · blk_simp [i4, hd, unit, wide]
theorem b5 (k : Fin 2048) (f : Fin 512) : iblk m c 5 (pt b j) (ix2 k f) = W2 m c k f := by
  blk_simp [iblk, i5]
  rw [V8]
  unfold W2
  refine congrArg₂ (W m c) (Fin.ext ?_) (Fin.ext ?_)
  · blk_simp [i5]
  · blk_simp [i5]

/-! ## What a row block's points leave -/

/-- The normalised rows of the whole array. -/
def Hh : Fin 16384 → Fin 2048 → EReal := hRow (X m c) (G m c) (M m c 1) (M m c 0)

/-- `hBlk` of blocks known by coordinates. -/
theorem hBlk_of {g : Vec Ideal S1x2048 .f32} {sc sh : Vec Ideal S1x1x2048 .f32} {x : Vec Ideal S1024x2048 .f32}
    {g' sc' sh' : Fin 2048 → EReal} {x' : Fin 1024 → Fin 2048 → EReal} (hg : ∀ k, g (ix2 0 k) = g' k)
    (hsc : ∀ k, sc (ix3 0 0 k) = sc' k) (hsh : ∀ k, sh (ix3 0 0 k) = sh' k) (hx : ∀ r k, x (ix2 r k) = x' r k) (r : Fin 1024) (k : Fin 2048) :
    hBlk g sc sh x (ix2 r k) = x' r k * Ideal.rsqrt (Ideal.div (∑ k : Fin 2048, x' r k * x' r k) (Ideal.ofBits FTy.f32 1157627904#32)
        + Ideal.ofBits FTy.f32 897988541#32) * (g' k * (1 + sc' k)) + sh' k := by
  have e : hBlk g sc sh x (ix2 r k) = x (ix2 r k) * Ideal.rsqrt (Ideal.div (∑ k : Fin 2048, x (ix2 r k) * x (ix2 r k)) (Ideal.ofBits FTy.f32 1157627904#32)
        + Ideal.ofBits FTy.f32 897988541#32) * (g (ix2 0 k) * (1 + sc (ix3 0 0 k))) + sh (ix3 0 0 k) := rfl
  rw [e]
  simp only [hg, hsc, hsh, hx]

theorem hBlk_eq (y : S1024x2048.Idx) :
    hBlk (iblk m c 1 (pt b j)) (iblk m c 3 (pt b j)) (iblk m c 2 (pt b j)) (iblk m c 0 (pt b j)) y = Hh m c (row b (y 0)) (y 1) := by
  obtain ⟨r, k, rfl⟩ : ∃ r k, y = ix2 r k := ⟨y 0, y 1, eq_ix2 y⟩
  exact hBlk_of (x' := fun r k => X m c (row b r) k) (b1 m c b j) (b3 m c b j r) (b2 m c b j r) (b0' m c b j) r k

/-- The first result at row `R` and column `f`, and the second. -/
def out1 (R : Fin 16384) (f : Fin 4608) : EReal := ∑ k : Fin 2048, Hh m c R k * W m c k (wide f)
def out2 (R : Fin 16384) (f : Fin 512) : EReal := ∑ k : Fin 2048, Hh m c R k * W2 m c k f

/-- A point's product of the normalised rows with its column tile. -/
theorem pay3_eq (h : Vec Ideal S1024x2048 .bf16) (hh : ∀ y : S1024x2048.Idx, h y = Hh m c (row b (y 0)) (y 1)) (y : S1024x768.Idx) :
    k0_pay3 (F := Ideal) h (X0_4 m c (pt b j)) y = out1 m c (row b (y 0)) (unit j (y 1)) := by
  obtain ⟨r, f, rfl⟩ : ∃ r f, y = ix2 r f := ⟨y 0, y 1, eq_ix2 y⟩
  rw [pay3_apply]
  unfold out1
  exact Finset.sum_congr rfl fun k _ => congrArg₂ (fun a b : EReal => a * b) (hh (ix2 r k)) (b4 m c b j k f)

/-- A point's product of the normalised rows with the narrow tile. -/
theorem pay2_eq (h : Vec Ideal S1024x2048 .bf16) (hh : ∀ y : S1024x2048.Idx, h y = Hh m c (row b (y 0)) (y 1)) (y : S1024x512.Idx) :
    k0_pay2 (F := Ideal) h (iblk m c 5 (pt b j)) y = out2 m c (row b (y 0)) (y 1) := by
  obtain ⟨r, f, rfl⟩ : ∃ r f, y = ix2 r f := ⟨y 0, y 1, eq_ix2 y⟩
  rw [pay2_apply]
  unfold out2
  exact Finset.sum_congr rfl fun k _ => congrArg₂ (fun a b : EReal => a * b) (hh (ix2 r k)) (b5 m c b j k f)

/-- THE INVARIANT over a row block's points: the first result's block holds the point's product, the second's the one
    stored at the first column tile, the scratch the row block's normalised rows. -/
theorem outs_at : ∀ (n : ℕ) (hn : n < 6),
    (∀ y : S1024x768.Idx, (outsAt0 m c (pt b ⟨n, hn⟩).val (pt b ⟨n, hn⟩).isLt).1 y = out1 m c (row b (y 0)) (unit ⟨n, hn⟩ (y 1)))
      ∧ (∀ y : S1024x512.Idx, (outsAt0 m c (pt b ⟨n, hn⟩).val (pt b ⟨n, hn⟩).isLt).2.1 y = out2 m c (row b (y 0)) (y 1))
      ∧ (∀ y : S1024x2048.Idx, (outsAt0 m c (pt b ⟨n, hn⟩).val (pt b ⟨n, hn⟩).isLt).2.2 y = Hh m c (row b (y 0)) (y 1))
  | 0, hn => by
    have hm := pt_mod b ⟨0, hn⟩
    rw [outsAt0_A m c (pt b ⟨0, hn⟩) hm]
    dsimp only
    rw [oA6, oA7, sA]
    exact ⟨pay3_eq m c b _ _ (hBlk_eq m c b _), pay2_eq m c b _ _ (hBlk_eq m c b _), hBlk_eq m c b _⟩
  | n + 1, hn => by
    have hm := pt_mod b ⟨n + 1, hn⟩
    rw [outsAt0_B m c (pt b ⟨n + 1, hn⟩) (by rw [hm]; exact Nat.succ_ne_zero n)]
    have ih := outs_at n (by omega)
    have e : (outsAt0 m c ((pt b ⟨n + 1, hn⟩).val - 1) (Nat.lt_of_le_of_lt (Nat.sub_le _ _) (pt b ⟨n + 1, hn⟩).isLt))
      = outsAt0 m c (pt b ⟨n, by omega⟩).val (pt b ⟨n, by omega⟩).isLt := rfl
    rw [e]
    dsimp only
    rw [oB6]
    unfold out0_B_7 sout0_B_0
    exact ⟨pay3_eq m c b _ _ ih.2.2, ih.2.1, ih.2.2⟩

/-! ## The results -/

/-- The two results, as buffers' contents. -/
def G6 : S16384x4608.Idx → EReal := fun i => out1 m c (i 0) (i 1)
def G7 : S16384x512.Idx → EReal := fun i => out2 m c (i 0) (i 1)

/-- THE FIRST ARRAY the call returns. -/
theorem arr6_eq : (dats m 0 c).arrAt 6 (cfgs 0).N = G6 m c := by
  refine (dats m 0 c).arrAt_eq_of_covers 6 _ (by decide +kernel) fun t hf y => ?_
  obtain ⟨b, j, rfl⟩ := pt_surj t
  have hd := pt_div b j
  have hm := pt_mod b j
  blk_simp
  rw [after0_6]
  refine ((outs_at m c b j.val j.isLt).1 y).trans ?_
  unfold G6
  refine congrArg₂ (out1 m c) (Fin.ext ?_) (Fin.ext ?_)
  · blk_simp [i6, row, hd]
  · blk_simp [i6, unit, hm]

/-- THE SECOND ARRAY the call returns. -/
theorem arr7_eq : (dats m 0 c).arrAt 7 (cfgs 0).N = G7 m c := by
  refine (dats m 0 c).arrAt_eq_of_covers 7 _ (by decide +kernel) fun t hf y => ?_
  obtain ⟨b, j, rfl⟩ := pt_surj t
  have hd := pt_div b j
  blk_simp
  rw [after0_7]
  refine ((outs_at m c b j.val j.isLt).2.1 y).trans ?_
  unfold G7
  refine congrArg₂ (out2 m c) (Fin.ext ?_) (Fin.ext ?_)
  · blk_simp [i7, row, hd]
  · blk_simp [i7]

/-- The call's run: its two results, its arguments kept. -/
theorem run_results (ρ : Dev nD → PrngReg) : θ_run defs (onTc (τ := τ) (main (F := Ideal))) ⟨m, fun _ => 0, ρ⟩ fun r => ∀ c : Dev nD,
      r.2.mem ((c : Thread nD τ).loc main_v9_0) = G6 m c
      ∧ r.2.mem ((c : Thread nD τ).loc main_v9_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 6).trans (arr6_eq m c), ((h c).1 7).trans (arr7_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.EvenInIdeal.Hand

end
-- ==== Proof.EvenIn.Ref.lean ====
module

public import proofs.«01_k».proof.Proof.Gen.EvenInRefIdeal.Read
public import proofs.«01_k».proof.Proof.Ffn.Spec
public import Idealize.ShloMosaic.Lib.Pointwise

@[expose] public section

set_option maxRecDepth 16384

noncomputable section

namespace Cert.EvenInRefIdeal.Hand

open Cert.EvenInRefIdeal Cert.EvenInRefIdeal.Read Idealize.ShloMosaic Idealize.ShloMosaic.TcCoe Idealize.SL.Sem
open Cert.FfnSpec

/-! ## The arguments, by coordinates -/

/-- The residual stream, its two batches' rows one after the other. -/
def rX (x0 : (⟨S2x8192x2048, .f32⟩ : BufTy).Contents (Elt Ideal)) (R : Fin 16384) (k : Fin 2048) : EReal :=
  x0 (ix3 (bat R) ⟨R.val % 8192, Nat.mod_lt _ (by decide)⟩ k)
/-- Layer 0's norm weights and modulation vectors, and the input projection. -/
def rG (x2 : (⟨S2x2048, .f32⟩ : BufTy).Contents (Elt Ideal)) (k : Fin 2048) : EReal := x2 (ix2 0 k)
def rM (x1 : (⟨S2x2x12288, .f32⟩ : BufTy).Contents (Elt Ideal)) (s : Fin 6) (b : Fin 2) (k : Fin 2048) : EReal :=
  x1 (ix3 0 b ⟨s.val * 2048 + k.val, by have := s.isLt; have := k.isLt; omega⟩)
def rW (x3 : (⟨S1x2048x5120, .f32⟩ : BufTy).Contents (Elt Ideal)) (k : Fin 2048) (f : Fin 5120) : EReal := x3 (ix3 0 k f)

/-- The position in its batch of row `R` of the flattened array. -/
def pos (R : Fin 16384) : Fin 8192 := ⟨R.val % 8192, Nat.mod_lt _ (by decide)⟩

/-- The reference's normalised and modulated rows: the order of the three factors is the only difference to `hRow`. -/
theorem v30_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (R : Fin 16384) (k : Fin 2048) :
    val_main_v30 (F := Ideal) x0 x1 x2 (ix3 (bat R) (pos R) k) = hRow (rX x0) (rG x2) (rM x1 1) (rM x1 0) R k := by
  pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  have e : rM x1 0 (bat R) k = x1 (ix3 0 (bat R) ⟨k.val, by have := k.isLt; omega⟩) :=
    congrArg x1 (congrArg (ix3 0 (bat R)) (Fin.ext (by show 0 * 2048 + k.val = k.val; omega)))
  unfold hRow
  rw [← mul_assoc, e]
  rfl

/-- The reference's projection, at row `R` and column `f`. -/
theorem v33_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (x3 : (⟨S1x2048x5120, .f32⟩ : BufTy).Contents (Elt Ideal)) (R : Fin 16384) (f : Fin 5120) :
    val_main_v33 (F := Ideal) x0 x1 x2 x3 (ix2 R f) = ∑ k : Fin 2048, hRow (rX x0) (rG x2) (rM x1 1) (rM x1 0) R k * rW x3 k f := by
  have hh := v30_at x0 x1 x2 R
  have hi : idx_main_v33 (ix2 R f) = ix3 (bat R) (pos R) f := by
    have hR := R.isLt
    have hf := f.isLt
    funext a
    match a with
    | ⟨0, _⟩ => exact Fin.ext (by show (R.val * 5120 + f.val) / 41943040 = R.val / 8192; omega)
    | ⟨1, _⟩ => exact Fin.ext (by show (R.val * 5120 + f.val) / 5120 % 8192 = R.val % 8192; omega)
    | ⟨2, _⟩ => exact Fin.ext (by show (R.val * 5120 + f.val) % 5120 = f.val; omega)
  rw [val_main_v33_apply, hi, val_main_v32_apply]
  refine Finset.sum_congr rfl fun k _ => congrArg₂ (fun a b : EReal => a * b) ?_ ?_
  · have e : lidx_main_v32 (ix3 (bat R) (pos R) f) k = ix3 (bat R) (pos R) k := by
      funext a
      match a with
      | ⟨0, _⟩ => rfl
      | ⟨1, _⟩ => rfl
      | ⟨2, _⟩ => rfl
    rw [e]
    exact hh k
  · have e : ridx_main_v32 (ix3 (bat R) (pos R) f) k = ix2 k f := by
      funext a
      match a with
      | ⟨0, _⟩ => rfl
      | ⟨1, _⟩ => rfl
    rw [e]
    pointwise [val_main_v31]
    rfl

/-- THE REFERENCE'S FIRST RESULT, the projection's columns before the last 512. -/
theorem res1_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (x3 : (⟨S1x2048x5120, .f32⟩ : BufTy).Contents (Elt Ideal)) (R : Fin 16384) (f : Fin 4608) :
    val_main_v35 (F := Ideal) x0 x1 x2 x3 (ix2 R f) = ∑ k : Fin 2048, hRow (rX x0) (rG x2) (rM x1 1) (rM x1 0) R k * rW x3 k ⟨f.val, by have := f.isLt; omega⟩ := by
  have hh := v33_at x0 x1 x2 x3 R ⟨f.val, by have := f.isLt; omega⟩
  unfold val_main_v35 val_main_v34
  revert hh
  generalize val_main_v33 (F := Ideal) x0 x1 x2 x3 = h
  intro hh
  pointwise
  exact hh

/-- THE REFERENCE'S SECOND RESULT: the projection's last 512 columns. -/
theorem res2_at (x0 : (⟨S2x8192x2048, .f32⟩ : BufTy).Contents (Elt Ideal)) (x1 : (⟨S2x2x12288, .f32⟩ : BufTy).Contents (Elt Ideal)) (x2 : (⟨S2x2048, .f32⟩ : BufTy).Contents (Elt Ideal)) (x3 : (⟨S1x2048x5120, .f32⟩ : BufTy).Contents (Elt Ideal)) (R : Fin 16384) (f : Fin 512) :
    val_main_v36 (F := Ideal) x0 x1 x2 x3 (ix2 R f)
      = ∑ k : Fin 2048, hRow (rX x0) (rG x2) (rM x1 1) (rM x1 0) R k * rW x3 k ⟨4608 + f.val, by have := f.isLt; omega⟩ := by
  have hh := v33_at x0 x1 x2 x3 R ⟨4608 + f.val, by have := f.isLt; omega⟩
  unfold val_main_v36
  revert hh
  generalize val_main_v33 (F := Ideal) x0 x1 x2 x3 = h
  intro hh
  pointwise
  exact hh

end Cert.EvenInRefIdeal.Hand

end
-- ==== Proof.EvenIn.Eq.lean ====
module

public import proofs.«01_k».proof.Defs
public import proofs.«01_k».proof.Proof.EvenIn.Array
public import proofs.«01_k».proof.Proof.EvenIn.Ref
public import proofs.«01_k».proof.Proof.Gen.EvenInRefIdeal.Run

@[expose] public section

noncomputable section

namespace Cert.EvenInEq

open Idealize.ShloMosaic Idealize.ShloMosaic.TcCoe Idealize.SL.Sem

/-- The first array the call returns is the reference's, where their arguments agree. -/
theorem value1_eq (m : (ℓ : Loc EvenInIdeal.nD EvenInIdeal.τ EvenInIdeal.sig) → Buf (Elt Ideal) ℓ)
    (m' : (ℓ : Loc EvenInRefIdeal.nD EvenInRefIdeal.τ EvenInRefIdeal.sig) → Buf (Elt Ideal) ℓ) (c : Dev EvenInIdeal.nD)
    (h0 : m' ((c.tc : Thread EvenInRefIdeal.nD EvenInRefIdeal.τ).loc EvenInRefIdeal.main_arg0) = m ((c.tc : Thread EvenInIdeal.nD EvenInIdeal.τ).loc EvenInIdeal.main_arg0))
    (h1 : m' ((c.tc : Thread EvenInRefIdeal.nD EvenInRefIdeal.τ).loc EvenInRefIdeal.main_arg1) = m ((c.tc : Thread EvenInIdeal.nD EvenInIdeal.τ).loc EvenInIdeal.main_arg1))
    (h2 : m' ((c.tc : Thread EvenInRefIdeal.nD EvenInRefIdeal.τ).loc EvenInRefIdeal.main_arg2) = m ((c.tc : Thread EvenInIdeal.nD EvenInIdeal.τ).loc EvenInIdeal.main_arg2))
    (h3 : m' ((c.tc : Thread EvenInRefIdeal.nD EvenInRefIdeal.τ).loc EvenInRefIdeal.main_arg3) = m ((c.tc : Thread EvenInIdeal.nD EvenInIdeal.τ).loc EvenInIdeal.main_arg3)) :
    EvenInRefIdeal.Read.val_main_v35 (F := Ideal) (m' ((c.tc : Thread EvenInRefIdeal.nD EvenInRefIdeal.τ).loc EvenInRefIdeal.main_arg0)) (m' ((c.tc : Thread EvenInRefIdeal.nD EvenInRefIdeal.τ).loc EvenInRefIdeal.main_arg1)) (m' ((c.tc : Thread EvenInRefIdeal.nD EvenInRefIdeal.τ).loc EvenInRefIdeal.main_arg2)) (m' ((c.tc : Thread EvenInRefIdeal.nD EvenInRefIdeal.τ).loc EvenInRefIdeal.main_arg3)) = EvenInIdeal.Hand.G6 m c := by
  rw [h0, h1, h2, h3]
  funext i
  obtain ⟨R, f, rfl⟩ : ∃ R f, i = ix2 R f := ⟨i 0, i 1, eq_ix2 i⟩
  exact EvenInRefIdeal.Hand.res1_at _ _ _ _ R f

/-- The second array the call returns is the reference's, where their arguments agree. -/
theorem value2_eq (m : (ℓ : Loc EvenInIdeal.nD EvenInIdeal.τ EvenInIdeal.sig) → Buf (Elt Ideal) ℓ)
    (m' : (ℓ : Loc EvenInRefIdeal.nD EvenInRefIdeal.τ EvenInRefIdeal.sig) → Buf (Elt Ideal) ℓ) (c : Dev EvenInIdeal.nD)
    (h0 : m' ((c.tc : Thread EvenInRefIdeal.nD EvenInRefIdeal.τ).loc EvenInRefIdeal.main_arg0) = m ((c.tc : Thread EvenInIdeal.nD EvenInIdeal.τ).loc EvenInIdeal.main_arg0))
    (h1 : m' ((c.tc : Thread EvenInRefIdeal.nD EvenInRefIdeal.τ).loc EvenInRefIdeal.main_arg1) = m ((c.tc : Thread EvenInIdeal.nD EvenInIdeal.τ).loc EvenInIdeal.main_arg1))
    (h2 : m' ((c.tc : Thread EvenInRefIdeal.nD EvenInRefIdeal.τ).loc EvenInRefIdeal.main_arg2) = m ((c.tc : Thread EvenInIdeal.nD EvenInIdeal.τ).loc EvenInIdeal.main_arg2))
    (h3 : m' ((c.tc : Thread EvenInRefIdeal.nD EvenInRefIdeal.τ).loc EvenInRefIdeal.main_arg3) = m ((c.tc : Thread EvenInIdeal.nD EvenInIdeal.τ).loc EvenInIdeal.main_arg3)) :
    EvenInRefIdeal.Read.val_main_v36 (F := Ideal) (m' ((c.tc : Thread EvenInRefIdeal.nD EvenInRefIdeal.τ).loc EvenInRefIdeal.main_arg0)) (m' ((c.tc : Thread EvenInRefIdeal.nD EvenInRefIdeal.τ).loc EvenInRefIdeal.main_arg1)) (m' ((c.tc : Thread EvenInRefIdeal.nD EvenInRefIdeal.τ).loc EvenInRefIdeal.main_arg2)) (m' ((c.tc : Thread EvenInRefIdeal.nD EvenInRefIdeal.τ).loc EvenInRefIdeal.main_arg3)) = EvenInIdeal.Hand.G7 m c := by
  rw [h0, h1, h2, h3]
  funext i
  obtain ⟨R, f, rfl⟩ : ∃ R f, i = ix2 R f := ⟨i 0, i 1, eq_ix2 i⟩
  exact EvenInRefIdeal.Hand.res2_at _ _ _ _ R f

/-- The input projection's call and its reference, read over the extended reals, run, agree in both results and keep
    their arguments. -/
theorem algebraic [Cert.EvenInIdeal.Facts] [Cert.EvenInRefIdeal.Facts] : Cert.algebraic_EvenInIdeal_EvenInRefIdeal := by
  intro m g m' g' _ hagree
  refine ⟨fun c => EvenInIdeal.Hand.G6 m c, fun c => EvenInIdeal.Hand.G7 m c, EvenInIdeal.Hand.run_results m g, ?_⟩
  refine (θ_run _ _ _).mono (fun r h c => ?_) (EvenInRefIdeal.Value.run m' g')
  obtain ⟨h0, h1, h2, h3⟩ := hagree c
  exact ⟨((h c).1.trans (EvenInRefIdeal.Read.val_main_v35_eq _ _ _ _)).trans (value1_eq m m' c h0 h1 h2 h3),
    ((h c).2.1.trans (EvenInRefIdeal.Read.val_main_v36_eq _ _ _ _)).trans (value2_eq m m' c h0 h1 h2 h3), (h c).2.2⟩

end Cert.EvenInEq

end
-- ==== Proof.SsmOut.Array.lean ====
module

public import proofs.«01_k».proof.Proof.Gen.SsmOutIdeal.Value
public import proofs.«01_k».proof.Proof.Ffn.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.SsmOutSpec

open Idealize.ShloMosaic

/-- Row `R` of a product of a `16384 × 4096` with a `4096 × 2048` array, at lane `c`. -/
def proj (A : Fin 16384 → Fin 4096 → EReal) (W : Fin 4096 → Fin 2048 → EReal) (R : Fin 16384) (c : Fin 2048) : EReal :=
  ∑ k : Fin 4096, A R k * W k c

end Cert.SsmOutSpec

namespace Cert.SsmOutIdeal.Hand

open Cert.SsmOutIdeal Cert.SsmOutIdeal.Gen Idealize.ShloMosaic Idealize.ShloMosaic.TcCoe Idealize.SL.Sem
open Cert.FfnSpec Cert.SsmOutSpec

variable (m : (ℓ : Loc nD τ sig) → Buf (Elt Ideal) ℓ) (c : Dev nD)

/-! ## The arguments, by coordinates -/

/-- The mixer's rows. -/
def A (R : Fin 16384) (k : Fin 4096) : EReal := m ((c : Thread nD τ).loc main_arg0) (ix2 R k)
/-- The output projection. -/
def W (k : Fin 4096) (f : Fin 2048) : EReal := m ((c : Thread nD τ).loc main_arg1) (ix3 0 k f)
/-- The residual stream, its two batches' rows one after the other. -/
def X (R : Fin 16384) (k : Fin 2048) : EReal :=
  m ((c : Thread nD τ).loc main_arg2) (ix3 (bat R) ⟨R.val % 8192, Nat.mod_lt _ (by decide)⟩ k)
/-- Layer 1's modulation vector `s` of 6. -/
def M (s : Fin 6) (b : Fin 2) (k : Fin 2048) : EReal :=
  m ((c : Thread nD τ).loc main_arg3) (ix3 1 b ⟨s.val * 2048 + k.val, by have := s.isLt; have := k.isLt; omega⟩)

/-! ## The arrays the region reads, by the arguments -/

theorem V0 (z : S16384x4096.Idx) : V m c main_arg0 z = A m c (z 0) (z 1) := by
  rw [V_main_arg0]
  unfold A
  exact congrArg _ (eq_ix2 z)
theorem V1 (z : S4096x2048.Idx) : V m c main_v1 z = W m c (z 0) (z 1) := by
  idx_vars z
  after_reads_at
  unfold W
  rfl
theorem V2 (z : S16384x2048.Idx) : V m c main_v2 z = X m c (z 0) (z 1) := by
  idx_vars z
  after_reads_at
  unfold X
  rfl
theorem V5 (s : Fin 6) (b : Fin 2) (k : Fin 2048) (z : S24x1x2048.Idx) (h0 : (z 0).val = 12 + 2 * s.val + b.val) (h2 : z 2 = k) :
    V m c main_v5 z = M m c s b k := by
  idx_vars z
  after_reads_at
  unfold M
  refine congrArg (m ((c : Thread nD τ).loc main_arg3)) ?_
  have hs := s.isLt
  have hb := b.isLt
  have a0 : z0.val / 12 = 1 := by omega
  have a1 : z0.val % 2 = b.val := by omega
  have a2 : z0.val / 2 % 6 * 2048 + z2.val = s.val * 2048 + k.val := by
    have e : z2 = k := h2
    rw [e]; omega
  funext a
  match a with
  | ⟨0, _⟩ => exact Fin.ext a0
  | ⟨1, _⟩ => exact Fin.ext a1
  | ⟨2, _⟩ => exact Fin.ext a2

/-! ## The blocks of a point of row block `b` and lane tile `j` -/

theorem i0 : ∀ t : Fin cfg0.N, win0_0.index t = ![t.val / 4, 0] := (by decide +kernel : ∀ t : Fin grid0.N, _)
theorem i1 : ∀ t : Fin cfg0.N, win0_1.index t = ![0, t.val % 4] := (by decide +kernel : ∀ t : Fin grid0.N, _)
theorem i2 : ∀ t : Fin cfg0.N, win0_2.index t = ![t.val / 4, t.val % 4] := (by decide +kernel : ∀ t : Fin grid0.N, _)
theorem i3 : ∀ t : Fin cfg0.N, win0_3.index t = ![16 + t.val / 32, 0, t.val % 4] := (by decide +kernel : ∀ t : Fin grid0.N, _)
theorem i4 : ∀ t : Fin cfg0.N, win0_4.index t = ![t.val / 4, t.val % 4] := (by decide +kernel : ∀ t : Fin grid0.N, _)

theorem lt64 (t : Fin cfg0.N) : t.val < 64 := t.isLt

/-- Row `r` and lane `k` of point `t`'s block of the result. -/
def row (t : Fin cfg0.N) (r : Fin 1024) : Fin 16384 := ⟨t.val / 4 * 1024 + r.val, by have := lt64 t; have := r.isLt; omega⟩
def lane (t : Fin cfg0.N) (k : Fin 512) : Fin 2048 := ⟨t.val % 4 * 512 + k.val, by have := k.isLt; omega⟩

variable (t : Fin cfg0.N)

theorem bat_row (r : Fin 1024) : bat (row t r) = ⟨t.val / 32, by have := lt64 t; omega⟩ := by
  unfold bat row; apply Fin.ext; dsimp only; have := r.isLt; omega

theorem b0 (r : Fin 1024) (k : Fin 4096) : iblk m c 0 t (ix2 r k) = A m c (row t r) k := by
  blk_simp [iblk, i0]
  rw [V0]
  refine congrArg₂ (A m c) (Fin.ext ?_) (Fin.ext ?_)
  · blk_simp [i0, row]
  · blk_simp [i0]
theorem b1 (k : Fin 4096) (f : Fin 512) : iblk m c 1 t (ix2 k f) = W m c k (lane t f) := by
  blk_simp [iblk, i1]
  rw [V1]
  refine congrArg₂ (W m c) (Fin.ext ?_) (Fin.ext ?_)
  · blk_simp [i1]
  · blk_simp [i1, lane]
theorem b2 (r : Fin 1024) (f : Fin 512) : iblk m c 2 t (ix2 r f) = X m c (row t r) (lane t f) := by
  blk_simp [iblk, i2]
  rw [V2]
  refine congrArg₂ (X m c) (Fin.ext ?_) (Fin.ext ?_)
  · blk_simp [i2, row]
  · blk_simp [i2, lane]
theorem b3 (r : Fin 1024) (f : Fin 512) : iblk m c 3 t (ix3 0 0 f) = M m c 2 (bat (row t r)) (lane t f) := by
  blk_simp [iblk, i3]
  rw [bat_row]
  apply V5
  · blk_simp [i3]; rfl
  · apply Fin.ext; blk_simp [i3, lane]

/-! ## The result -/

/-- What a point stores: the residual block plus the gate times the product. -/
theorem pay1_apply (a : Vec Ideal S1024x4096 .bf16) (w : Vec Ideal S4096x512 .bf16) (x : Vec Ideal S1024x512 .f32)
    (g : Vec Ideal S1x1x512 .f32) (r : Fin 1024) (f : Fin 512) :
    k0_pay1 (F := Ideal) a w x g (ix2 r f) = x (ix2 r f) + g (ix3 0 0 f) * ∑ k : Fin 4096, a (ix2 r k) * w (ix2 k f) := by
  pointwise! [k0_pay1]

/-- The same, at a point's own blocks. -/
theorem pay1_eq (r : Fin 1024) (f : Fin 512) :
    k0_pay1 (F := Ideal) (iblk m c 0 t) (iblk m c 1 t) (iblk m c 2 t) (iblk m c 3 t) (ix2 r f)
      = res (X m c) (M m c 2) (proj (A m c) (W m c)) (row t r) (lane t f) := by
  rw [pay1_apply]
  unfold res proj
  exact congrArg₂ (fun a b : EReal => a + b) (b2 m c t r f) (congrArg₂ (fun a b : EReal => a * b) (b3 m c t r f)
    (Finset.sum_congr rfl fun k _ => congrArg₂ (fun a b : EReal => a * b) (b0 m c t r k) (b1 m c t k f)))

/-- The whole result, as a buffer's contents. -/
def G : S16384x2048.Idx → EReal := fun i => res (X m c) (M m c 2) (proj (A m c) (W m c)) (i 0) (i 1)

/-- THE ARRAY the call returns. -/
theorem arr_eq : (dats m 0 c).arrAt 4 (cfgs 0).N = G m c := by
  refine (dats m 0 c).arrAt_eq_of_covers 4 _ (by decide +kernel) fun t hf y => ?_
  blk_simp
  rw [after0_4]
  frame_out
  obtain ⟨r, f, rfl⟩ : ∃ r f, y = ix2 r f := ⟨y 0, y 1, eq_ix2 y⟩
  refine (pay1_eq m c t r f).trans ?_
  unfold G
  refine congrArg₂ (res (X m c) (M m c 2) (proj (A m c) (W m c))) (Fin.ext ?_) (Fin.ext ?_)
  · blk_simp [i4, row]
  · blk_simp [i4, lane]

end Cert.SsmOutIdeal.Hand

end
-- ==== Proof.SsmOut.Ref.lean ====
module

public import proofs.«01_k».proof.Proof.Gen.SsmOutRefIdeal.Read
public import proofs.«01_k».proof.Proof.SsmOut.Array

@[expose] public section

set_option maxRecDepth 16384

noncomputable section

namespace Cert.SsmOutRefIdeal.Hand

open Cert.SsmOutRefIdeal Cert.SsmOutRefIdeal.Read Idealize.ShloMosaic Idealize.ShloMosaic.TcCoe Idealize.SL.Sem
open Cert.FfnSpec Cert.SsmOutSpec

/-! ## The arguments, by coordinates -/

def rA (x0 : (⟨S16384x4096, .bf16⟩ : BufTy).Contents (Elt Ideal)) (R : Fin 16384) (k : Fin 4096) : EReal := x0 (ix2 R k)
def rW (x1 : (⟨S1x4096x2048, .f32⟩ : BufTy).Contents (Elt Ideal)) (k : Fin 4096) (f : Fin 2048) : EReal := x1 (ix3 0 k f)
def rX (x2 : (⟨S2x8192x2048, .f32⟩ : BufTy).Contents (Elt Ideal)) (R : Fin 16384) (k : Fin 2048) : EReal :=
  x2 (ix3 (bat R) ⟨R.val % 8192, Nat.mod_lt _ (by decide)⟩ k)
def rM (x3 : (⟨S2x2x12288, .f32⟩ : BufTy).Contents (Elt Ideal)) (s : Fin 6) (b : Fin 2) (k : Fin 2048) : EReal :=
  x3 (ix3 1 b ⟨s.val * 2048 + k.val, by have := s.isLt; have := k.isLt; omega⟩)

/-- The position in its batch of row `R` of the flattened array. -/
def pos (R : Fin 16384) : Fin 8192 := ⟨R.val % 8192, Nat.mod_lt _ (by decide)⟩

/-- Row `R` of the mixer's rows, split into the two batches. -/
theorem v9_at (x0 : (⟨S16384x4096, .bf16⟩ : BufTy).Contents (Elt Ideal)) (R : Fin 16384) (k : Fin 4096) :
    val_main_v9 (F := Ideal) x0 (ix3 (bat R) (pos R) k) = rA x0 R k := by
  pointwise [val_main_v8, val_main_v9]
  unfold rA
  refine congrArg x0 ?_
  have h := R.isLt
  funext a
  match a with
  | ⟨0, _⟩ => exact Fin.ext (by show R.val / 8192 * 8192 + R.val % 8192 = R.val; omega)
  | ⟨1, _⟩ => rfl

/-- The product of the two. -/
theorem v11_at (x0 : (⟨S16384x4096, .bf16⟩ : BufTy).Contents (Elt Ideal)) (x1 : (⟨S1x4096x2048, .f32⟩ : BufTy).Contents (Elt Ideal)) (R : Fin 16384) (c : Fin 2048) :
    val_main_v11 (F := Ideal) x0 x1 (ix3 (bat R) (pos R) c) = proj (rA x0) (rW x1) R c := by
  have hh := v9_at x0 R
  unfold val_main_v11
  revert hh
  generalize val_main_v9 (F := Ideal) x0 = h
  intro hh
  pointwise [val_main_v10]
  unfold proj
  simp only [← hh]
  rfl

/-- THE REFERENCE'S RESULT, at row `R` and lane `k`. -/
theorem v16_at (x0 : (⟨S16384x4096, .bf16⟩ : BufTy).Contents (Elt Ideal)) (x1 : (⟨S1x4096x2048, .f32⟩ : BufTy).Contents (Elt Ideal)) (x2 : (⟨S2x8192x2048, .f32⟩ : BufTy).Contents (Elt Ideal)) (x3 : (⟨S2x2x12288, .f32⟩ : BufTy).Contents (Elt Ideal)) (R : Fin 16384) (k : Fin 2048) :
    val_main_v16 (F := Ideal) x0 x1 x2 x3 (ix2 R k) = res (rX x2) (rM x3 2) (proj (rA x0) (rW x1)) R k := by
  have hh := v11_at x0 x1 R
  unfold val_main_v16 val_main_v15 val_main_v14
  revert hh
  generalize val_main_v11 (F := Ideal) x0 x1 = h
  intro hh
  pointwise [val_main_v0, val_main_v1, val_main_v4, val_main_v12, val_main_v13]
  change _ + _ * h (ix3 (bat R) (pos R) k) = _
  unfold res
  rw [← hh]
  rfl

end Cert.SsmOutRefIdeal.Hand

end
-- ==== Proof.SsmOut.Eq.lean ====
module

public import proofs.«01_k».proof.Defs
public import proofs.«01_k».proof.Proof.SsmOut.Ref

@[expose] public section

noncomputable section

namespace Cert.SsmOutEq

open Idealize.ShloMosaic Idealize.ShloMosaic.TcCoe Idealize.SL.Sem

/-- The array the call returns is the reference's, where their arguments agree. -/
theorem value_eq (m : (ℓ : Loc SsmOutIdeal.nD SsmOutIdeal.τ SsmOutIdeal.sig) → Buf (Elt Ideal) ℓ)
    (m' : (ℓ : Loc SsmOutRefIdeal.nD SsmOutRefIdeal.τ SsmOutRefIdeal.sig) → Buf (Elt Ideal) ℓ) (c : Dev SsmOutIdeal.nD)
    (h0 : m' ((c.tc : Thread SsmOutRefIdeal.nD SsmOutRefIdeal.τ).loc SsmOutRefIdeal.main_arg0) = m ((c.tc : Thread SsmOutIdeal.nD SsmOutIdeal.τ).loc SsmOutIdeal.main_arg0))
    (h1 : m' ((c.tc : Thread SsmOutRefIdeal.nD SsmOutRefIdeal.τ).loc SsmOutRefIdeal.main_arg1) = m ((c.tc : Thread SsmOutIdeal.nD SsmOutIdeal.τ).loc SsmOutIdeal.main_arg1))
    (h2 : m' ((c.tc : Thread SsmOutRefIdeal.nD SsmOutRefIdeal.τ).loc SsmOutRefIdeal.main_arg2) = m ((c.tc : Thread SsmOutIdeal.nD SsmOutIdeal.τ).loc SsmOutIdeal.main_arg2))
    (h3 : m' ((c.tc : Thread SsmOutRefIdeal.nD SsmOutRefIdeal.τ).loc SsmOutRefIdeal.main_arg3) = m ((c.tc : Thread SsmOutIdeal.nD SsmOutIdeal.τ).loc SsmOutIdeal.main_arg3)) :
    SsmOutRefIdeal.Read.val_main_v16 (F := Ideal) (m' ((c.tc : Thread SsmOutRefIdeal.nD SsmOutRefIdeal.τ).loc SsmOutRefIdeal.main_arg0)) (m' ((c.tc : Thread SsmOutRefIdeal.nD SsmOutRefIdeal.τ).loc SsmOutRefIdeal.main_arg1)) (m' ((c.tc : Thread SsmOutRefIdeal.nD SsmOutRefIdeal.τ).loc SsmOutRefIdeal.main_arg2)) (m' ((c.tc : Thread SsmOutRefIdeal.nD SsmOutRefIdeal.τ).loc SsmOutRefIdeal.main_arg3)) = SsmOutIdeal.Hand.G m c := by
  rw [h0, h1, h2, h3]
  funext i
  obtain ⟨R, k, rfl⟩ : ∃ R k, i = ix2 R k := ⟨i 0, i 1, eq_ix2 i⟩
  exact SsmOutRefIdeal.Hand.v16_at _ _ _ _ R k

/-- The output projection's call and its reference, read over the extended reals, run, agree and keep their arguments. -/
theorem algebraic [Cert.SsmOutIdeal.Facts] [Cert.SsmOutRefIdeal.Facts] : Cert.algebraic_SsmOutIdeal_SsmOutRefIdeal := by
  intro m g m' g' _ hagree
  refine ⟨fun c => SsmOutIdeal.Hand.G m c, ?_, ?_⟩
  · refine (θ_run _ _ _).mono (fun r h c => ?_) (SsmOutIdeal.Value.run_blocks m g)
    exact ⟨(h c).1.trans (SsmOutIdeal.Hand.arr_eq m c), (h c).2⟩
  · refine (θ_run _ _ _).mono (fun r h c => ?_) (SsmOutRefIdeal.Value.run m' g')
    obtain ⟨h0, h1, h2, h3⟩ := hagree c
    exact ⟨((h c).1.trans (SsmOutRefIdeal.Read.val_main_v16_eq _ _ _ _)).trans (value_eq m m' c h0 h1 h2 h3), (h c).2⟩

end Cert.SsmOutEq

end
-- ==== Proof.Attn.Row.lean ====
module

public import Idealize.ShloMosaic.PureOps
public import Idealize.ShloMosaic.PureOps.Ideal.Laws
public import Idealize.ShloMosaic.Lib.Pointwise

@[expose] public section

noncomputable section

namespace Cert.AttnRow

open Idealize.ShloMosaic

/-- The greatest of a row's scores. -/
def top {n : ℕ} (s : Fin n → EReal) : EReal := Finset.univ.fold max ⊥ s

/-- The greatest score over two groups of keys. -/
def top2 (a b : Fin 128 → EReal) : EReal := max (top a) (top b)

/-- The sum of the weights `exp (score - greatest)` over two groups of keys. -/
def den2 (a b : Fin 128 → EReal) : EReal :=
  ∑ k, Ideal.exp (a k - top2 a b) + ∑ k, Ideal.exp (b k - top2 a b)

/-- The attention's output as the kernel forms it: the weighted sum of the values, divided once by the sum of the weights. -/
def out2 (a b va vb : Fin 128 → EReal) : EReal :=
  Ideal.div (∑ k, Ideal.exp (a k - top2 a b) * va k + ∑ k, Ideal.exp (b k - top2 a b) * vb k) (den2 a b)

/-- The logarithm of the sum of the exponentials of the scores. -/
def lse2 (a b : Fin 128 → EReal) : EReal := top2 a b + Ideal.log (den2 a b)

/-- The sum of the weights over one group of keys. -/
def den {n : ℕ} (s : Fin n → EReal) : EReal := ∑ k, Ideal.exp (s k - top s)

/-- The attention's output as the mathematics states it: every weight divided by the sum of the weights, then summed against the values. -/
def out {n : ℕ} (s v : Fin n → EReal) : EReal := ∑ k, Ideal.div (Ideal.exp (s k - top s)) (den s) * v k

/-- The logarithm of the sum of the exponentials of the scores of one group of keys. -/
def lse {n : ℕ} (s : Fin n → EReal) : EReal := top s + Ideal.log (den s)

/-- The first 128 of 256 keys. -/
def lo (s : Fin 256 → EReal) : Fin 128 → EReal := fun k => s ⟨k.val, by omega⟩
/-- The last 128 of 256 keys. -/
def hi (s : Fin 256 → EReal) : Fin 128 → EReal := fun k => s ⟨128 + k.val, by omega⟩

theorem sum_lo_hi (f : Fin 256 → EReal) : ∑ k, f k = ∑ k, lo f k + ∑ k, hi f k :=
  Fin.sum_univ_add (a := 128) (b := 128) f

theorem le_top {n : ℕ} (s : Fin n → EReal) (k : Fin n) : s k ≤ top s :=
  (Finset.le_fold_max _).mpr (.inr ⟨k, Finset.mem_univ _, le_rfl⟩)

theorem top_le {n : ℕ} (s : Fin n → EReal) (c : EReal) (h : ∀ k, s k ≤ c) : top s ≤ c :=
  (Finset.fold_max_le _).mpr ⟨bot_le, fun k _ => h k⟩

/-- The greatest of 256 scores is the greater of the two halves' greatest. -/
theorem top_lo_hi (s : Fin 256 → EReal) : top2 (lo s) (hi s) = top s := by
  apply le_antisymm
  · exact max_le (top_le _ _ fun k => le_top s _) (top_le _ _ fun k => le_top s _)
  · refine top_le _ _ fun k => ?_
    by_cases h : k.val < 128
    · exact le_trans (le_top (lo s) ⟨k.val, h⟩) (le_max_left _ _)
    · have hk : s k = hi s ⟨k.val - 128, by omega⟩ := congrArg s (Fin.ext (by show k.val = 128 + (k.val - 128); omega))
      rw [hk]
      exact le_trans (le_top (hi s) _) (le_max_right _ _)

theorem den_lo_hi (s : Fin 256 → EReal) : den2 (lo s) (hi s) = den s := by
  unfold den2 den
  rw [top_lo_hi, sum_lo_hi]
  rfl

theorem lse_lo_hi (s : Fin 256 → EReal) : lse2 (lo s) (hi s) = lse s := by
  unfold lse2 lse
  rw [top_lo_hi, den_lo_hi]

theorem coe_sum {n : ℕ} (f : Fin n → ℝ) : ((∑ k, f k : ℝ) : EReal) = ∑ k, (f k : EReal) := by
  classical
  refine Finset.induction_on (Finset.univ : Finset (Fin n)) ?_ ?_
  · simp
  · intro a t ha ih
    rw [Finset.sum_insert ha, Finset.sum_insert ha, EReal.coe_add, ih]

/-- Where every score is a number or -infinity and one is a number, and the values are numbers, dividing once
    after the sum or every weight before it gives the same output. -/
theorem out_lo_hi (s v : Fin 256 → EReal) (hs : ∀ k, s k ≠ ⊤) (k0 : Fin 256) (hk0 : s k0 ≠ ⊥)
    (hv : ∀ k, ∃ r : ℝ, v k = r) : out2 (lo s) (hi s) (lo v) (hi v) = out s v := by
  have hm1 : top s ≠ ⊤ := by
    intro h
    have : top s < ⊤ := (Finset.fold_max_lt _).mpr ⟨bot_lt_top, fun k _ => lt_top_iff_ne_top.mpr (hs k)⟩
    exact absurd h this.ne
  have hm2 : top s ≠ ⊥ := fun h => hk0 (le_bot_iff.mp (h ▸ le_top s k0))
  have hm : ((top s).toReal : EReal) = top s := EReal.coe_toReal hm1 hm2
  have hp : ∀ k, ∃ r : ℝ, 0 ≤ r ∧ Ideal.exp (s k - top s) = r ∧ (s k ≠ ⊥ → 0 < r) := by
    intro k
    rw [← hm]
    rcases eq_or_ne (s k) ⊥ with h | h
    · refine ⟨0, le_rfl, ?_, fun h' => absurd h h'⟩
      rw [h, EReal.bot_sub]
      rfl
    · refine ⟨Real.exp ((s k).toReal - (top s).toReal), (Real.exp_pos _).le, ?_, fun _ => Real.exp_pos _⟩
      conv_lhs => rw [← EReal.coe_toReal (hs k) h]
      rw [← EReal.coe_sub]
      rfl
  choose P hP0 hP hP1 using hp
  choose V hV using hv
  have hD : den s = ((∑ k, P k : ℝ) : EReal) := by
    unfold den
    rw [coe_sum]
    exact Finset.sum_congr rfl fun k _ => hP k
  have hD0 : (∑ k, P k) ≠ 0 :=
    (Finset.sum_pos' (fun k _ => hP0 k) ⟨k0, Finset.mem_univ _, hP1 k0 hk0⟩).ne'
  unfold out2 out
  rw [den_lo_hi, top_lo_hi, hD]
  have hN : (∑ k, Ideal.exp (lo s k - top s) * lo v k + ∑ k, Ideal.exp (hi s k - top s) * hi v k)
      = ((∑ k, P k * V k : ℝ) : EReal) := by
    rw [coe_sum, sum_lo_hi]
    refine congrArg₂ (· + ·) (Finset.sum_congr rfl fun k _ => ?_) (Finset.sum_congr rfl fun k _ => ?_)
    · rw [lo, lo, lo, hP, hV, EReal.coe_mul]
    · rw [hi, hi, hi, hP, hV, EReal.coe_mul]
  rw [hN, Ideal.div_coe hD0, ← EReal.coe_mul, Finset.sum_mul, coe_sum]
  refine Finset.sum_congr rfl fun k _ => ?_
  rw [hP, hV, Ideal.div_coe hD0, ← EReal.coe_mul, ← EReal.coe_mul]
  congr 1
  ring

/-- A product of numbers scaled before the sum, with a bias of zero or -infinity added, is the scaled sum where the
    bias is zero and -infinity elsewhere. -/
theorem score_eq {n : ℕ} (q k : Fin n → EReal) (hq : ∀ l, ∃ r : ℝ, q l = r) (hk : ∀ l, ∃ r : ℝ, k l = r) (c : ℝ) (P : Prop) [Decidable P] :
    (∑ l, q l * (c : EReal) * k l) + (if P then 0 else ⊥) = if P then (∑ l, q l * k l) * (c : EReal) else ⊥ := by
  choose Q hQ using hq
  choose K hK using hk
  have h1 : (∑ l, q l * (c : EReal) * k l) = ((∑ l, Q l * c * K l : ℝ) : EReal) := by
    rw [coe_sum]; exact Finset.sum_congr rfl fun l _ => by rw [hQ, hK, EReal.coe_mul, EReal.coe_mul]
  have h2 : (∑ l, q l * k l) = ((∑ l, Q l * K l : ℝ) : EReal) := by
    rw [coe_sum]; exact Finset.sum_congr rfl fun l _ => by rw [hQ, hK, EReal.coe_mul]
  rw [h1, h2]
  split
  · rw [add_zero, ← EReal.coe_mul]
    congr 1
    rw [Finset.sum_mul]
    exact Finset.sum_congr rfl fun l _ => by ring
  · exact EReal.add_bot _

/-- The scaled sum of products of numbers is a number. -/
theorem score_real {n : ℕ} (q k : Fin n → EReal) (hq : ∀ l, ∃ r : ℝ, q l = r) (hk : ∀ l, ∃ r : ℝ, k l = r) (c : ℝ) :
    ∃ r : ℝ, (∑ l, q l * k l) * (c : EReal) = r := by
  choose Q hQ using hq
  choose K hK using hk
  refine ⟨(∑ l, Q l * K l) * c, ?_⟩
  rw [EReal.coe_mul, coe_sum]
  exact congrArg (· * (c : EReal)) (Finset.sum_congr rfl fun l _ => by rw [hQ, hK, EReal.coe_mul])

/-- Over 128 lanes, keeping the 64 lanes of one head and putting zero elsewhere sums that head's 64 products. -/
theorem half_sum (h : ℕ) (hh : h < 2) (f g : Fin 128 → EReal) :
    (∑ l : Fin 128, (if l.val / 64 = h then f l else 0) * g l)
      = ∑ e : Fin 64, f ⟨64 * h + e.val, by omega⟩ * g ⟨64 * h + e.val, by omega⟩ := by
  have hs := Fin.sum_univ_add (a := 64) (b := 64) (fun l : Fin 128 => (if l.val / 64 = h then f l else 0) * g l)
  rw [show (∑ l : Fin 128, (if l.val / 64 = h then f l else 0) * g l) = _ from hs]
  obtain rfl | rfl : h = 0 ∨ h = 1 := by omega
  · rw [Finset.sum_eq_zero (s := Finset.univ) (f := fun i : Fin 64 => (if (Fin.natAdd 64 i).val / 64 = 0 then f (Fin.natAdd 64 i) else 0) * g (Fin.natAdd 64 i)), add_zero]
    · refine Finset.sum_congr rfl fun e _ => ?_
      rw [if_pos (by show e.val / 64 = 0; omega)]
      exact congrArg₂ (· * ·) (congrArg f (Fin.ext (by show e.val = 64 * 0 + e.val; omega))) (congrArg g (Fin.ext (by show e.val = 64 * 0 + e.val; omega)))
    · intro e _
      rw [if_neg (by show ¬(64 + e.val) / 64 = 0; omega), zero_mul]
  · rw [Finset.sum_eq_zero (s := Finset.univ) (f := fun i : Fin 64 => (if (Fin.castAdd 64 i).val / 64 = 1 then f (Fin.castAdd 64 i) else 0) * g (Fin.castAdd 64 i)), zero_add]
    · refine Finset.sum_congr rfl fun e _ => ?_
      rw [if_pos (by show (64 + e.val) / 64 = 1; omega)]
      exact congrArg₂ (· * ·) (congrArg f (Fin.ext (by show 64 + e.val = 64 * 1 + e.val; omega))) (congrArg g (Fin.ext (by show 64 + e.val = 64 * 1 + e.val; omega)))
    · intro e _
      rw [if_neg (by show ¬e.val / 64 = 1; omega), zero_mul]

end Cert.AttnRow

end
-- ==== Proof.Attn.Block.lean ====
module

public import proofs.«01_k».proof.Proof.Gen.KernelIdeal.Value
public import Idealize.ShloMosaic.Lib.Pointwise
public import proofs.«01_k».proof.Proof.Attn.Row

@[expose] public section

set_option maxRecDepth 16384

noncomputable section

namespace Cert.KernelIdeal.Hand

open Cert.KernelIdeal Cert.KernelIdeal.Gen Idealize.ShloMosaic Idealize.ShloMosaic.TcCoe Idealize.SL.Sem Cert.AttnRow

theorem mask_val : (Named.named κ "mask" 4048155338#32 : Ideal .f32) = ⊥ := IdealRules.named_const.ideal_named_scalar _ _ _ _ rfl
theorem ninf : Ideal.ofBits FTy.f32 4286578688#32 = ⊥ := by simp [Ideal.ofBits, Ideal.ieee]
theorem eighth16 : Ideal.ofBits FTy.bf16 15872#16 = ((1 / 8 : ℝ) : EReal) := by simp [Ideal.ofBits, Ideal.ieee, -EReal.coe_mul]; norm_num

theorem toInt_small {n : ℕ} (h : n < 2 ^ 31) : (BitVec.ofNat 32 n).toInt = n := by
  rw [BitVec.toInt_eq_toNat_of_lt (by rw [BitVec.toNat_ofNat]; omega), BitVec.toNat_ofNat]; omega

theorem ofBool_eq_one (p : Prop) [Decidable p] : (BitVec.ofBool (decide p) = 1) = p := by
  by_cases h : p <;> simp [h]

/-- A block of the previous keys: key `k` is open to row `r` from the diagonal on, and to no row in the first block. -/
theorem pay5_apply (i : grid0.Coords) (r k : Fin 128) :
    k0_pay5 (F := Ideal) i (ix2 r k) = (if r.val ≤ k.val then 0 else ⊥) + (if 0 < (i 2).val then 0 else ⊥) := by
  have hi : (i 2).val < 64 := (i 2).isLt
  pointwise! [k0_pay5]
  rw [mask_val]
  simp only [Scalar.select, IntOp.cmpi, Scalar.cmpi, BitVec.sle, BitVec.slt, ofBool_eq_one,
    toInt_small (show r.val < 2 ^ 31 by omega), toInt_small (show k.val < 2 ^ 31 by omega), toInt_small (show (i 2).val < 2 ^ 31 by omega)]
  simp

/-- A block of the current keys: key `k` is open to row `r` up to the diagonal. -/
theorem pay6_apply (r k : Fin 128) : k0_pay6 (F := Ideal) (ix2 r k) = (if k.val ≤ r.val then 0 else ⊥) := by
  pointwise! [k0_pay6]
  rw [mask_val]
  simp only [Scalar.select, IntOp.cmpi, Scalar.cmpi, BitVec.sle, BitVec.slt, ofBool_eq_one,
    toInt_small (show r.val < 2 ^ 31 by omega), toInt_small (show k.val < 2 ^ 31 by omega)]
  simp

theorem pay7_apply (r k : Fin 128) : k0_pay7 (ix2 r k) = BitVec.ofBool (decide (k.val < 64)) := by
  pointwise! [k0_pay7]
  simp only [Scalar.select, IntOp.cmpi, Scalar.cmpi, BitVec.sle, BitVec.slt,
    toInt_small (show r.val < 2 ^ 31 by omega), toInt_small (show k.val < 2 ^ 31 by omega)]
  simp

/-- A lane of the first 64 keeps the first half's value, another the second's. -/
theorem sel7 {α : Type} (r k : Fin 128) (a b : α) : Scalar.select (k0_pay7 (ix2 r k)) a b = if k.val < 64 then a else b := by
  rw [pay7_apply, Scalar.select]
  simp only [ofBool_eq_one]

theorem sel7x {α : Type} (r k : Fin 128) (a b : α) :
    Scalar.select (IntOp.xori (k0_pay7 (ix2 r k)) 1#1) a b = if k.val < 64 then b else a := by
  rw [pay7_apply, Scalar.select]
  by_cases h : k.val < 64 <;> simp [h, IntOp.xori]

theorem pay8_apply (q : Vec Ideal S1x128x128 .bf16) (r k : Fin 128) :
    k0_pay8 (F := Ideal) q (ix2 r k) = q (ix3 0 r k) * ((1 / 8 : ℝ) : EReal) := by
  pointwise! [k0_pay8]
  rw [eighth16]

theorem pay9_apply (q : Vec Ideal S1x128x128 .bf16) (r k : Fin 128) : k0_pay9 (F := Ideal) q (ix2 r k) = q (ix3 0 r k) := by
  pointwise! [k0_pay9]
theorem pay10_apply (q : Vec Ideal S1x128x128 .bf16) (r k : Fin 128) : k0_pay10 (F := Ideal) q (ix2 r k) = q (ix3 0 r k) := by
  pointwise! [k0_pay10]
theorem pay11_apply (r k : Fin 128) : k0_pay11 (F := Ideal) (ix2 r k) = 0 := by
  pointwise! [k0_pay11]

/-- A row's scores against 128 keys in the half `h` of a pair of heads, plus the bias of each key. -/
def scr (h : ℕ) (q : Fin 128 → EReal) (k : Fin 128 → Fin 128 → EReal) (b : Fin 128 → EReal) : Fin 128 → EReal :=
  fun j => (∑ l : Fin 128, (if l.val / 64 = h then q l * ((1 / 8 : ℝ) : EReal) else 0) * k j l) + b j

/-- The bias of the previous block's keys, at block `n` and row `r`. -/
def biasP (n r : ℕ) : Fin 128 → EReal := fun k => (if r ≤ k.val then 0 else ⊥) + (if 0 < n then 0 else ⊥)
/-- The bias of the current block's keys, at row `r`. -/
def biasC (r : ℕ) : Fin 128 → EReal := fun k => if k.val ≤ r then 0 else ⊥

/-- The previous keys' scores of row `r`, in half `h`. -/
abbrev sP (h n : ℕ) (q : Vec Ideal S1x128x128 .bf16) (kp : Vec Ideal S128x128 .bf16) (r : Fin 128) :=
  scr h (fun l => q (ix3 0 r l)) (fun j l => kp (ix2 j l)) (biasP n r.val)
/-- The current keys' scores of row `r`, in half `h`. -/
abbrev sC (h : ℕ) (q k : Vec Ideal S1x128x128 .bf16) (r : Fin 128) :=
  scr h (fun l => q (ix3 0 r l)) (fun j l => k (ix3 0 j l)) (biasC r.val)

theorem lt64 (l : Fin 128) (a b : EReal) : (if l.val < 64 then a else b) = if l.val / 64 = 0 then a else b := by
  by_cases h : l.val < 64
  · rw [if_pos h, if_pos (by omega)]
  · rw [if_neg h, if_neg (by omega)]
theorem ge64 (l : Fin 128) (a b : EReal) : (if l.val < 64 then b else a) = if l.val / 64 = 1 then a else b := by
  by_cases h : l.val < 64
  · rw [if_pos h, if_neg (by omega)]
  · rw [if_neg h, if_pos (by omega)]

theorem pay13_apply (i : grid0.Coords) (q : Vec Ideal S1x128x128 .bf16) (kp : Vec Ideal S128x128 .bf16) (r j : Fin 128) :
    k0_pay13 (F := Ideal) (k0_pay5 i) k0_pay7 (k0_pay8 q) kp k0_pay11 (ix2 r j) = sP 0 (i 2).val q kp r j := by
  pointwise! [k0_pay13, k0_pay12]
  simp only [sel7, pay8_apply, pay11_apply, pay5_apply, lt64]
  rfl
theorem pay14_apply (q k : Vec Ideal S1x128x128 .bf16) (r j : Fin 128) :
    k0_pay14 (F := Ideal) k0_pay6 k0_pay7 (k0_pay8 q) (k0_pay9 k) k0_pay11 (ix2 r j) = sC 0 q k r j := by
  pointwise! [k0_pay14, k0_pay12]
  simp only [sel7, pay8_apply, pay9_apply, pay11_apply, pay6_apply, lt64]
  rfl
theorem pay22_apply (i : grid0.Coords) (q : Vec Ideal S1x128x128 .bf16) (kp : Vec Ideal S128x128 .bf16) (r j : Fin 128) :
    k0_pay22 (F := Ideal) (k0_pay5 i) k0_pay7 (k0_pay8 q) kp (ix2 r j) = sP 1 (i 2).val q kp r j := by
  unfold k0_pay22 k0_pay21
  pointwise
  simp only [sel7x, pay8_apply, pay5_apply, ge64]
  simp only [scr, biasP, ite_mul, zero_mul]
theorem pay23_apply (q k : Vec Ideal S1x128x128 .bf16) (r j : Fin 128) :
    k0_pay23 (F := Ideal) k0_pay6 k0_pay7 (k0_pay8 q) (k0_pay9 k) (ix2 r j) = sC 1 q k r j := by
  unfold k0_pay23 k0_pay21
  pointwise
  simp only [sel7x, pay8_apply, pay9_apply, pay6_apply, ge64]
  simp only [scr, biasC, ite_mul, zero_mul]

section
variable (i : grid0.Coords) (q k v : Vec Ideal S1x128x128 .bf16) (kp vp : Vec Ideal S128x128 .bf16)

/-- The output of the pair of heads, as the body forms it. -/
def hOut : FVec Ideal S1x128x128 .f32 :=
  k0_pay29 k0_pay7 (k0_pay10 v) vp
    (k0_pay19 (k0_pay5 i) k0_pay6 k0_pay7 (k0_pay8 q) (k0_pay9 k) (k0_pay10 v) kp vp k0_pay11)
    (k0_pay23 k0_pay6 k0_pay7 (k0_pay8 q) (k0_pay9 k))
    (k0_pay24 (k0_pay5 i) k0_pay6 k0_pay7 (k0_pay8 q) (k0_pay9 k) kp)
    (k0_pay25 (k0_pay5 i) k0_pay6 k0_pay7 (k0_pay8 q) (k0_pay9 k) kp)

/-- The logarithm of the denominator of the pair of heads, as the body forms it. -/
def hLse : FVec Ideal S1x128x128 .f32 :=
  k0_pay30 k0_pay7
    (k0_pay20 (k0_pay5 i) k0_pay6 k0_pay7 (k0_pay8 q) (k0_pay9 k) kp k0_pay11)
    (k0_pay23 k0_pay6 k0_pay7 (k0_pay8 q) (k0_pay9 k))
    (k0_pay24 (k0_pay5 i) k0_pay6 k0_pay7 (k0_pay8 q) (k0_pay9 k) kp)
    (k0_pay25 (k0_pay5 i) k0_pay6 k0_pay7 (k0_pay8 q) (k0_pay9 k) kp)

theorem pay15_apply (r : Fin 128) :
    k0_pay15 (F := Ideal) (k0_pay5 i) k0_pay6 k0_pay7 (k0_pay8 q) (k0_pay9 k) kp k0_pay11 (ix2 r 0)
      = top2 (sP 0 (i 2).val q kp r) (sC 0 q k r) := by
  unfold k0_pay15
  pointwise
  simp only [pay13_apply, pay14_apply, ninf]
  rfl
theorem pay24_apply (r : Fin 128) :
    k0_pay24 (F := Ideal) (k0_pay5 i) k0_pay6 k0_pay7 (k0_pay8 q) (k0_pay9 k) kp (ix2 r 0)
      = top2 (sP 1 (i 2).val q kp r) (sC 1 q k r) := by
  unfold k0_pay24
  pointwise
  simp only [pay22_apply, pay23_apply, ninf]
  rfl
theorem pay16_apply (r j : Fin 128) :
    k0_pay16 (F := Ideal) (k0_pay5 i) k0_pay6 k0_pay7 (k0_pay8 q) (k0_pay9 k) kp k0_pay11 (ix2 r j)
      = Ideal.exp (sP 0 (i 2).val q kp r j - top2 (sP 0 (i 2).val q kp r) (sC 0 q k r)) := by
  unfold k0_pay16
  pointwise
  simp only [pay13_apply, pay15_apply]
theorem pay17_apply (r j : Fin 128) :
    k0_pay17 (F := Ideal) (k0_pay5 i) k0_pay6 k0_pay7 (k0_pay8 q) (k0_pay9 k) kp k0_pay11 (ix2 r j)
      = Ideal.exp (sC 0 q k r j - top2 (sP 0 (i 2).val q kp r) (sC 0 q k r)) := by
  unfold k0_pay17
  pointwise
  simp only [pay14_apply, pay15_apply]
theorem pay18_apply (r : Fin 128) :
    k0_pay18 (F := Ideal) (k0_pay5 i) k0_pay6 k0_pay7 (k0_pay8 q) (k0_pay9 k) kp k0_pay11 (ix2 r 0)
      = den2 (sP 0 (i 2).val q kp r) (sC 0 q k r) := by
  unfold k0_pay18
  pointwise
  simp only [pay16_apply, pay17_apply]
  rfl
theorem pay19_apply (r d : Fin 128) :
    k0_pay19 (F := Ideal) (k0_pay5 i) k0_pay6 k0_pay7 (k0_pay8 q) (k0_pay9 k) (k0_pay10 v) kp vp k0_pay11 (ix2 r d)
      = out2 (sP 0 (i 2).val q kp r) (sC 0 q k r) (fun j => vp (ix2 j d)) (fun j => v (ix3 0 j d)) := by
  unfold k0_pay19
  pointwise
  simp only [pay16_apply, pay17_apply, pay18_apply, pay10_apply]
  rfl
theorem pay20_apply (r d : Fin 128) :
    k0_pay20 (F := Ideal) (k0_pay5 i) k0_pay6 k0_pay7 (k0_pay8 q) (k0_pay9 k) kp k0_pay11 (ix2 r d)
      = lse2 (sP 0 (i 2).val q kp r) (sC 0 q k r) := by
  unfold k0_pay20
  pointwise
  simp only [pay15_apply, pay18_apply]
  rfl
theorem pay25_apply (r j : Fin 128) :
    k0_pay25 (F := Ideal) (k0_pay5 i) k0_pay6 k0_pay7 (k0_pay8 q) (k0_pay9 k) kp (ix2 r j)
      = sP 1 (i 2).val q kp r j - top2 (sP 1 (i 2).val q kp r) (sC 1 q k r) := by
  unfold k0_pay25
  pointwise
  simp only [pay22_apply, pay24_apply]

/-- The pair's output at row `r`, lane `d`: the attention of the half that holds lane `d`. -/
theorem hOut_apply (r d : Fin 128) : hOut i q k v kp vp (ix3 0 r d)
    = out2 (sP (d.val / 64) (i 2).val q kp r) (sC (d.val / 64) q k r) (fun j => vp (ix2 j d)) (fun j => v (ix3 0 j d)) := by
  unfold hOut
  unfold k0_pay29 k0_pay28 k0_pay27 k0_pay26
  pointwise
  simp only [pay19_apply, pay23_apply, pay24_apply, pay25_apply, pay10_apply, sel7]
  by_cases h : d.val < 64
  · rw [if_pos h, show d.val / 64 = 0 by omega]
  · rw [if_neg h, show d.val / 64 = 1 by omega]
    rfl

/-- The pair's logarithm of the denominator at row `r`, lane `d`. -/
theorem hLse_apply (r d : Fin 128) : hLse i q k kp (ix3 0 r d)
    = lse2 (sP (d.val / 64) (i 2).val q kp r) (sC (d.val / 64) q k r) := by
  unfold hLse
  unfold k0_pay30 k0_pay28 k0_pay27 k0_pay26
  pointwise
  simp only [pay20_apply, pay23_apply, pay24_apply, pay25_apply, sel7]
  by_cases h : d.val < 64
  · rw [if_pos h, show d.val / 64 = 0 by omega]
  · rw [if_neg h, show d.val / 64 = 1 by omega]
    rfl
end

end Cert.KernelIdeal.Hand

end
-- ==== Proof.Attn.Tile.lean ====
module

public import proofs.«01_k».proof.Proof.Attn.Block
public import Idealize.ShloMosaic.Lib.Pipeline.ValueKit
public import Idealize.ShloMosaic.Lib.Pipeline.CanonAppend
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem Cert.AttnRow

/-- Lane `e` of the head that holds lane `c`. -/
abbrev lane (c : Fin 512) (e : Fin 64) : Fin 512 := ⟨64 * (c.val / 64) + e.val, by omega⟩

/-- The scaled scores of row `r` against the block's previous keys, in the head of lane `c`. -/
def blkP (n : ℕ) (x0 : Vec Ideal S1x128x512 .bf16) (kp : Vec Ideal S128x512 .bf16) (r : Fin 128) (c : Fin 512) : Fin 128 → EReal :=
  fun j => (∑ e : Fin 64, x0 (ix3 0 r (lane c e)) * ((1 / 8 : ℝ) : EReal) * kp (ix2 j (lane c e))) + biasP n r.val j
/-- The scaled scores of row `r` against the block's own keys, in the head of lane `c`. -/
def blkC (x0 x1 : Vec Ideal S1x128x512 .bf16) (r : Fin 128) (c : Fin 512) : Fin 128 → EReal :=
  fun j => (∑ e : Fin 64, x0 (ix3 0 r (lane c e)) * ((1 / 8 : ℝ) : EReal) * x1 (ix3 0 j (lane c e))) + biasC r.val j

/-- The attention's output over a block of 128 rows and its 8 heads. -/
def oBlk (n : ℕ) (x0 x1 x2 : Vec Ideal S1x128x512 .bf16) (kp vp : Vec Ideal S128x512 .bf16) : Vec Ideal S1x128x512 .f32 := fun y =>
  out2 (blkP n x0 kp (y 1) (y 2)) (blkC x0 x1 (y 1) (y 2)) (fun j => vp (ix2 j (y 2))) (fun j => x2 (ix3 0 j (y 2)))
/-- The logarithm of the denominator over a block, the same on each lane of a head. -/
def lBlk (n : ℕ) (x0 x1 : Vec Ideal S1x128x512 .bf16) (kp : Vec Ideal S128x512 .bf16) : Vec Ideal S1x128x512 .f32 := fun y =>
  lse2 (blkP n x0 kp (y 1) (y 2)) (blkC x0 x1 (y 1) (y 2))

/-- An embedding of a pair of heads in the block: lane `d` of the pair is lane `o + d`, with `o` a multiple of 128. -/
structure IsPair (o : ℕ) (E : S1x128x128.Idx → S1x128x512.Idx) (E2 : S128x128.Idx → S128x512.Idx) : Prop where
  le : o + 128 ≤ 512
  dvd : o % 128 = 0
  e3 : ∀ r d, E (ix3 0 r d) = ix3 0 r ⟨(o + d.val) % 512, Nat.mod_lt _ (by decide)⟩
  e2 : ∀ r d, E2 (ix2 r d) = ix2 r ⟨(o + d.val) % 512, Nat.mod_lt _ (by decide)⟩

theorem pair_unit (o : ℕ) (ho : o + 128 ≤ 512) (hd : o % 128 = 0)
    (inb3 : ∀ a, (![0, 0, o] : Fin 3 → ℕ) a + S1x128x128.size a ≤ S1x128x512.size a)
    (inb2 : ∀ a, (![0, o] : Fin 2 → ℕ) a + S128x128.size a ≤ S128x512.size a) :
    IsPair o (fun y => (Rect.unit (s := S1x128x512) ![0, 0, o] S1x128x128.size inb3).emb y)
      (fun y => (Rect.unit (s := S128x512) ![0, o] S128x128.size inb2).emb y) where
  le := ho
  dvd := hd
  e3 := fun r d => by
    funext a
    match a with
    | ⟨0, _⟩ => exact Fin.ext rfl
    | ⟨1, _⟩ => exact Fin.ext (by show 0 + 1 * r.val = r.val; omega)
    | ⟨2, _⟩ => exact Fin.ext (by show o + 1 * d.val = (o + d.val) % 512; omega)
  e2 := fun r d => by
    funext a
    match a with
    | ⟨0, _⟩ => exact Fin.ext (by show 0 + 1 * r.val = r.val; omega)
    | ⟨1, _⟩ => exact Fin.ext (by show o + 1 * d.val = (o + d.val) % 512; omega)

section
variable (i : grid0.Coords) (x0 x1 x2 : Vec Ideal S1x128x512 .bf16) (kp vp : Vec Ideal S128x512 .bf16)
    {o : ℕ} {E : S1x128x128.Idx → S1x128x512.Idx} {E2 : S128x128.Idx → S128x512.Idx} (hE : IsPair o E E2)
include hE

theorem pair_lane (d : Fin 128) (e : Fin 64) :
    (⟨(o + (64 * (d.val / 64) + e.val)) % 512, Nat.mod_lt _ (by decide)⟩ : Fin 512)
      = lane ⟨(o + d.val) % 512, Nat.mod_lt _ (by decide)⟩ e := by
  have := hE.le
  have := hE.dvd
  exact Fin.ext (by show (o + (64 * (d.val / 64) + e.val)) % 512 = 64 * ((o + d.val) % 512 / 64) + e.val; omega)

theorem sP_pair (n : ℕ) (r d : Fin 128) :
    sP (d.val / 64) n (fun z => x0 (E z)) (fun z => kp (E2 z)) r = blkP n x0 kp r ⟨(o + d.val) % 512, Nat.mod_lt _ (by decide)⟩ := by
  funext j
  unfold sP scr blkP
  rw [half_sum (d.val / 64) (by omega) (fun l => x0 (E (ix3 0 r l)) * ((1 / 8 : ℝ) : EReal)) (fun l => kp (E2 (ix2 j l)))]
  simp only [hE.e3, hE.e2, pair_lane hE]

theorem sC_pair (r d : Fin 128) :
    sC (d.val / 64) (fun z => x0 (E z)) (fun z => x1 (E z)) r = blkC x0 x1 r ⟨(o + d.val) % 512, Nat.mod_lt _ (by decide)⟩ := by
  funext j
  unfold sC scr blkC
  rw [half_sum (d.val / 64) (by omega) (fun l => x0 (E (ix3 0 r l)) * ((1 / 8 : ℝ) : EReal)) (fun l => x1 (E (ix3 0 j l)))]
  simp only [hE.e3, pair_lane hE]

/-- A pair of heads of the block's output is what the body forms from that pair of heads. -/
theorem hOut_pair (y : S1x128x128.Idx) :
    hOut i (fun z => x0 (E z)) (fun z => x1 (E z)) (fun z => x2 (E z)) (fun z => kp (E2 z)) (fun z => vp (E2 z)) y
      = oBlk (i 2).val x0 x1 x2 kp vp (E y) := by
  obtain ⟨r, d, rfl⟩ : ∃ r d, y = ix3 0 r d := ⟨y 1, y 2, by
    rw [eq_ix3 y]
    exact congrArg (fun z => ix3 z (y 1) (y 2)) (Fin.ext (by have : (y 0).val < 1 := (y 0).isLt; show (y 0).val = 0; omega))⟩
  rw [hOut_apply, sP_pair x0 kp hE, sC_pair x0 x1 hE, hE.e3]
  unfold oBlk
  simp only [hE.e2, hE.e3]
  rfl

/-- A pair of heads of the block's logarithm of the denominator is what the body forms from that pair. -/
theorem hLse_pair (y : S1x128x128.Idx) :
    hLse i (fun z => x0 (E z)) (fun z => x1 (E z)) (fun z => kp (E2 z)) y = lBlk (i 2).val x0 x1 kp (E y) := by
  obtain ⟨r, d, rfl⟩ : ∃ r d, y = ix3 0 r d := ⟨y 1, y 2, by
    rw [eq_ix3 y]
    exact congrArg (fun z => ix3 z (y 1) (y 2)) (Fin.ext (by have : (y 0).val < 1 := (y 0).isLt; show (y 0).val = 0; omega))⟩
  rw [hLse_apply, sP_pair x0 kp hE, sC_pair x0 x1 hE, hE.e3]
  rfl
end

/-- The four pairs of heads lie side by side over the block's 512 lanes. -/
theorem pairs_cover (y : S1x128x512.Idx) : y ∈ (Rect.unit (s := S1x128x512) ![0, 0, 384] S1x128x128.size inb_S1x128x512_S1x128x128_0_0_384).set
    ∨ y ∈ (Rect.unit (s := S1x128x512) ![0, 0, 256] S1x128x128.size inb_S1x128x512_S1x128x128_0_0_256).set
    ∨ y ∈ (Rect.unit (s := S1x128x512) ![0, 0, 128] S1x128x128.size inb_S1x128x512_S1x128x128_0_0_128).set
    ∨ y ∈ (Rect.unit (s := S1x128x512) ![0, 0, 0] S1x128x128.size inb_S1x128x512_S1x128x128_0_0_0).set := by
  have h0 : (y 0).val < 1 := (y 0).isLt
  have h1 : (y 1).val < 128 := (y 1).isLt
  have h2 : (y 2).val < 512 := (y 2).isLt
  have key : ∀ o : ℕ, ∀ inb : ∀ a, (![0, 0, o] : Fin 3 → ℕ) a + S1x128x128.size a ≤ S1x128x512.size a,
      o ≤ (y 2).val → (y 2).val < o + 128 → y ∈ (Rect.unit (s := S1x128x512) ![0, 0, o] S1x128x128.size inb).set := by
    intro o inb ha hb
    rw [Rect.mem_set_unit]
    intro a
    match a with
    | ⟨0, _⟩ => exact ⟨Nat.zero_le _, by show (y 0).val < 0 + 1; omega⟩
    | ⟨1, _⟩ => exact ⟨Nat.zero_le _, by show (y 1).val < 0 + 128; omega⟩
    | ⟨2, _⟩ => exact ⟨ha, hb⟩
  by_cases a : 384 ≤ (y 2).val
  · exact .inl (key 384 _ a (by omega))
  by_cases b : 256 ≤ (y 2).val
  · exact .inr (.inl (key 256 _ b (by omega)))
  by_cases d : 128 ≤ (y 2).val
  · exact .inr (.inr (.inl (key 128 _ d (by omega))))
  · exact .inr (.inr (.inr (key 0 _ (by omega) (by omega))))

/-- Four pieces over the four pairs of heads, each a pair of `G`, make up `G`. -/
theorem canon_pairs (G : Vec Ideal S1x128x512 .f32) (p0 p1 p2 p3 : FVec Ideal S1x128x128 .f32)
    (h3 : ∀ y, p3 y = G ((Rect.unit (s := S1x128x512) ![0, 0, 384] S1x128x128.size inb_S1x128x512_S1x128x128_0_0_384).emb y))
    (h2 : ∀ y, p2 y = G ((Rect.unit (s := S1x128x512) ![0, 0, 256] S1x128x128.size inb_S1x128x512_S1x128x128_0_0_256).emb y))
    (h1 : ∀ y, p1 y = G ((Rect.unit (s := S1x128x512) ![0, 0, 128] S1x128x128.size inb_S1x128x512_S1x128x128_0_0_128).emb y))
    (h0 : ∀ y, p0 y = G ((Rect.unit (s := S1x128x512) ![0, 0, 0] S1x128x128.size inb_S1x128x512_S1x128x128_0_0_0).emb y)) :
    View.canon (Val := Elt Ideal) (s := S1x128x512) (e := .f32)
      [⟨Rect.unit ![0, 0, 384] S1x128x128.size inb_S1x128x512_S1x128x128_0_0_384, p3⟩,
       ⟨Rect.unit ![0, 0, 256] S1x128x128.size inb_S1x128x512_S1x128x128_0_0_256, p2⟩,
       ⟨Rect.unit ![0, 0, 128] S1x128x128.size inb_S1x128x512_S1x128x128_0_0_128, p1⟩,
       ⟨Rect.unit ![0, 0, 0] S1x128x128.size inb_S1x128x512_S1x128x128_0_0_0, p0⟩] = G := by
  funext y
  refine View.canon_apply_of_pieces (Val := Elt Ideal) G _ (fun p hp => ?_) y ?_
  · simp only [List.mem_cons, List.not_mem_nil, or_false] at hp
    rcases hp with rfl | rfl | rfl | rfl
    · exact h3
    · exact h2
    · exact h1
    · exact h0
  · rcases pairs_cover y with h | h | h | h
    · exact ⟨_, .head _, h⟩
    · exact ⟨_, .tail _ (.head _), h⟩
    · exact ⟨_, .tail _ (.tail _ (.head _)), h⟩
    · exact ⟨_, .tail _ (.tail _ (.tail _ (.head _))), h⟩

/-- A rectangle read after the whole scratch was filled is a rectangle of the fill. -/
theorem fill_read (v : View sig .tc .vmem S128x512 .bf16) (Z : Vec Ideal S128x512 .bf16) (r : Rect S128x512) :
    v.readCov (Val := Elt Ideal) [⟨Rect.unit (s := S128x512) ![0, 0] ![128, 512] inb_S128x512_S128x512_0_0, Z⟩] r.toLoadRect = View.ld Z r :=
  View.readCov_fill v inb_S128x512_S128x512_0_0 Z [] r (by decide)

/-- In the first block of a sequence the previous keys and values are zeros. -/
theorem oA3 (c : Dev nD) (i : grid0.Coords) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S128x512 .bf16) (harg8 : arg8.IsWhole) (arg9 : Memref sig .tc .vmem S128x512 .bf16) (harg9 : arg9.IsWhole) (hc0 : cond0_0 i) (x0 x1 x2 : Vec Ideal S1x128x512 .bf16) :
    out0_A_3 (F := Ideal) c i arg3 harg3 arg4 harg4 arg5 harg5 arg6 harg6 arg7 harg7 arg8 harg8 arg9 harg9 hc0 x0 x1 x2 = oBlk (i 2).val x0 x1 x2 (k0_pay3 (F := Ideal)) (k0_pay4 (F := Ideal)) := by
  frame_out
  simp only [fill_read]
  exact canon_pairs _ _ _ _ _ (fun y => hOut_pair i x0 x1 x2 (k0_pay3 (F := Ideal)) (k0_pay4 (F := Ideal)) (pair_unit 384 (by decide) (by decide) inb_S1x128x512_S1x128x128_0_0_384 inb_S128x512_S128x128_0_384) y) (fun y => hOut_pair i x0 x1 x2 (k0_pay3 (F := Ideal)) (k0_pay4 (F := Ideal)) (pair_unit 256 (by decide) (by decide) inb_S1x128x512_S1x128x128_0_0_256 inb_S128x512_S128x128_0_256) y) (fun y => hOut_pair i x0 x1 x2 (k0_pay3 (F := Ideal)) (k0_pay4 (F := Ideal)) (pair_unit 128 (by decide) (by decide) inb_S1x128x512_S1x128x128_0_0_128 inb_S128x512_S128x128_0_128) y) (fun y => hOut_pair i x0 x1 x2 (k0_pay3 (F := Ideal)) (k0_pay4 (F := Ideal)) (pair_unit 0 (by decide) (by decide) inb_S1x128x512_S1x128x128_0_0_0 inb_S128x512_S128x128_0_0) y)

/-- The logarithm of the denominator in the first block of a sequence. -/
theorem oA4 (c : Dev nD) (i : grid0.Coords) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S128x512 .bf16) (harg8 : arg8.IsWhole) (arg9 : Memref sig .tc .vmem S128x512 .bf16) (harg9 : arg9.IsWhole) (hc0 : cond0_0 i) (x0 x1 x2 : Vec Ideal S1x128x512 .bf16) :
    out0_A_4 (F := Ideal) c i arg3 harg3 arg4 harg4 arg5 harg5 arg6 harg6 arg7 harg7 arg8 harg8 arg9 harg9 hc0 x0 x1 x2 = lBlk (i 2).val x0 x1 (k0_pay3 (F := Ideal)) := by
  frame_out
  simp only [fill_read]
  exact canon_pairs _ _ _ _ _ (fun y => hLse_pair i x0 x1 (k0_pay3 (F := Ideal)) (pair_unit 384 (by decide) (by decide) inb_S1x128x512_S1x128x128_0_0_384 inb_S128x512_S128x128_0_384) y) (fun y => hLse_pair i x0 x1 (k0_pay3 (F := Ideal)) (pair_unit 256 (by decide) (by decide) inb_S1x128x512_S1x128x128_0_0_256 inb_S128x512_S128x128_0_256) y) (fun y => hLse_pair i x0 x1 (k0_pay3 (F := Ideal)) (pair_unit 128 (by decide) (by decide) inb_S1x128x512_S1x128x128_0_0_128 inb_S128x512_S128x128_0_128) y) (fun y => hLse_pair i x0 x1 (k0_pay3 (F := Ideal)) (pair_unit 0 (by decide) (by decide) inb_S1x128x512_S1x128x128_0_0_0 inb_S128x512_S128x128_0_0) y)

/-- In a later block the previous keys and values are what the scratch holds. -/
theorem oB3 (c : Dev nD) (i : grid0.Coords) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S128x512 .bf16) (harg8 : arg8.IsWhole) (arg9 : Memref sig .tc .vmem S128x512 .bf16) (harg9 : arg9.IsWhole) (hc0 : ¬cond0_0 i) (x0 x1 x2 : Vec Ideal S1x128x512 .bf16) (xs0 xs1 : Vec Ideal S128x512 .bf16) :
    out0_B_3 (F := Ideal) c i arg3 harg3 arg4 harg4 arg5 harg5 arg6 harg6 arg7 harg7 arg8 harg8 arg9 harg9 hc0 x0 x1 x2 xs0 xs1 = oBlk (i 2).val x0 x1 x2 xs0 xs1 := by
  frame_out
  exact canon_pairs _ _ _ _ _ (fun y => hOut_pair i x0 x1 x2 xs0 xs1 (pair_unit 384 (by decide) (by decide) inb_S1x128x512_S1x128x128_0_0_384 inb_S128x512_S128x128_0_384) y) (fun y => hOut_pair i x0 x1 x2 xs0 xs1 (pair_unit 256 (by decide) (by decide) inb_S1x128x512_S1x128x128_0_0_256 inb_S128x512_S128x128_0_256) y) (fun y => hOut_pair i x0 x1 x2 xs0 xs1 (pair_unit 128 (by decide) (by decide) inb_S1x128x512_S1x128x128_0_0_128 inb_S128x512_S128x128_0_128) y) (fun y => hOut_pair i x0 x1 x2 xs0 xs1 (pair_unit 0 (by decide) (by decide) inb_S1x128x512_S1x128x128_0_0_0 inb_S128x512_S128x128_0_0) y)

/-- The logarithm of the denominator in a later block. -/
theorem oB4 (c : Dev nD) (i : grid0.Coords) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S128x512 .bf16) (harg8 : arg8.IsWhole) (arg9 : Memref sig .tc .vmem S128x512 .bf16) (harg9 : arg9.IsWhole) (hc0 : ¬cond0_0 i) (x0 x1 x2 : Vec Ideal S1x128x512 .bf16) (xs0 xs1 : Vec Ideal S128x512 .bf16) :
    out0_B_4 (F := Ideal) c i arg3 harg3 arg4 harg4 arg5 harg5 arg6 harg6 arg7 harg7 arg8 harg8 arg9 harg9 hc0 x0 x1 x2 xs0 xs1 = lBlk (i 2).val x0 x1 xs0 := by
  frame_out
  exact canon_pairs _ _ _ _ _ (fun y => hLse_pair i x0 x1 xs0 (pair_unit 384 (by decide) (by decide) inb_S1x128x512_S1x128x128_0_0_384 inb_S128x512_S128x128_0_384) y) (fun y => hLse_pair i x0 x1 xs0 (pair_unit 256 (by decide) (by decide) inb_S1x128x512_S1x128x128_0_0_256 inb_S128x512_S128x128_0_256) y) (fun y => hLse_pair i x0 x1 xs0 (pair_unit 128 (by decide) (by decide) inb_S1x128x512_S1x128x128_0_0_128 inb_S128x512_S128x128_0_128) y) (fun y => hLse_pair i x0 x1 xs0 (pair_unit 0 (by decide) (by decide) inb_S1x128x512_S1x128x128_0_0_0 inb_S128x512_S128x128_0_0) y)

/-- The body leaves the block's own keys in the scratch. -/
theorem sA0 (c : Dev nD) (i : grid0.Coords) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S128x512 .bf16) (harg8 : arg8.IsWhole) (arg9 : Memref sig .tc .vmem S128x512 .bf16) (harg9 : arg9.IsWhole) (hc0 : cond0_0 i) (x0 x1 x2 : Vec Ideal S1x128x512 .bf16) :
    sout0_A_0 (F := Ideal) c i arg3 harg3 arg4 harg4 arg5 harg5 arg6 harg6 arg7 harg7 arg8 harg8 arg9 harg9 hc0 x0 x1 x2 = k0_pay1 x1 := by
  frame_out

/-- The body leaves the block's own keys in the scratch. -/
theorem sB0 (c : Dev nD) (i : grid0.Coords) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S128x512 .bf16) (harg8 : arg8.IsWhole) (arg9 : Memref sig .tc .vmem S128x512 .bf16) (harg9 : arg9.IsWhole) (hc0 : ¬cond0_0 i) (x0 x1 x2 : Vec Ideal S1x128x512 .bf16) (xs0 xs1 : Vec Ideal S128x512 .bf16) :
    sout0_B_0 (F := Ideal) c i arg3 harg3 arg4 harg4 arg5 harg5 arg6 harg6 arg7 harg7 arg8 harg8 arg9 harg9 hc0 x0 x1 x2 xs0 xs1 = k0_pay1 x1 := by
  frame_out

/-- The body leaves the block's own values in the scratch. -/
theorem sA1 (c : Dev nD) (i : grid0.Coords) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S128x512 .bf16) (harg8 : arg8.IsWhole) (arg9 : Memref sig .tc .vmem S128x512 .bf16) (harg9 : arg9.IsWhole) (hc0 : cond0_0 i) (x0 x1 x2 : Vec Ideal S1x128x512 .bf16) :
    sout0_A_1 (F := Ideal) c i arg3 harg3 arg4 harg4 arg5 harg5 arg6 harg6 arg7 harg7 arg8 harg8 arg9 harg9 hc0 x0 x1 x2 = k0_pay2 x2 := by
  frame_out

/-- The body leaves the block's own values in the scratch. -/
theorem sB1 (c : Dev nD) (i : grid0.Coords) (arg3 : Memref sig .tc .vmem S1x128x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S128x512 .bf16) (harg8 : arg8.IsWhole) (arg9 : Memref sig .tc .vmem S128x512 .bf16) (harg9 : arg9.IsWhole) (hc0 : ¬cond0_0 i) (x0 x1 x2 : Vec Ideal S1x128x512 .bf16) (xs0 xs1 : Vec Ideal S128x512 .bf16) :
    sout0_B_1 (F := Ideal) c i arg3 harg3 arg4 harg4 arg5 harg5 arg6 harg6 arg7 harg7 arg8 harg8 arg9 harg9 hc0 x0 x1 x2 xs0 xs1 = k0_pay2 x2 := by
  frame_out

end Cert.KernelIdeal.Hand

end
-- ==== Proof.Attn.Array.lean ====
module

public import proofs.«01_k».proof.Proof.Attn.Tile
public import Idealize.ShloMosaic.Lib.StableHlo.ReadAt

@[expose] public section

set_option maxRecDepth 16384

noncomputable section

namespace Cert.KernelIdeal.Hand

open Cert.KernelIdeal Cert.KernelIdeal.Gen Idealize.ShloMosaic Idealize.ShloMosaic.TcCoe Idealize.SL.Sem Cert.AttnRow

variable (m : (ℓ : Loc nD τ sig) → Buf (Elt Ideal) ℓ) (c : Dev nD)

/-- The joint projection at batch `b`, position `s`, column `l`. -/
def QKV (b : Fin 2) (s : Fin 8192) (l : Fin 4608) : EReal :=
  m ((c : Thread nD τ).loc main_arg0) (ix2 ⟨8192 * b.val + s.val, by omega⟩ l)

theorem V0 (z : S2x8192x4608.Idx) : V m c main_v0 z = QKV m c (z 0) (z 1) (z 2) := by
  idx_vars z
  after_reads_at
  unfold QKV
  refine congrArg (m ((c : Thread nD τ).loc main_arg0)) ?_
  funext a
  match a with
  | ⟨0, _⟩ => exact Fin.ext (by show z0.val * 8192 + z1.val = 8192 * z0.val + z1.val; omega)
  | ⟨1, _⟩ => exact Fin.ext rfl

/-- Position `r` of block `n`, and lane `l` of the queries (`o = 0`), keys (`1`) or values (`2`) of the first head group. -/
def row (n : Fin 64) (r : Fin 128) : Fin 8192 := ⟨128 * n.val + r.val, by omega⟩
def col (o : Fin 3) (l : Fin 512) : Fin 4608 := ⟨1536 * o.val + l.val, by omega⟩
/-- The point of batch `b` and block `n`. -/
def pt (b : Fin 2) (n : Fin 64) : Fin cfg0.N := ⟨64 * b.val + n.val, by show _ < 128; omega⟩

theorem i0 : ∀ t : Fin cfg0.N, win0_0.index t = ![t.val / 64, t.val % 64, 0] := (by decide +kernel : ∀ t : Fin grid0.N, _)
theorem i1 : ∀ t : Fin cfg0.N, win0_1.index t = ![t.val / 64, t.val % 64, 3] := (by decide +kernel : ∀ t : Fin grid0.N, _)
theorem i2 : ∀ t : Fin cfg0.N, win0_2.index t = ![t.val / 64, t.val % 64, 6] := (by decide +kernel : ∀ t : Fin grid0.N, _)
theorem coord2 : ∀ t : Fin cfg0.N, (grid0.coords t 2).val = t.val % 64 := (by decide +kernel : ∀ t : Fin grid0.N, _)

variable (b : Fin 2) (n : Fin 64)

theorem pt_div : (pt b n).val / 64 = b.val := by unfold pt; dsimp only; omega
theorem pt_mod : (pt b n).val % 64 = n.val := by unfold pt; dsimp only; omega

theorem qkv_congr {b b' : Fin 2} {s s' : Fin 8192} {l l' : Fin 4608} (h0 : b.val = b'.val) (h1 : s.val = s'.val) (h2 : l.val = l'.val) :
    QKV m c b s l = QKV m c b' s' l' := by
  rw [Fin.ext h0, Fin.ext h1, Fin.ext h2]

theorem b0 (r : Fin 128) (l : Fin 512) : iblk m c 0 (pt b n) (ix3 0 r l) = QKV m c b (row n r) (col 0 l) := by
  have hd := pt_div b n
  have hm := pt_mod b n
  blk_simp [iblk, i0]
  rw [V0]
  refine qkv_congr m c ?_ ?_ ?_
  · blk_simp [i0, hd, hm]; exact Nat.add_zero _
  · blk_simp [i0, hd, hm]; show n.val * 128 + r.val = 128 * n.val + r.val; omega
  · blk_simp [i0, hd, hm]; show l.val = 1536 * 0 + l.val; omega
theorem b1 (r : Fin 128) (l : Fin 512) : iblk m c 1 (pt b n) (ix3 0 r l) = QKV m c b (row n r) (col 1 l) := by
  have hd := pt_div b n
  have hm := pt_mod b n
  blk_simp [iblk, i1]
  rw [V0]
  refine qkv_congr m c ?_ ?_ ?_
  · blk_simp [i1, hd, hm]; exact Nat.add_zero _
  · blk_simp [i1, hd, hm]; show n.val * 128 + r.val = 128 * n.val + r.val; omega
  · blk_simp [i1, hd, hm]; show 1536 + l.val = 1536 * 1 + l.val; omega
theorem b2 (r : Fin 128) (l : Fin 512) : iblk m c 2 (pt b n) (ix3 0 r l) = QKV m c b (row n r) (col 2 l) := by
  have hd := pt_div b n
  have hm := pt_mod b n
  blk_simp [iblk, i2]
  rw [V0]
  refine qkv_congr m c ?_ ?_ ?_
  · blk_simp [i2, hd, hm]; exact Nat.add_zero _
  · blk_simp [i2, hd, hm]; show n.val * 128 + r.val = 128 * n.val + r.val; omega
  · blk_simp [i2, hd, hm]; show 3072 + l.val = 1536 * 2 + l.val; omega

theorem pay1_apply (x : Vec Ideal S1x128x512 .bf16) (j : Fin 128) (l : Fin 512) : k0_pay1 (F := Ideal) x (ix2 j l) = x (ix3 0 j l) := by
  pointwise! [k0_pay1]
theorem pay2_apply (x : Vec Ideal S1x128x512 .bf16) (j : Fin 128) (l : Fin 512) : k0_pay2 (F := Ideal) x (ix2 j l) = x (ix3 0 j l) := by
  pointwise! [k0_pay2]
theorem pay3_apply (j : Fin 128) (l : Fin 512) : k0_pay3 (F := Ideal) (ix2 j l) = 0 := by
  pointwise! [k0_pay3]
theorem pay4_apply (j : Fin 128) (l : Fin 512) : k0_pay4 (F := Ideal) (ix2 j l) = 0 := by
  pointwise! [k0_pay4]

/-- The block before block `n` at row `j`, lane `l`: zeros before the first block. -/
def prv (o : Fin 3) (j : Fin 128) (l : Fin 512) : EReal :=
  if h : 0 < n.val then QKV m c b (row ⟨n.val - 1, by omega⟩ j) (col o l) else 0

/-- The scores of position `r` of block `n` against the block before and against its own block, in the head of lane `l`. -/
def scoreP (r : Fin 128) (l : Fin 512) : Fin 128 → EReal := fun j =>
  (∑ e : Fin 64, QKV m c b (row n r) (col 0 (lane l e)) * ((1 / 8 : ℝ) : EReal) * prv m c b n 1 j (lane l e)) + biasP n.val r.val j
def scoreC (r : Fin 128) (l : Fin 512) : Fin 128 → EReal := fun j =>
  (∑ e : Fin 64, QKV m c b (row n r) (col 0 (lane l e)) * ((1 / 8 : ℝ) : EReal) * QKV m c b (row n j) (col 1 (lane l e))) + biasC r.val j

/-- The attention's output at position `r` of block `n`, lane `l`. -/
def oAt (r : Fin 128) (l : Fin 512) : EReal :=
  out2 (scoreP m c b n r l) (scoreC m c b n r l) (fun j => prv m c b n 2 j l) (fun j => QKV m c b (row n j) (col 2 l))
def lAt (r : Fin 128) (l : Fin 512) : EReal := lse2 (scoreP m c b n r l) (scoreC m c b n r l)

/-- The block's output, once the scratch is known to hold the block before. -/
theorem oBlk_eq (N : ℕ) (hN : N = n.val) (kp vp : Vec Ideal S128x512 .bf16) (hk : ∀ j l, kp (ix2 j l) = prv m c b n 1 j l) (hv : ∀ j l, vp (ix2 j l) = prv m c b n 2 j l)
    (r : Fin 128) (l : Fin 512) :
    oBlk N (iblk m c 0 (pt b n)) (iblk m c 1 (pt b n)) (iblk m c 2 (pt b n)) kp vp (ix3 0 r l) = oAt m c b n r l := by
  subst hN
  have e : ∀ (x0 x1 x2 : Vec Ideal S1x128x512 .bf16), oBlk n.val x0 x1 x2 kp vp (ix3 0 r l)
    = out2 (blkP n.val x0 kp r l) (blkC x0 x1 r l) (fun j => vp (ix2 j l)) (fun j => x2 (ix3 0 j l)) := fun _ _ _ => rfl
  rw [e]
  unfold oAt scoreP scoreC blkP blkC
  simp only [b0, b1, b2, hk, hv]
theorem lBlk_eq (N : ℕ) (hN : N = n.val) (kp : Vec Ideal S128x512 .bf16) (hk : ∀ j l, kp (ix2 j l) = prv m c b n 1 j l)
    (r : Fin 128) (l : Fin 512) :
    lBlk N (iblk m c 0 (pt b n)) (iblk m c 1 (pt b n)) kp (ix3 0 r l) = lAt m c b n r l := by
  subst hN
  have e : ∀ (x0 x1 : Vec Ideal S1x128x512 .bf16), lBlk n.val x0 x1 kp (ix3 0 r l)
    = lse2 (blkP n.val x0 kp r l) (blkC x0 x1 r l) := fun _ _ => rfl
  rw [e]
  unfold lAt scoreP scoreC blkP blkC
  simp only [b0, b1, hk]

/-- After every point the scratch holds that block's keys and values. -/
theorem scr_eq : (outsAt0 m c (pt b n).val (pt b n).isLt).2.2.1 = k0_pay1 (iblk m c 1 (pt b n))
    ∧ (outsAt0 m c (pt b n).val (pt b n).isLt).2.2.2 = k0_pay2 (iblk m c 2 (pt b n)) := by
  have hm := pt_mod b n
  by_cases h : n.val = 0
  · rw [outsAt0_A m c (pt b n) (by rw [hm, h])]
    dsimp only
    rw [sA0, sA1]
    exact ⟨rfl, rfl⟩
  · rw [outsAt0_B m c (pt b n) (by rw [hm]; exact h)]
    dsimp only
    rw [sB0, sB1]
    exact ⟨rfl, rfl⟩

/-- After every point the two output blocks hold the attention of that block. -/
theorem outs_eq (r : Fin 128) (l : Fin 512) :
    (outsAt0 m c (pt b n).val (pt b n).isLt).1 (ix3 0 r l) = oAt m c b n r l
    ∧ (outsAt0 m c (pt b n).val (pt b n).isLt).2.1 (ix3 0 r l) = lAt m c b n r l := by
  have hm := pt_mod b n
  have hc : (grid0.coords (pt b n) 2).val = n.val := (coord2 (pt b n)).trans hm
  by_cases h : n.val = 0
  · rw [outsAt0_A m c (pt b n) (by rw [hm, h])]
    dsimp only
    rw [oA3, oA4]
    have hp : ∀ o j l, prv m c b n o j l = 0 := fun o j l => dif_neg (by omega)
    exact ⟨oBlk_eq m c b n _ hc _ _ (fun j l => (pay3_apply j l).trans (hp _ j l).symm) (fun j l => (pay4_apply j l).trans (hp _ j l).symm) r l,
      lBlk_eq m c b n _ hc _ (fun j l => (pay3_apply j l).trans (hp _ j l).symm) r l⟩
  · rw [outsAt0_B m c (pt b n) (by rw [hm]; exact h)]
    have e : outsAt0 m c ((pt b n).val - 1) (Nat.lt_of_le_of_lt (Nat.sub_le _ _) (pt b n).isLt)
        = outsAt0 m c (pt b ⟨n.val - 1, by omega⟩).val (pt b ⟨n.val - 1, by omega⟩).isLt := by
      have : (pt b n).val - 1 = (pt b ⟨n.val - 1, by omega⟩).val := by unfold pt; dsimp only; omega
      congr 1
    rw [e]
    dsimp only
    rw [oB3, oB4, (scr_eq m c b ⟨n.val - 1, by omega⟩).1, (scr_eq m c b ⟨n.val - 1, by omega⟩).2]
    have hp : ∀ o j l, prv m c b n o j l = QKV m c b (row ⟨n.val - 1, by omega⟩ j) (col o l) := fun o j l => dif_pos (by omega)
    have hk : ∀ j l, k0_pay1 (F := Ideal) (iblk m c 1 (pt b ⟨n.val - 1, by omega⟩)) (ix2 j l) = prv m c b n 1 j l :=
      fun j l => (pay1_apply _ j l).trans ((b1 m c b ⟨n.val - 1, by omega⟩ j l).trans (hp 1 j l).symm)
    have hv : ∀ j l, k0_pay2 (F := Ideal) (iblk m c 2 (pt b ⟨n.val - 1, by omega⟩)) (ix2 j l) = prv m c b n 2 j l :=
      fun j l => (pay2_apply _ j l).trans ((b2 m c b ⟨n.val - 1, by omega⟩ j l).trans (hp 2 j l).symm)
    exact ⟨oBlk_eq m c b n _ hc _ _ hk hv r l, lBlk_eq m c b n _ hc _ hk r l⟩

/-- THE ARRAYS the call returns, at batch `b`, position `r` of block `n` and lane `l`: the attention's output. -/
theorem G3_eq (r : Fin 128) (l : Fin 512) : Value.G3 m c (ix3 b (row n r) l) = oAt m c b n r l := by
  have hp : Value.pt3Of (ix3 b (row n r) l) = (pt b n).val := by
    show 64 * (b.val / 1 - 0) + 1 * ((128 * n.val + r.val) / 128 - 0) + 1 * (l.val / 512 - 0) = 64 * b.val + n.val
    omega
  unfold Value.G3
  rw [dif_pos (by rw [hp]; exact (pt b n).isLt)]
  have e := Value.outsAt0_sweep m c (pt b n).val (pt b n).isLt
  have e2 := (outs_eq m c b n r l).1
  rw [e] at e2
  rw [Value.fold0_congr m c _ _ _ (by have := (pt b n).isLt; omega) hp]
  refine Eq.trans ?_ e2
  refine congrArg _ ?_
  funext a
  match a with
  | ⟨0, _⟩ => exact Fin.ext (by show b.val % 1 = 0; omega)
  | ⟨1, _⟩ => exact Fin.ext (by show (128 * n.val + r.val) % 128 = r.val; omega)
  | ⟨2, _⟩ => exact Fin.ext (by show l.val % 512 = l.val; omega)
/-- and the logarithm of the denominator. -/
theorem G4_eq (r : Fin 128) (l : Fin 512) : Value.G4 m c (ix3 b (row n r) l) = lAt m c b n r l := by
  have hp : Value.pt4Of (ix3 b (row n r) l) = (pt b n).val := by
    show 64 * (b.val / 1 - 0) + 1 * ((128 * n.val + r.val) / 128 - 0) + 1 * (l.val / 512 - 0) = 64 * b.val + n.val
    omega
  unfold Value.G4
  rw [dif_pos (by rw [hp]; exact (pt b n).isLt)]
  have e := Value.outsAt0_sweep m c (pt b n).val (pt b n).isLt
  have e2 := (outs_eq m c b n r l).2
  rw [e] at e2
  rw [Value.fold0_congr m c _ _ _ (by have := (pt b n).isLt; omega) hp]
  refine Eq.trans ?_ e2
  refine congrArg _ ?_
  funext a
  match a with
  | ⟨0, _⟩ => exact Fin.ext (by show b.val % 1 = 0; omega)
  | ⟨1, _⟩ => exact Fin.ext (by show (128 * n.val + r.val) % 128 = r.val; omega)
  | ⟨2, _⟩ => exact Fin.ext (by show l.val % 512 = l.val; omega)

end Cert.KernelIdeal.Hand

end
-- ==== Proof.Attn.RefQkv.lean ====
module

public import proofs.«01_k».proof.Proof.Gen.ReferenceIdeal.Read
public import proofs.«01_k».proof.Proof.Attn.Row
public import Idealize.ShloMosaic.Lib.Pointwise

@[expose] public section

set_option maxRecDepth 16384

noncomputable section

namespace Cert.ReferenceIdeal.Hand

open Cert.ReferenceIdeal Cert.ReferenceIdeal.Read Idealize.ShloMosaic Idealize.ShloMosaic.TcCoe Idealize.SL.Sem
open Cert.AttnRow

variable (x0 : (⟨S16384x4608, .bf16⟩ : BufTy).Contents (Elt Ideal))

/-- The joint projection at batch `b`, position `s`: column `64·h + e` of the queries (`o = 0`), keys (`1`) or values (`2`). -/
def rQKV (b : Fin 2) (s : Fin 8192) (o : Fin 3) (h : Fin 8) (e : Fin 64) : EReal :=
  x0 (ix2 ⟨8192 * b.val + s.val, by omega⟩ ⟨1536 * o.val + (64 * h.val + e.val), by omega⟩)

theorem ix2_congr {r r' : Fin 16384} {l l' : Fin 4608} (h0 : r.val = r'.val) (h1 : l.val = l'.val) : x0 (ix2 r l) = x0 (ix2 r' l') := by
  rw [Fin.ext h0, Fin.ext h1]

/-- The reference's queries, keys and values by head. -/
theorem v3_at (b : Fin 2) (h : Fin 8) (s : Fin 8192) (e : Fin 64) : val_main_v3 (F := Ideal) x0 (ix4 b h s e) = rQKV x0 b s 0 h e := by
  unfold val_main_v3 val_main_v2 val_main_v1 val_main_v0
  pointwise
  exact ix2_congr x0 (by show b.val * 8192 + s.val = 8192 * b.val + s.val; omega) (by show h.val * 64 + e.val = 1536 * 0 + (64 * h.val + e.val); omega)
theorem v7_at (b : Fin 2) (h : Fin 8) (s : Fin 8192) (e : Fin 64) : val_main_v7 (F := Ideal) x0 (ix4 b h s e) = rQKV x0 b s 1 h e := by
  unfold val_main_v7 val_main_v6 val_main_v5 val_main_v4
  pointwise
  exact ix2_congr x0 (by show b.val * 8192 + s.val = 8192 * b.val + s.val; omega) (by show 1536 + (h.val * 64 + e.val) = 1536 * 1 + (64 * h.val + e.val); omega)
theorem v11_at (b : Fin 2) (h : Fin 8) (s : Fin 8192) (e : Fin 64) : val_main_v11 (F := Ideal) x0 (ix4 b h s e) = rQKV x0 b s 2 h e := by
  unfold val_main_v11 val_main_v10 val_main_v9 val_main_v8
  pointwise
  exact ix2_congr x0 (by show b.val * 8192 + s.val = 8192 * b.val + s.val; omega) (by show 3072 + (h.val * 64 + e.val) = 1536 * 2 + (64 * h.val + e.val); omega)

theorem rQKV_congr {s s' : Fin 8192} (b : Fin 2) (o : Fin 3) (h : Fin 8) (e : Fin 64) (hs : s.val = s'.val) : rQKV x0 b s o h e = rQKV x0 b s' o h e := by
  rw [Fin.ext hs]

theorem v12_at (b : Fin 2) (h : Fin 8) (n : Fin 64) (r : Fin 128) (e : Fin 64) :
    val_main_v12 (F := Ideal) x0 (ix5 b h n r e) = rQKV x0 b ⟨128 * n.val + r.val, by omega⟩ 0 h e := by
  have hh := v3_at x0
  unfold val_main_v12
  revert hh
  generalize val_main_v3 (F := Ideal) x0 = y
  intro hh
  pointwise
  rw [hh]
  exact rQKV_congr x0 b 0 h e (by show n.val * 128 + r.val = 128 * n.val + r.val; omega)

end Cert.ReferenceIdeal.Hand

end
-- ==== Proof.Attn.RefWin.lean ====
module

public import proofs.«01_k».proof.Proof.Gen.ReferenceIdeal.Read
public import proofs.«01_k».proof.Proof.Attn.Row
public import Idealize.ShloMosaic.Lib.Pointwise
public import proofs.«01_k».proof.Proof.Attn.RefQkv

@[expose] public section

set_option maxRecDepth 16384

noncomputable section

namespace Cert.ReferenceIdeal.Hand

open Cert.ReferenceIdeal Cert.ReferenceIdeal.Read Idealize.ShloMosaic Idealize.ShloMosaic.TcCoe Idealize.SL.Sem
open Cert.AttnRow

variable (x0 : (⟨S16384x4608, .bf16⟩ : BufTy).Contents (Elt Ideal))

/-- Position `p` of the padded keys or values: zero in the padding of 128. -/
def pad (b : Fin 2) (o : Fin 3) (h : Fin 8) (e : Fin 64) (p : ℕ) (hp : p < 8320) : EReal :=
  if hx : p < 128 then 0 else rQKV x0 b ⟨p - 128, by omega⟩ o h e
/-- Position `x` of the window of block `n`. -/
def win (b : Fin 2) (n : Fin 64) (o : Fin 3) (h : Fin 8) (e : Fin 64) (x : Fin 256) : EReal :=
  pad x0 b o h e (128 * n.val + x.val) (by omega)
theorem pad_congr {b : Fin 2} {o : Fin 3} {h : Fin 8} {e : Fin 64} {p q : ℕ} {hp : p < 8320} {hq : q < 8320} (hpq : p = q) :
    pad x0 b o h e p hp = pad x0 b o h e q hq := by
  subst hpq; rfl

theorem shift (n r : ℕ) : 128 * (1 + n) + r = 128 * n + r + 128 := by omega

theorem v14_at (b : Fin 2) (h : Fin 8) (p : Fin 8320) (e : Fin 64) :
    val_main_v14 (F := Ideal) x0 (ix4 b h p e) = pad x0 b 1 h e p.val p.isLt := by
  have hh := v7_at x0
  unfold val_main_v14 val_main_v13 val_main_cst
  revert hh
  generalize val_main_v7 (F := Ideal) x0 = y
  intro hh
  pointwise
  unfold pad
  split
  · rfl
  · exact hh _ _ _ _
theorem v15_at (b : Fin 2) (h : Fin 8) (n : Fin 65) (r : Fin 128) (e : Fin 64) :
    val_main_v15 (F := Ideal) x0 (ix5 b h n r e) = pad x0 b 1 h e (128 * n.val + r.val) (by omega) := by
  have hh := v14_at x0
  unfold val_main_v15
  revert hh
  generalize val_main_v14 (F := Ideal) x0 = y
  intro hh
  pointwise
  rw [hh]
  exact pad_congr x0 (by show n.val * 128 + r.val = 128 * n.val + r.val; omega)
theorem v16_at (b : Fin 2) (h : Fin 8) (n : Fin 64) (r : Fin 128) (e : Fin 64) :
    val_main_v16 (F := Ideal) x0 (ix5 b h n r e) = pad x0 b 1 h e (128 * n.val + r.val) (by omega) := by
  rw [val_main_v16_apply]
  exact v15_at x0 b h ⟨n.val, by omega⟩ r e
theorem v17_at (b : Fin 2) (h : Fin 8) (n : Fin 64) (r : Fin 128) (e : Fin 64) :
    val_main_v17 (F := Ideal) x0 (ix5 b h n r e) = pad x0 b 1 h e (128 * n.val + r.val + 128) (by omega) := by
  have hi : idx_main_v17 (ix5 b h n r e) = ix5 b h ⟨1 + n.val, by omega⟩ r e := by
    funext a
    match a with
    | ⟨0, _⟩ => rfl
    | ⟨1, _⟩ => rfl
    | ⟨2, _⟩ => rfl
    | ⟨3, _⟩ => rfl
    | ⟨4, _⟩ => rfl
  rw [val_main_v17_apply, hi, v15_at]
  exact pad_congr x0 (shift n.val r.val)
/-- The window of keys of block `n`: its keys and those of the block before. -/
theorem v18_at (b : Fin 2) (h : Fin 8) (n : Fin 64) (x : Fin 256) (e : Fin 64) :
    val_main_v18 (F := Ideal) x0 (ix5 b h n x e) = win x0 b n 1 h e x := by
  have h1 := v16_at x0
  have h2 := v17_at x0
  unfold val_main_v18
  revert h1 h2
  generalize val_main_v16 (F := Ideal) x0 = y
  generalize val_main_v17 (F := Ideal) x0 = z
  intro h1 h2
  pointwise
  unfold win
  split
  · exact h1 _ _ _ _ _
  · rw [h2]; exact pad_congr x0 (by dsimp only; omega)

theorem v20_at (b : Fin 2) (h : Fin 8) (p : Fin 8320) (e : Fin 64) :
    val_main_v20 (F := Ideal) x0 (ix4 b h p e) = pad x0 b 2 h e p.val p.isLt := by
  have hh := v11_at x0
  unfold val_main_v20 val_main_v19 val_main_cst_0
  revert hh
  generalize val_main_v11 (F := Ideal) x0 = y
  intro hh
  pointwise
  unfold pad
  split
  · rfl
  · exact hh _ _ _ _
theorem v21_at (b : Fin 2) (h : Fin 8) (n : Fin 65) (r : Fin 128) (e : Fin 64) :
    val_main_v21 (F := Ideal) x0 (ix5 b h n r e) = pad x0 b 2 h e (128 * n.val + r.val) (by omega) := by
  have hh := v20_at x0
  unfold val_main_v21
  revert hh
  generalize val_main_v20 (F := Ideal) x0 = y
  intro hh
  pointwise
  rw [hh]
  exact pad_congr x0 (by show n.val * 128 + r.val = 128 * n.val + r.val; omega)
theorem v22_at (b : Fin 2) (h : Fin 8) (n : Fin 64) (r : Fin 128) (e : Fin 64) :
    val_main_v22 (F := Ideal) x0 (ix5 b h n r e) = pad x0 b 2 h e (128 * n.val + r.val) (by omega) := by
  rw [val_main_v22_apply]
  exact v21_at x0 b h ⟨n.val, by omega⟩ r e
theorem v23_at (b : Fin 2) (h : Fin 8) (n : Fin 64) (r : Fin 128) (e : Fin 64) :
    val_main_v23 (F := Ideal) x0 (ix5 b h n r e) = pad x0 b 2 h e (128 * n.val + r.val + 128) (by omega) := by
  have hi : idx_main_v23 (ix5 b h n r e) = ix5 b h ⟨1 + n.val, by omega⟩ r e := by
    funext a
    match a with
    | ⟨0, _⟩ => rfl
    | ⟨1, _⟩ => rfl
    | ⟨2, _⟩ => rfl
    | ⟨3, _⟩ => rfl
    | ⟨4, _⟩ => rfl
  rw [val_main_v23_apply, hi, v21_at]
  exact pad_congr x0 (shift n.val r.val)
/-- The window of values of block `n`: its values and those of the block before. -/
theorem v24_at (b : Fin 2) (h : Fin 8) (n : Fin 64) (x : Fin 256) (e : Fin 64) :
    val_main_v24 (F := Ideal) x0 (ix5 b h n x e) = win x0 b n 2 h e x := by
  have h1 := v22_at x0
  have h2 := v23_at x0
  unfold val_main_v24
  revert h1 h2
  generalize val_main_v22 (F := Ideal) x0 = y
  generalize val_main_v23 (F := Ideal) x0 = z
  intro h1 h2
  pointwise
  unfold win
  split
  · exact h1 _ _ _ _ _
  · rw [h2]; exact pad_congr x0 (by dsimp only; omega)

end Cert.ReferenceIdeal.Hand

end
-- ==== Proof.Attn.RefMask.lean ====
module

public import proofs.«01_k».proof.Proof.Gen.ReferenceIdeal.Read
public import proofs.«01_k».proof.Proof.Attn.Row
public import Idealize.ShloMosaic.Lib.Pointwise

@[expose] public section

set_option maxRecDepth 16384

noncomputable section

namespace Cert.ReferenceIdeal.Hand

open Cert.ReferenceIdeal Cert.ReferenceIdeal.Read Idealize.ShloMosaic Idealize.ShloMosaic.TcCoe Idealize.SL.Sem
open Cert.AttnRow

theorem toInt_ofNat (n : ℕ) (h : n < 100000) : (BitVec.ofNat 32 n).toInt = n := by
  rw [BitVec.toInt_eq_toNat_of_lt (by rw [BitVec.toNat_ofNat]; omega), BitVec.toNat_ofNat]
  omega

theorem and_one : ∀ a b : BitVec 1, IntOp.andi a b = 1#1 ↔ a = 1#1 ∧ b = 1#1 := by
  unfold IntOp.andi
  decide

/-- The mask of the window: the key at `x` is at most 128 positions before the query at `r`, not after it, and not in the padding. -/
theorem v57_at (n : Fin 64) (r : Fin 128) (x : Fin 256) :
    val_main_v57 (F := Ideal) (ix3 n r x) = 1#1 ↔ (x.val ≤ 128 + r.val ∧ r.val ≤ x.val) ∧ 128 ≤ 128 * n.val + x.val := by
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_c val_main_c_2 val_main_c_3 val_main_c_4 val_main_c_5 val_main_c_6
  pointwise
  have hr := r.isLt
  have hx := x.isLt
  have hn := n.isLt
  have e1 : (BitVec.ofNat 32 r.val + 128#32 - BitVec.ofNat 32 x.val).toInt = (r.val : ℤ) + 128 - x.val := by
    simp only [BitVec.toInt_sub, BitVec.toInt_add, toInt_ofNat _ (show r.val < 100000 by omega), toInt_ofNat _ (show x.val < 100000 by omega), toInt_ofNat _ (show 128 < 100000 by omega)]
    simp only [Int.bmod_def]
    omega
  have e2 : (BitVec.ofNat 32 n.val * 128#32 - 128#32 + BitVec.ofNat 32 x.val).toInt = (n.val : ℤ) * 128 - 128 + x.val := by
    simp only [BitVec.toInt_sub, BitVec.toInt_add, BitVec.toInt_mul, toInt_ofNat _ (show n.val < 100000 by omega), toInt_ofNat _ (show x.val < 100000 by omega), toInt_ofNat _ (show 128 < 100000 by omega)]
    simp only [Int.bmod_def]
    omega
  have ha : ∀ p q : Prop, [Decidable p] → [Decidable q] → ∀ a b : BitVec 1, (a = 1#1 ↔ p) → (b = 1#1 ↔ q) → (IntOp.andi a b = 1#1 ↔ p ∧ q) := by
    intro p q _ _ a b h1 h2
    rw [← h1, ← h2]
    exact and_one a b
  refine ha _ _ _ _ (ha _ _ _ _ ?_ ?_) ?_
  · rw [IntOp.cmpi_sge]
    show (0#32).toInt ≤ (BitVec.ofNat 32 r.val + 128#32 - BitVec.ofNat 32 x.val).toInt ↔ _
    rw [e1]; simp; omega
  · rw [IntOp.cmpi_sle]
    show (BitVec.ofNat 32 r.val + 128#32 - BitVec.ofNat 32 x.val).toInt ≤ (128#32).toInt ↔ _
    rw [e1]; simp; omega
  · rw [IntOp.cmpi_sge]
    show (0#32).toInt ≤ (BitVec.ofNat 32 n.val * 128#32 - 128#32 + BitVec.ofNat 32 x.val).toInt ↔ _
    rw [e2]; simp; omega

end Cert.ReferenceIdeal.Hand

end
-- ==== Proof.Attn.RefScore.lean ====
module

public import proofs.«01_k».proof.Proof.Gen.ReferenceIdeal.Read
public import proofs.«01_k».proof.Proof.Attn.Row
public import Idealize.ShloMosaic.Lib.Pointwise
public import proofs.«01_k».proof.Proof.Attn.RefWin
public import proofs.«01_k».proof.Proof.Attn.RefMask

@[expose] public section

set_option maxRecDepth 16384

noncomputable section

namespace Cert.ReferenceIdeal.Hand

open Cert.ReferenceIdeal Cert.ReferenceIdeal.Read Idealize.ShloMosaic Idealize.ShloMosaic.TcCoe Idealize.SL.Sem
open Cert.AttnRow

variable (x0 : (⟨S16384x4608, .bf16⟩ : BufTy).Contents (Elt Ideal))

theorem eighth32 : Ideal.ofBits .f32 0x3E000000#32 = ((1 / 8 : ℝ) : EReal) := by
  simp [Ideal.ofBits, Ideal.ieee, -EReal.coe_mul]
  norm_num
theorem bottom32 : Ideal.ofBits .f32 0xFF800000#32 = ⊥ := by
  simp [Ideal.ofBits, Ideal.ieee]

/-- The score of the query at row `r` of block `n` against the key at position `x` of its window. -/
theorem v58_at (b : Fin 2) (h : Fin 8) (n : Fin 64) (r : Fin 128) (x : Fin 256) :
    val_main_v58 (F := Ideal) x0 (ix5 b h n r x)
      = if (x.val ≤ 128 + r.val ∧ r.val ≤ x.val) ∧ 128 ≤ 128 * n.val + x.val
        then (∑ e : Fin 64, rQKV x0 b ⟨128 * n.val + r.val, by omega⟩ 0 h e * win x0 b n 1 h e x) * ((1 / 8 : ℝ) : EReal) else ⊥ := by
  have h1 := v12_at x0 b h n r
  have h2 := v18_at x0 b h n x
  have h3 := v57_at n r x
  unfold val_main_v58 val_main_v27 val_main_v25
  revert h1 h2 h3
  generalize val_main_v12 (F := Ideal) x0 = q
  generalize val_main_v18 (F := Ideal) x0 = k
  unfold val_main_call0_v1
  generalize val_main_v57 (F := Ideal) = M
  intro h1 h2 h3
  pointwise [val_main_call0_v2, val_main_call0_v0, val_main_cst_7, val_main_v26, val_main_cst_1]
  simp only [h1, h2]
  unfold Scalar.select
  by_cases hm : M (ix3 n r x) = 1#1
  · rw [if_pos (h3.mp hm)]
    simp [hm, eighth32]
  · rw [if_neg (fun hc => hm (h3.mpr hc))]
    simp [hm]
    exact bottom32

end Cert.ReferenceIdeal.Hand

end
-- ==== Proof.Attn.RefSoft.lean ====
module

public import proofs.«01_k».proof.Proof.Gen.ReferenceIdeal.Read
public import proofs.«01_k».proof.Proof.Attn.Row
public import Idealize.ShloMosaic.Lib.Pointwise

@[expose] public section

set_option maxRecDepth 16384

noncomputable section

namespace Cert.ReferenceIdeal.Hand

open Cert.ReferenceIdeal Cert.ReferenceIdeal.Read Idealize.ShloMosaic Idealize.ShloMosaic.TcCoe Idealize.SL.Sem
open Cert.AttnRow

variable (x0 : (⟨S16384x4608, .bf16⟩ : BufTy).Contents (Elt Ideal))

theorem minus_inf : Ideal.ofBits .f32 0xFF800000#32 = ⊥ := by
  simp [Ideal.ofBits, Ideal.ieee]

/-- The scores of a query against its window. -/
def sc (b : Fin 2) (h : Fin 8) (n : Fin 64) (r : Fin 128) : Fin 256 → EReal := fun x => val_main_v58 (F := Ideal) x0 (ix5 b h n r x)

theorem v59_at (b : Fin 2) (h : Fin 8) (n : Fin 64) (r : Fin 128) :
    val_main_v59 (F := Ideal) x0 (ix4 b h n r) = top (sc x0 b h n r) := by
  unfold sc val_main_v59
  generalize val_main_v58 (F := Ideal) x0 = y
  pointwise [val_main_cst_8]
  rw [minus_inf]
  rfl
theorem idx60 (b : Fin 2) (h : Fin 8) (n : Fin 64) (r : Fin 128) : idx_main_v60 (ix5 b h n r 0) = ix4 b h n r := by
  funext a
  match a with
  | ⟨0, _⟩ => rfl
  | ⟨1, _⟩ => rfl
  | ⟨2, _⟩ => rfl
  | ⟨3, _⟩ => rfl
theorem idx65 (b : Fin 2) (h : Fin 8) (n : Fin 64) (r : Fin 128) : idx_main_v65 (ix5 b h n r 0) = ix4 b h n r := by
  funext a
  match a with
  | ⟨0, _⟩ => rfl
  | ⟨1, _⟩ => rfl
  | ⟨2, _⟩ => rfl
  | ⟨3, _⟩ => rfl
theorem idx61 (b : Fin 2) (h : Fin 8) (n : Fin 64) (r : Fin 128) (x : Fin 256) : idx_main_v61 (ix5 b h n r x) = ix5 b h n r 0 := by
  funext a
  match a with
  | ⟨0, _⟩ => rfl
  | ⟨1, _⟩ => rfl
  | ⟨2, _⟩ => rfl
  | ⟨3, _⟩ => rfl
  | ⟨4, _⟩ => rfl
theorem idx66 (b : Fin 2) (h : Fin 8) (n : Fin 64) (r : Fin 128) (x : Fin 256) : idx_main_v66 (ix5 b h n r x) = ix5 b h n r 0 := by
  funext a
  match a with
  | ⟨0, _⟩ => rfl
  | ⟨1, _⟩ => rfl
  | ⟨2, _⟩ => rfl
  | ⟨3, _⟩ => rfl
  | ⟨4, _⟩ => rfl
theorem idx71 (b : Fin 2) (h : Fin 8) (n : Fin 64) (r : Fin 128) (x : Fin 64) : idx_main_v71 (ix5 b h n r x) = ix5 b h n r 0 := by
  funext a
  match a with
  | ⟨0, _⟩ => rfl
  | ⟨1, _⟩ => rfl
  | ⟨2, _⟩ => rfl
  | ⟨3, _⟩ => rfl
  | ⟨4, _⟩ => rfl
theorem idx64 (b : Fin 2) (h : Fin 8) (n : Fin 64) (r : Fin 128) (x : Fin 256) : idx_main_v64 (ix4 b h n r) x = ix5 b h n r x := by
  funext a
  match a with
  | ⟨0, _⟩ => rfl
  | ⟨1, _⟩ => rfl
  | ⟨2, _⟩ => rfl
  | ⟨3, _⟩ => rfl
  | ⟨4, _⟩ => rfl
theorem lidx68 (b : Fin 2) (h : Fin 8) (n : Fin 64) (r : Fin 128) (e : Fin 64) (x : Fin 256) : lidx_main_v68 (ix5 b h n r e) x = ix5 b h n r x := by
  funext a
  match a with
  | ⟨0, _⟩ => rfl
  | ⟨1, _⟩ => rfl
  | ⟨2, _⟩ => rfl
  | ⟨3, _⟩ => rfl
  | ⟨4, _⟩ => rfl
theorem ridx68 (b : Fin 2) (h : Fin 8) (n : Fin 64) (r : Fin 128) (e : Fin 64) (x : Fin 256) : ridx_main_v68 (ix5 b h n r e) x = ix5 b h n x e := by
  funext a
  match a with
  | ⟨0, _⟩ => rfl
  | ⟨1, _⟩ => rfl
  | ⟨2, _⟩ => rfl
  | ⟨3, _⟩ => rfl
  | ⟨4, _⟩ => rfl

theorem v60_at (b : Fin 2) (h : Fin 8) (n : Fin 64) (r : Fin 128) : val_main_v60 (F := Ideal) x0 (ix5 b h n r 0) = top (sc x0 b h n r) := by
  rw [val_main_v60_apply, idx60, v59_at]
theorem v63_at (b : Fin 2) (h : Fin 8) (n : Fin 64) (r : Fin 128) (x : Fin 256) :
    val_main_v63 (F := Ideal) x0 (ix5 b h n r x) = Ideal.exp (sc x0 b h n r x - top (sc x0 b h n r)) := by
  rw [val_main_v63_apply, val_main_v62_apply, val_main_v61_apply, idx61, v60_at]
  unfold sc
  rfl
theorem v65_at (b : Fin 2) (h : Fin 8) (n : Fin 64) (r : Fin 128) : val_main_v65 (F := Ideal) x0 (ix5 b h n r 0) = den (sc x0 b h n r) := by
  rw [val_main_v65_apply, idx65, val_main_v64_apply, val_main_cst_9_apply]
  simp only [idx64, v63_at]
  exact (congrArg (· + _) Ideal.ofBits_zero_f32).trans (zero_add _)
theorem v67_at (b : Fin 2) (h : Fin 8) (n : Fin 64) (r : Fin 128) (x : Fin 256) :
    val_main_v67 (F := Ideal) x0 (ix5 b h n r x) = Ideal.div (Ideal.exp (sc x0 b h n r x - top (sc x0 b h n r))) (den (sc x0 b h n r)) := by
  rw [val_main_v67_apply, val_main_v66_apply, idx66, v65_at, v63_at]
  generalize Ideal.exp (sc x0 b h n r x - top (sc x0 b h n r)) = p
  generalize den (sc x0 b h n r) = q
  rfl
/-- The attention's output, by head. -/
theorem v68_at (b : Fin 2) (h : Fin 8) (n : Fin 64) (r : Fin 128) (e : Fin 64) :
    val_main_v68 (F := Ideal) x0 (ix5 b h n r e) = out (sc x0 b h n r) (fun x => val_main_v24 (F := Ideal) x0 (ix5 b h n x e)) := by
  rw [val_main_v68_apply]
  simp only [lidx68, ridx68, v67_at]
  generalize sc x0 b h n r = s
  generalize val_main_v24 (F := Ideal) x0 = v
  rfl
/-- Its logarithm of the denominator, by head. -/
theorem v71_at (b : Fin 2) (h : Fin 8) (n : Fin 64) (r : Fin 128) (e : Fin 64) :
    val_main_v71 (F := Ideal) x0 (ix5 b h n r e) = lse (sc x0 b h n r) := by
  rw [val_main_v71_apply, idx71, val_main_v70_apply, val_main_v69_apply, v65_at, v60_at]
  generalize sc x0 b h n r = s
  rfl

end Cert.ReferenceIdeal.Hand

end
-- ==== Proof.Attn.RefOut.lean ====
module

public import proofs.«01_k».proof.Proof.Gen.ReferenceIdeal.Read
public import proofs.«01_k».proof.Proof.Attn.Row
public import Idealize.ShloMosaic.Lib.Pointwise
public import proofs.«01_k».proof.Proof.Attn.RefSoft

@[expose] public section

set_option maxRecDepth 16384

noncomputable section

namespace Cert.ReferenceIdeal.Hand

open Cert.ReferenceIdeal Cert.ReferenceIdeal.Read Idealize.ShloMosaic Idealize.ShloMosaic.TcCoe Idealize.SL.Sem
open Cert.AttnRow

variable (x0 : (⟨S16384x4608, .bf16⟩ : BufTy).Contents (Elt Ideal))

theorem idx74 (b : Fin 2) (s : Fin 8192) (h : Fin 8) (e : Fin 64) : idx_main_v74 (ix3 b s ⟨64 * h.val + e.val, by omega⟩) = ix4 b s h e := by
  funext a
  match a with
  | ⟨0, _⟩ => exact Fin.ext (by show ((b.val * 8192 + s.val) * 512 + (64 * h.val + e.val)) / 4194304 = b.val; omega)
  | ⟨1, _⟩ => exact Fin.ext (by show ((b.val * 8192 + s.val) * 512 + (64 * h.val + e.val)) / 512 % 8192 = s.val; omega)
  | ⟨2, _⟩ => exact Fin.ext (by show ((b.val * 8192 + s.val) * 512 + (64 * h.val + e.val)) / 64 % 8 = h.val; omega)
  | ⟨3, _⟩ => exact Fin.ext (by show ((b.val * 8192 + s.val) * 512 + (64 * h.val + e.val)) % 64 = e.val; omega)
theorem idx77 (b : Fin 2) (s : Fin 8192) (h : Fin 8) (e : Fin 64) : idx_main_v77 (ix3 b s ⟨64 * h.val + e.val, by omega⟩) = ix4 b s h e := by
  funext a
  match a with
  | ⟨0, _⟩ => exact Fin.ext (by show ((b.val * 8192 + s.val) * 512 + (64 * h.val + e.val)) / 4194304 = b.val; omega)
  | ⟨1, _⟩ => exact Fin.ext (by show ((b.val * 8192 + s.val) * 512 + (64 * h.val + e.val)) / 512 % 8192 = s.val; omega)
  | ⟨2, _⟩ => exact Fin.ext (by show ((b.val * 8192 + s.val) * 512 + (64 * h.val + e.val)) / 64 % 8 = h.val; omega)
  | ⟨3, _⟩ => exact Fin.ext (by show ((b.val * 8192 + s.val) * 512 + (64 * h.val + e.val)) % 64 = e.val; omega)
theorem idx73 (b : Fin 2) (s : Fin 8192) (h : Fin 8) (e : Fin 64) : idx_main_v73 (ix4 b s h e) = ix4 b h s e := by
  funext a
  match a with
  | ⟨0, _⟩ => rfl
  | ⟨1, _⟩ => rfl
  | ⟨2, _⟩ => rfl
  | ⟨3, _⟩ => rfl
theorem idx76 (b : Fin 2) (s : Fin 8192) (h : Fin 8) (e : Fin 64) : idx_main_v76 (ix4 b s h e) = ix4 b h s e := by
  funext a
  match a with
  | ⟨0, _⟩ => rfl
  | ⟨1, _⟩ => rfl
  | ⟨2, _⟩ => rfl
  | ⟨3, _⟩ => rfl
theorem idx72 (b : Fin 2) (h : Fin 8) (n : Fin 64) (r : Fin 128) (e : Fin 64) : idx_main_v72 (ix4 b h ⟨128 * n.val + r.val, by omega⟩ e) = ix5 b h n r e := by
  funext a
  match a with
  | ⟨0, _⟩ => exact Fin.ext (by show (((b.val * 8 + h.val) * 8192 + (128 * n.val + r.val)) * 64 + e.val) / 4194304 = b.val; omega)
  | ⟨1, _⟩ => exact Fin.ext (by show (((b.val * 8 + h.val) * 8192 + (128 * n.val + r.val)) * 64 + e.val) / 524288 % 8 = h.val; omega)
  | ⟨2, _⟩ => exact Fin.ext (by show (((b.val * 8 + h.val) * 8192 + (128 * n.val + r.val)) * 64 + e.val) / 8192 % 64 = n.val; omega)
  | ⟨3, _⟩ => exact Fin.ext (by show (((b.val * 8 + h.val) * 8192 + (128 * n.val + r.val)) * 64 + e.val) / 64 % 128 = r.val; omega)
  | ⟨4, _⟩ => exact Fin.ext (by show (((b.val * 8 + h.val) * 8192 + (128 * n.val + r.val)) * 64 + e.val) % 64 = e.val; omega)
theorem idx75 (b : Fin 2) (h : Fin 8) (n : Fin 64) (r : Fin 128) (e : Fin 64) : idx_main_v75 (ix4 b h ⟨128 * n.val + r.val, by omega⟩ e) = ix5 b h n r e := by
  funext a
  match a with
  | ⟨0, _⟩ => exact Fin.ext (by show (((b.val * 8 + h.val) * 8192 + (128 * n.val + r.val)) * 64 + e.val) / 4194304 = b.val; omega)
  | ⟨1, _⟩ => exact Fin.ext (by show (((b.val * 8 + h.val) * 8192 + (128 * n.val + r.val)) * 64 + e.val) / 524288 % 8 = h.val; omega)
  | ⟨2, _⟩ => exact Fin.ext (by show (((b.val * 8 + h.val) * 8192 + (128 * n.val + r.val)) * 64 + e.val) / 8192 % 64 = n.val; omega)
  | ⟨3, _⟩ => exact Fin.ext (by show (((b.val * 8 + h.val) * 8192 + (128 * n.val + r.val)) * 64 + e.val) / 64 % 128 = r.val; omega)
  | ⟨4, _⟩ => exact Fin.ext (by show (((b.val * 8 + h.val) * 8192 + (128 * n.val + r.val)) * 64 + e.val) % 64 = e.val; omega)
theorem v74_at (b : Fin 2) (n : Fin 64) (r : Fin 128) (h : Fin 8) (e : Fin 64) :
    val_main_v74 (F := Ideal) x0 (ix3 b ⟨128 * n.val + r.val, by omega⟩ ⟨64 * h.val + e.val, by omega⟩)
      = out (sc x0 b h n r) (fun x => val_main_v24 (F := Ideal) x0 (ix5 b h n x e)) := by
  rw [val_main_v74_apply, idx74, val_main_v73_apply, idx73, val_main_v72_apply, idx72]
  exact v68_at x0 b h n r e
theorem v77_at (b : Fin 2) (n : Fin 64) (r : Fin 128) (h : Fin 8) (e : Fin 64) :
    val_main_v77 (F := Ideal) x0 (ix3 b ⟨128 * n.val + r.val, by omega⟩ ⟨64 * h.val + e.val, by omega⟩)
      = lse (sc x0 b h n r) := by
  rw [val_main_v77_apply, idx77, val_main_v76_apply, idx76, val_main_v75_apply, idx75]
  exact v71_at x0 b h n r e

end Cert.ReferenceIdeal.Hand

end
-- ==== Proof.Attn.Eq.lean ====
module

public import proofs.«01_k».proof.Defs
public import proofs.«01_k».proof.Proof.Attn.Array
public import proofs.«01_k».proof.Proof.Attn.RefScore
public import proofs.«01_k».proof.Proof.Attn.RefOut
public import Idealize.ShloMosaic.Lib.Pointwise

@[expose] public section

set_option maxRecDepth 16384

noncomputable section

namespace Cert.AttnEq

open Idealize.ShloMosaic Idealize.ShloMosaic.TcCoe Idealize.SL.Sem Cert.AttnRow
open Cert.KernelIdeal.Hand Cert.ReferenceIdeal.Hand

/-- The precondition says that every entry of the joint projection is a number. -/
theorem real_of_finite [Cert.Pre_finite.Facts] (x0 : FVec Ideal Cert.Pre_finite.S16384x4608 .bf16)
    (h : Cert.Pre_finite.fn (F := Ideal) x0 = fun _ => 1#1) (i : Cert.Pre_finite.S16384x4608.Idx) : ∃ r : ℝ, x0 i = r := by
  have e := congrFun h i
  revert e
  unfold Cert.Pre_finite.fn
  pointwise
  intro e
  rw [show Ideal.ofBits .f32 0x7F800000#32 = ⊤ by simp [Ideal.ofBits, Ideal.ieee]] at e
  generalize x0 i = x at e ⊢
  induction x using EReal.rec with
  | bot => exact absurd e (by simp [Ideal.absf_def])
  | coe r => exact ⟨r, rfl⟩
  | top => exact absurd e (by simp [Ideal.absf_def])

variable (m : (ℓ : Loc KernelIdeal.nD KernelIdeal.τ KernelIdeal.sig) → Buf (Elt Ideal) ℓ) (c : Dev KernelIdeal.nD)

/-- The joint projection, as the reference takes it. -/
abbrev arg : (⟨ReferenceIdeal.S16384x4608, .bf16⟩ : BufTy).Contents (Elt Ideal) := m ((c.tc : Thread KernelIdeal.nD KernelIdeal.τ).loc KernelIdeal.main_arg0)

/-- Lane `64·h + e`. -/
def hl (h : Fin 8) (e : Fin 64) : Fin 512 := ⟨64 * h.val + e.val, by omega⟩

theorem lane_hl (h : Fin 8) (e e' : Fin 64) : lane (hl h e) e' = hl h e' :=
  Fin.ext (by show 64 * ((64 * h.val + e.val) / 64) + e'.val = 64 * h.val + e'.val; omega)

theorem QKV_eq (b : Fin 2) (n : Fin 64) (r : Fin 128) (o : Fin 3) (h : Fin 8) (e : Fin 64) :
    QKV m c b (row n r) (col o (hl h e)) = rQKV (arg m c) b ⟨128 * n.val + r.val, by omega⟩ o h e := rfl

/-- The block before and the block itself are the window's two halves. -/
theorem prv_eq (b : Fin 2) (n : Fin 64) (o : Fin 3) (j : Fin 128) (h : Fin 8) (e : Fin 64) :
    prv m c b n o j (hl h e) = win (arg m c) b n o h e ⟨j.val, by omega⟩ := by
  have hj := j.isLt
  unfold prv win Cert.ReferenceIdeal.Hand.pad
  by_cases hn : 0 < n.val
  · rw [dif_pos hn, dif_neg (by dsimp only; omega), QKV_eq]
    exact rQKV_congr _ _ _ _ _ (by dsimp only; omega)
  · rw [dif_neg hn, dif_pos (by dsimp only; omega)]
theorem cur_eq (b : Fin 2) (n : Fin 64) (o : Fin 3) (j : Fin 128) (h : Fin 8) (e : Fin 64) :
    QKV m c b (row n j) (col o (hl h e)) = win (arg m c) b n o h e ⟨128 + j.val, by omega⟩ := by
  have hj := j.isLt
  unfold win Cert.ReferenceIdeal.Hand.pad
  rw [dif_neg (by dsimp only; omega), QKV_eq]
  exact rQKV_congr _ _ _ _ _ (by dsimp only; omega)

theorem biasP_eq (n r : ℕ) (j : Fin 128) : biasP n r j = if r ≤ j.val ∧ 0 < n then (0 : EReal) else ⊥ := by
  unfold biasP
  by_cases h1 : r ≤ j.val <;> by_cases h2 : 0 < n <;> simp [h1, h2]
theorem biasC_eq (r : ℕ) (j : Fin 128) : biasC r j = if j.val ≤ r then (0 : EReal) else ⊥ := rfl

theorem cover (i : KernelIdeal.S2x8192x512.Idx) : ∃ (b : Fin 2) (n : Fin 64) (r : Fin 128) (h : Fin 8) (e : Fin 64), i = ix3 b (row n r) (hl h e) := by
  obtain ⟨b, s, l, rfl⟩ : ∃ b s l, i = ix3 b s l := ⟨i 0, i 1, i 2, eq_ix3 i⟩
  refine ⟨b, ⟨s.val / 128, by omega⟩, ⟨s.val % 128, by omega⟩, ⟨l.val / 64, by omega⟩, ⟨l.val % 64, by omega⟩, ?_⟩
  have hs : s = row ⟨s.val / 128, by omega⟩ ⟨s.val % 128, by omega⟩ := Fin.ext (by show s.val = 128 * (s.val / 128) + s.val % 128; omega)
  have hl' : l = hl ⟨l.val / 64, by omega⟩ ⟨l.val % 64, by omega⟩ := Fin.ext (by show l.val = 64 * (l.val / 64) + l.val % 64; omega)
  rw [← hs, ← hl']

section
variable (hr : ∀ i, ∃ r : ℝ, arg m c i = r)
include hr

theorem real_qkv (b : Fin 2) (s : Fin 8192) (o : Fin 3) (h : Fin 8) (e : Fin 64) : ∃ r : ℝ, rQKV (arg m c) b s o h e = r := hr _
theorem real_win (b : Fin 2) (n : Fin 64) (o : Fin 3) (h : Fin 8) (e : Fin 64) (x : Fin 256) : ∃ r : ℝ, win (arg m c) b n o h e x = r := by
  unfold win Cert.ReferenceIdeal.Hand.pad
  split
  · exact ⟨0, EReal.coe_zero.symm⟩
  · exact hr _

/-- The kernel's two rows of scores are the two halves of the reference's row. -/
theorem scoreP_eq (b : Fin 2) (n : Fin 64) (r : Fin 128) (h : Fin 8) (e : Fin 64) :
    scoreP m c b n r (hl h e) = lo (sc (arg m c) b h n r) := by
  funext j
  have hj := j.isLt
  have hrl := r.isLt
  unfold scoreP lo sc
  simp only [lane_hl]
  rw [v58_at, biasP_eq]
  simp only [prv_eq, QKV_eq]
  rw [score_eq _ _ (fun l => real_qkv m c hr _ _ _ _ _) (fun l => real_win m c hr _ _ _ _ _ _)]
  refine if_congr ?_ rfl rfl
  omega
theorem scoreC_eq (b : Fin 2) (n : Fin 64) (r : Fin 128) (h : Fin 8) (e : Fin 64) :
    scoreC m c b n r (hl h e) = hi (sc (arg m c) b h n r) := by
  funext j
  have hj := j.isLt
  have hrl := r.isLt
  unfold scoreC hi sc
  simp only [lane_hl]
  rw [v58_at, biasC_eq]
  simp only [cur_eq m c b n 1, QKV_eq]
  rw [score_eq _ _ (fun l => real_qkv m c hr _ _ _ _ _) (fun l => real_win m c hr _ _ _ _ _ _)]
  refine if_congr ?_ rfl rfl
  omega

theorem sc_ne_top (b : Fin 2) (n : Fin 64) (r : Fin 128) (h : Fin 8) (x : Fin 256) : sc (arg m c) b h n r x ≠ ⊤ := by
  unfold sc
  rw [v58_at]
  split
  · obtain ⟨y, hy⟩ := score_real _ _ (fun l => real_qkv m c hr b ⟨128 * n.val + r.val, by omega⟩ 0 h l) (fun l => real_win m c hr b n 1 h l x) (1 / 8)
    rw [hy]
    exact EReal.coe_ne_top y
  · exact bot_ne_top
theorem sc_diag (b : Fin 2) (n : Fin 64) (r : Fin 128) (h : Fin 8) : sc (arg m c) b h n r ⟨128 + r.val, by omega⟩ ≠ ⊥ := by
  unfold sc
  rw [v58_at, if_pos (by dsimp only; omega)]
  obtain ⟨y, hy⟩ := score_real _ _ (fun l => real_qkv m c hr b ⟨128 * n.val + r.val, by omega⟩ 0 h l) (fun l => real_win m c hr b n 1 h l ⟨128 + r.val, by omega⟩) (1 / 8)
  rw [hy]
  exact EReal.coe_ne_bot y

theorem o_eq (b : Fin 2) (n : Fin 64) (r : Fin 128) (h : Fin 8) (e : Fin 64) :
    ReferenceIdeal.Read.val_main_v74 (F := Ideal) (arg m c) (ix3 b (row n r) (hl h e)) = oAt m c b n r (hl h e) := by
  refine (v74_at (arg m c) b n r h e).trans ?_
  unfold oAt
  rw [scoreP_eq m c hr, scoreC_eq m c hr]
  have e1 : (fun j => prv m c b n 2 j (hl h e)) = lo (win (arg m c) b n 2 h e) := funext fun j => prv_eq m c b n 2 j h e
  have e2 : (fun j => QKV m c b (row n j) (col 2 (hl h e))) = hi (win (arg m c) b n 2 h e) := funext fun j => cur_eq m c b n 2 j h e
  rw [e1, e2, out_lo_hi _ _ (sc_ne_top m c hr b n r h) _ (sc_diag m c hr b n r h) (real_win m c hr b n 2 h e)]
  exact congrArg (out _) (funext fun x => v24_at (arg m c) b h n x e)
theorem l_eq (b : Fin 2) (n : Fin 64) (r : Fin 128) (h : Fin 8) (e : Fin 64) :
    ReferenceIdeal.Read.val_main_v77 (F := Ideal) (arg m c) (ix3 b (row n r) (hl h e)) = lAt m c b n r (hl h e) := by
  refine (v77_at (arg m c) b n r h e).trans ?_
  unfold lAt
  rw [scoreP_eq m c hr, scoreC_eq m c hr, lse_lo_hi]

/-- The two arrays the call returns are the reference's. -/
theorem G3_ref : ReferenceIdeal.Read.val_main_v74 (F := Ideal) (arg m c) = KernelIdeal.Value.G3 m c := by
  funext i
  obtain ⟨b, n, r, h, e, rfl⟩ := cover i
  exact (o_eq m c hr b n r h e).trans (G3_eq m c b n r (hl h e)).symm
theorem G4_ref : ReferenceIdeal.Read.val_main_v77 (F := Ideal) (arg m c) = KernelIdeal.Value.G4 m c := by
  funext i
  obtain ⟨b, n, r, h, e, rfl⟩ := cover i
  exact (l_eq m c hr b n r h e).trans (G4_eq m c b n r (hl h e)).symm
end

/-- The attention call and its reference, read over the extended reals, run, agree and keep their argument, where every
    entry of the joint projection is a number. -/
theorem algebraic [Cert.KernelIdeal.Facts] [Cert.ReferenceIdeal.Facts] [Cert.Pre_finite.Facts] : Cert.algebraic_KernelIdeal_ReferenceIdeal_pre_finite := by
  intro m g m' g' hpre hagree
  refine ⟨fun c => KernelIdeal.Value.G3 m c, fun c => KernelIdeal.Value.G4 m c, KernelIdeal.Value.run m g, ?_⟩
  refine (θ_run _ _ _).mono (fun r h c => ?_) (ReferenceIdeal.Value.run m' g')
  have hr : ∀ i, ∃ r : ℝ, arg m c i = r := fun i => real_of_finite _ (hpre c) i
  refine ⟨(h c).1.trans ?_, (h c).2.1.trans ?_, (h c).2.2⟩
  · rw [ReferenceIdeal.Read.val_main_v74_eq, hagree c]
    exact G3_ref m c hr
  · rw [ReferenceIdeal.Read.val_main_v77_eq, hagree c]
    exact G4_ref m c hr

end Cert.AttnEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Ffn0
public import proofs.«01_k».proof.Proof.Gen.Ffn0.Skeleton
public import proofs.«01_k».proof.Proof.Gen.Ffn0.Launch
public import proofs.«01_k».proof.Proof.Gen.Ffn0.Points
public import proofs.«01_k».proof.Proof.Gen.Ffn0.Frame
public import proofs.«01_k».proof.Proof.Gen.Ffn0Ideal
public import proofs.«01_k».proof.Proof.Gen.Ffn0Ideal.Skeleton
public import proofs.«01_k».proof.Proof.Gen.Ffn0Ideal.Launch
public import proofs.«01_k».proof.Proof.Gen.Ffn0Ideal.Points
public import proofs.«01_k».proof.Proof.Gen.Ffn0Ideal.Frame
public import proofs.«01_k».proof.Proof.Gen.Ffn0Ideal.Value
public import proofs.«01_k».proof.Proof.Gen.Ffn0RefIdeal
public import proofs.«01_k».proof.Proof.Gen.Ffn0RefIdeal.Run
public import proofs.«01_k».proof.Proof.Gen.Ffn0RefIdeal.Read
public import proofs.«01_k».proof.Proof.Gen.SsmOut
public import proofs.«01_k».proof.Proof.Gen.SsmOut.Skeleton
public import proofs.«01_k».proof.Proof.Gen.SsmOut.Launch
public import proofs.«01_k».proof.Proof.Gen.SsmOut.Points
public import proofs.«01_k».proof.Proof.Gen.SsmOut.Frame
public import proofs.«01_k».proof.Proof.Gen.SsmOutIdeal
public import proofs.«01_k».proof.Proof.Gen.SsmOutIdeal.Skeleton
public import proofs.«01_k».proof.Proof.Gen.SsmOutIdeal.Launch
public import proofs.«01_k».proof.Proof.Gen.SsmOutIdeal.Points
public import proofs.«01_k».proof.Proof.Gen.SsmOutIdeal.Frame
public import proofs.«01_k».proof.Proof.Gen.SsmOutIdeal.Value
public import proofs.«01_k».proof.Proof.Gen.SsmOutRefIdeal
public import proofs.«01_k».proof.Proof.Gen.SsmOutRefIdeal.Run
public import proofs.«01_k».proof.Proof.Gen.SsmOutRefIdeal.Read
public import proofs.«01_k».proof.Proof.Gen.SsmIn
public import proofs.«01_k».proof.Proof.Gen.SsmInIdeal
public import proofs.«01_k».proof.Proof.Gen.SsmInIdeal.Skeleton
public import proofs.«01_k».proof.Proof.Gen.SsmInIdeal.Launch
public import proofs.«01_k».proof.Proof.Gen.SsmInIdeal.Points
public import proofs.«01_k».proof.Proof.Gen.SsmInIdeal.Loops
public import proofs.«01_k».proof.Proof.Gen.SsmInIdeal.Frame
public import proofs.«01_k».proof.Proof.Gen.SsmInRefIdeal
public import proofs.«01_k».proof.Proof.Gen.SsmInRefIdeal.Run
public import proofs.«01_k».proof.Proof.Gen.SsmInRefIdeal.Read
public import proofs.«01_k».proof.Proof.Gen.EvenIn
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Loops
public import proofs.«01_k».proof.Proof.Gen.EvenInIdeal.Frame
public import proofs.«01_k».proof.Proof.Gen.EvenInRefIdeal
public import proofs.«01_k».proof.Proof.Gen.EvenInRefIdeal.Run
public import proofs.«01_k».proof.Proof.Gen.EvenInRefIdeal.Read
public import proofs.«01_k».proof.Proof.Ffn.Eq
public import proofs.«01_k».proof.Proof.Ffn0.Eq
public import proofs.«01_k».proof.Proof.SsmIn.Bits
public import proofs.«01_k».proof.Proof.SsmIn.Eq
public import proofs.«01_k».proof.Proof.EvenIn.Bits
public import proofs.«01_k».proof.Proof.EvenIn.Eq
public import proofs.«01_k».proof.Proof.SsmOut.Eq
public import proofs.«01_k».proof.Proof.Attn.Eq

@[expose] public section

noncomputable section

namespace Cert.Proof

open Idealize.ShloMosaic Idealize.SL.Sem

/-- The side conditions of the precondition's own operations. -/
theorem facts_finite : Cert.Pre_finite.Facts := ⟨by decide, by decide⟩

/-- The references run to their ends and keep their arguments: their runs, weakened; they declare no semaphores. -/
theorem frame_ReferenceIdeal : quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run m ρ)
theorem frame_FfnRefIdeal : quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run m ρ)
theorem frame_Ffn0RefIdeal : quiescent_Ffn0RefIdeal (hFfn0RefIdeal := Cert.Ffn0RefIdeal.Gen.facts) := fun m ρ _ =>
  (θ_run Cert.Ffn0RefIdeal.defs _ _).mono (fun r h => ⟨fun c => (h c).2, sem_eq_zero_of_no_sems (by decide) r.2⟩)
    (Cert.Ffn0RefIdeal.Value.run m ρ)
theorem frame_SsmInRefIdeal : quiescent_SsmInRefIdeal (hSsmInRefIdeal := Cert.SsmInRefIdeal.Gen.facts) := fun m ρ _ =>
  (θ_run Cert.SsmInRefIdeal.defs _ _).mono (fun r h => ⟨fun c => (h c).2.2, sem_eq_zero_of_no_sems (by decide) r.2⟩)
    (Cert.SsmInRefIdeal.Value.run m ρ)
theorem frame_EvenInRefIdeal : quiescent_EvenInRefIdeal (hEvenInRefIdeal := Cert.EvenInRefIdeal.Gen.facts) := fun m ρ _ =>
  (θ_run Cert.EvenInRefIdeal.defs _ _).mono (fun r h => ⟨fun c => (h c).2.2, sem_eq_zero_of_no_sems (by decide) r.2⟩)
    (Cert.EvenInRefIdeal.Value.run m ρ)
theorem frame_SsmOutRefIdeal : quiescent_SsmOutRefIdeal (hSsmOutRefIdeal := Cert.SsmOutRefIdeal.Gen.facts) := fun m ρ _ =>
  (θ_run Cert.SsmOutRefIdeal.defs _ _).mono (fun r h => ⟨fun c => (h c).2, sem_eq_zero_of_no_sems (by decide) r.2⟩)
    (Cert.SsmOutRefIdeal.Value.run m ρ)

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Ffn0.Gen.facts, Cert.Ffn0Ideal.Gen.facts, Cert.Ffn0RefIdeal.Gen.facts,
  Cert.SsmIn.Gen.facts, Cert.SsmInIdeal.Gen.facts, Cert.SsmInRefIdeal.Gen.facts,
  Cert.EvenIn.Gen.facts, Cert.EvenInIdeal.Gen.facts, Cert.EvenInRefIdeal.Gen.facts,
  Cert.SsmOut.Gen.facts, Cert.SsmOutIdeal.Gen.facts, Cert.SsmOutRefIdeal.Gen.facts, facts_finite,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Ffn.Gen.frame m ρ,
  fun m ρ _ => Cert.FfnIdeal.Gen.frame m ρ,
  frame_FfnRefIdeal,
  fun m ρ _ => Cert.Ffn0.Gen.frame m ρ,
  fun m ρ _ => Cert.Ffn0Ideal.Gen.frame m ρ,
  frame_Ffn0RefIdeal,
  Cert.SsmInBits.frame,
  fun m ρ _ => Cert.SsmInIdeal.Hand.frame m ρ,
  frame_SsmInRefIdeal,
  Cert.EvenInBits.frame,
  fun m ρ _ => Cert.EvenInIdeal.Hand.frame m ρ,
  frame_EvenInRefIdeal,
  fun m ρ _ => Cert.SsmOut.Gen.frame m ρ,
  fun m ρ _ => Cert.SsmOutIdeal.Gen.frame m ρ,
  frame_SsmOutRefIdeal,
  IdealRules.named_const.statement Cert.KernelIdeal.κ "mask" .f32 0xF149F2CA#32 ⊥ rfl,
  @Cert.AttnEq.algebraic Cert.KernelIdeal.Gen.facts Cert.ReferenceIdeal.Gen.facts facts_finite,
  trivial,
  @Cert.FfnEq.algebraic Cert.FfnIdeal.Gen.facts Cert.FfnRefIdeal.Gen.facts,
  trivial,
  @Cert.Ffn0Eq.algebraic Cert.Ffn0Ideal.Gen.facts Cert.Ffn0RefIdeal.Gen.facts,
  trivial,
  @Cert.SsmInEq.algebraic Cert.SsmInIdeal.Gen.facts Cert.SsmInRefIdeal.Gen.facts,
  trivial,
  @Cert.EvenInEq.algebraic Cert.EvenInIdeal.Gen.facts Cert.EvenInRefIdeal.Gen.facts,
  trivial,
  @Cert.SsmOutEq.algebraic Cert.SsmOutIdeal.Gen.facts Cert.SsmOutRefIdeal.Gen.facts⟩

end Cert.Proof

end
